-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v129) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v32) = v0 c
          ∧ r.2.mem ((c.tc : Thread Cert.Reference10Ideal.nD Cert.Reference10Ideal.τ).loc Cert.Reference10Ideal.main_v33) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S32 : Shape := ⟨1, ![32]⟩
abbrev S155648x1024 : Shape := ⟨2, ![155648, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S304 : Shape := ⟨1, ![304]⟩
abbrev S1x32 : Shape := ⟨2, ![1, 32]⟩
abbrev S304x1 : Shape := ⟨2, ![304, 1]⟩
abbrev S304x32 : Shape := ⟨2, ![304, 32]⟩
abbrev S1 : Shape := ⟨1, ![1]⟩
abbrev S303 : Shape := ⟨1, ![303]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x1024 : Shape := ⟨2, ![1, 1024]⟩

abbrev nBuf : Space → Nat
  | .hbm => 78
  | .vmem => 14
  | .smem => 3
  | _ => 0

abbrev bufTy : (tb : Table) → Fin (tcTables nBuf tb) → BufTy
  | .hbm, ⟨0, _⟩ => ⟨S32, .i32⟩
  | .hbm, ⟨1, _⟩ => ⟨S155648x1024, .bf16⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S304, .i32⟩
  | .hbm, ⟨38, _⟩ => ⟨S_, .i32⟩
  | .hbm, ⟨39, _⟩ => ⟨S304, .i32⟩
  | .hbm, ⟨40, _⟩ => ⟨S304, .i32⟩
  | .hbm, ⟨41, _⟩ => ⟨S1x32, .i32⟩
  | .hbm, ⟨42, _⟩ => ⟨S304x1, .i32⟩
  | .hbm, ⟨43, _⟩ => ⟨S304x32, .i32⟩
  | .hbm, ⟨44, _⟩ => ⟨S304x32, .i32⟩
  | .hbm, ⟨45, _⟩ => ⟨S304x32, .i1⟩
  | .hbm, ⟨46, _⟩ => ⟨S304x32, .i32⟩
  | .hbm, ⟨47, _⟩ => ⟨S_, .i32⟩
  | .hbm, ⟨48, _⟩ => ⟨S304, .i32⟩
  | .hbm, ⟨49, _⟩ => ⟨S_, .i32⟩
  | .hbm, ⟨50, _⟩ => ⟨S304, .i32⟩
  | .hbm, ⟨51, _⟩ => ⟨S_, .i32⟩
  | .hbm, ⟨52, _⟩ => ⟨S1, .i32⟩
  | .hbm, ⟨53, _⟩ => ⟨S303, .i32⟩
  | .hbm, ⟨54, _⟩ => ⟨S303, .i32⟩
  | .hbm, ⟨55, _⟩ => ⟨S303, .i1⟩
  | .hbm, ⟨56, _⟩ => ⟨S303, .i32⟩
  | .hbm, ⟨57, _⟩ => ⟨S1, .i32⟩
  | .hbm, ⟨58, _⟩ => ⟨S_, .i32⟩
  | .hbm, ⟨59, _⟩ => ⟨S_, .i32⟩
  | .hbm, ⟨60, _⟩ => ⟨S1, .i32⟩
  | .hbm, ⟨61, _⟩ => ⟨S1, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S1, .i1⟩
  | .hbm, ⟨66, _⟩ => ⟨S1, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i1⟩
  | .hbm, ⟨71, _⟩ => ⟨S1, .i1⟩
  | .hbm, ⟨72, _⟩ => ⟨S_, .i32⟩
  | .hbm, ⟨73, _⟩ => ⟨S1, .i32⟩
  | .hbm, ⟨74, _⟩ => ⟨S1, .i32⟩
  | .hbm, ⟨75, _⟩ => ⟨S32x1x2048, .f32⟩
  | .hbm, ⟨76, _⟩ => ⟨S32x1x1024, .f32⟩
  | .hbm, ⟨77, _⟩ => ⟨S155648x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S304, .i32⟩
  | .local _ .smem, ⟨1, _⟩ => ⟨S304, .i32⟩
  | .local _ .smem, ⟨2, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_c_6 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v27 : Ref sig .tc := ⟨.hbm, 57, rfl⟩
abbrev main_c_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_c : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v20 : Ref sig .tc := ⟨.smem, 0, rfl⟩
abbrev main_v26 : Ref sig .tc := ⟨.smem, 1, rfl⟩
abbrev main_v28 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![304], ![false]⟩

abbrev pre0 : Pipeline.Prefetch sig := ⟨3, ![main_v20.idx, main_v26.idx, main_v28.idx], fun | 0 => main_v20.names | 1 => main_v26.names | 2 => main_v28.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v5 : BitVec 32) : BitVec 1 :=
  let arg0 : BitVec 32 := BitVec.ofNat 32 (i 0).val
  let v6 : BitVec 1 := Scalar.cmpi .slt arg0 v5
  let v7 : BitVec 32 := Scalar.extui v6
  let c0_i32_0 : BitVec 32 := 0#32
  let v8 : BitVec 1 := Scalar.cmpi .ne v7 c0_i32_0
  v8

def k0_cond3 (i : grid0.Coords) (v9 : BitVec 32) : BitVec 1 :=
  let arg0 : BitVec 32 := BitVec.ofNat 32 (i 0).val
  let v10 : BitVec 1 := Scalar.cmpi .sge arg0 v9
  let v11 : BitVec 32 := Scalar.extui v10
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32 : Shape := ⟨1, ![32]⟩
abbrev S155648x1024 : Shape := ⟨2, ![155648, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1216 : Shape := ⟨1, ![1216]⟩
abbrev S1x32 : Shape := ⟨2, ![1, 32]⟩
abbrev S1216x1 : Shape := ⟨2, ![1216, 1]⟩
abbrev S1216x32 : Shape := ⟨2, ![1216, 32]⟩
abbrev S1216x128x1024 : Shape := ⟨3, ![1216, 128, 1024]⟩
abbrev S1216x1024x2048 : Shape := ⟨3, ![1216, 1024, 2048]⟩
abbrev S1216x2048 : Shape := ⟨2, ![1216, 2048]⟩
abbrev S1216x1024x1024 : Shape := ⟨3, ![1216, 1024, 1024]⟩
abbrev S1216x1024 : Shape := ⟨2, ![1216, 1024]⟩
abbrev S1216x128x2048 : Shape := ⟨3, ![1216, 128, 2048]⟩
abbrev S1216x1x2048 : Shape := ⟨3, ![1216, 1, 2048]⟩
abbrev S1216x1x1024 : Shape := ⟨3, ![1216, 1, 1024]⟩
abbrev S155648 : Shape := ⟨1, ![155648]⟩
abbrev S1 : Shape := ⟨1, ![1]⟩
abbrev S155648x1 : Shape := ⟨2, ![155648, 1]⟩

abbrev nBuf : Space → Nat
  | .hbm => 139
  | .vmem => 0
  | .smem => 0
  | _ => 0

abbrev hbmTy0_0 (i : Nat) : BufTy := match i % 128 with
  | 0 => ⟨S32, .i32⟩
  | 1 => ⟨S155648x1024, .bf16⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S1216, .i32⟩
  | 37 => ⟨S_, .i32⟩
  | 38 => ⟨S1216, .i32⟩
  | 39 => ⟨S1216, .i32⟩
  | 40 => ⟨S1x32, .i32⟩
  | 41 => ⟨S1216x1, .i32⟩
  | 42 => ⟨S1216x32, .i32⟩
  | 43 => ⟨S1216x32, .i32⟩
  | 44 => ⟨S1216x32, .i1⟩
  | 45 => ⟨S1216x32, .i32⟩
  | 46 => ⟨S_, .i32⟩
  | 47 => ⟨S1216, .i32⟩
  | 48 => ⟨S_, .i32⟩
  | 49 => ⟨S1216, .i32⟩
  | 50 => ⟨S1216, .i32⟩
  | 51 => ⟨S155648x1024, .f32⟩
  | 52 => ⟨S1216x128x1024, .f32⟩
  | 53 => ⟨S_, .i32⟩
  | 54 => ⟨S1216, .i32⟩
  | 55 => ⟨S1216, .i1⟩
  | 56 => ⟨S_, .i32⟩
  | 57 => ⟨S1216, .i32⟩
  | 58 => ⟨S1216, .i32⟩
  | 59 => ⟨S1216, .i32⟩
  | 60 => ⟨S1216x1, .i32⟩
  | 61 => ⟨S1216x1024x2048, .f32⟩
  | 62 => ⟨S_, .i32⟩
  | 63 => ⟨S1216, .i32⟩
  | 64 => ⟨S1216, .i1⟩
  | 65 => ⟨S_, .i32⟩
  | 66 => ⟨S1216, .i32⟩
  | 67 => ⟨S1216, .i32⟩
  | 68 => ⟨S1216, .i32⟩
  | 69 => ⟨S1216x1, .i32⟩
  | 70 => ⟨S1216x2048, .f32⟩
  | 71 => ⟨S_, .i32⟩
  | 72 => ⟨S1216, .i32⟩
  | 73 => ⟨S1216, .i1⟩
  | 74 => ⟨S_, .i32⟩
  | 75 => ⟨S1216, .i32⟩
  | 76 => ⟨S1216, .i32⟩
  | 77 => ⟨S1216, .i32⟩
  | 78 => ⟨S1216x1, .i32⟩
  | 79 => ⟨S1216x1024x1024, .f32⟩
  | 80 => ⟨S_, .i32⟩
  | 81 => ⟨S1216, .i32⟩
  | 82 => ⟨S1216, .i1⟩
  | 83 => ⟨S_, .i32⟩
  | 84 => ⟨S1216, .i32⟩
  | 85 => ⟨S1216, .i32⟩
  | 86 => ⟨S1216, .i32⟩
  | 87 => ⟨S1216x1, .i32⟩
  | 88 => ⟨S1216x1024, .f32⟩
  | 89 => ⟨S1216x128x2048, .f32⟩
  | 90 => ⟨S1216x1x2048, .f32⟩
  | 91 => ⟨S1216x128x2048, .f32⟩
  | 92 => ⟨S1216x128x2048, .f32⟩
  | 93 => ⟨S1216x128x1024, .f32⟩
  | 94 => ⟨S_, .f32⟩
  | 95 => ⟨S1216x128x1024, .f32⟩
  | 96 => ⟨S1216x128x1024, .f32⟩
  | 97 => ⟨S1216x128x1024, .f32⟩
  | 98 => ⟨S_, .f32⟩
  | 99 => ⟨S_, .f32⟩
  | 100 => ⟨S_, .f32⟩
  | 101 => ⟨S1216x128x1024, .f32⟩
  | 102 => ⟨S1216x128x1024, .f32⟩
  | 103 => ⟨S_, .f32⟩
  | 104 => ⟨S1216x128x1024, .f32⟩
  | 105 => ⟨S1216x128x1024, .f32⟩
  | 106 => ⟨S_, .f32⟩
  | 107 => ⟨S1216x128x1024, .f32⟩
  | 108 => ⟨S1216x128x1024, .f32⟩
  | 109 => ⟨S1216x128x1024, .f32⟩
  | 110 => ⟨S1216x128x1024, .f32⟩
  | 111 => ⟨S_, .f32⟩
  | 112 => ⟨S1216x128x1024, .f32⟩
  | 113 => ⟨S1216x128x1024, .f32⟩
  | 114 => ⟨S_, .f32⟩
  | 115 => ⟨S1216x128x1024, .f32⟩
  | 116 => ⟨S1216x128x1024, .f32⟩
  | 117 => ⟨S1216x128x1024, .f32⟩
  | 118 => ⟨S_, .f32⟩
  | 119 => ⟨S1216x128x1024, .f32⟩
  | 120 => ⟨S1216x128x1024, .f32⟩
  | 121 => ⟨S1216x128x1024, .f32⟩
  | 122 => ⟨S1216x128x1024, .f32⟩
  | 123 => ⟨S1216x1x1024, .f32⟩
  | 124 => ⟨S1216x128x1024, .f32⟩
  | 125 => ⟨S1216x128x1024, .f32⟩
  | 126 => ⟨S155648x1024, .f32⟩
  | 127 => ⟨S155648, .i32⟩
  | _ => ⟨S32, .i32⟩

abbrev hbmTy0_1 (i : Nat) : BufTy := match i % 128 with
  | 0 => ⟨S1, .i32⟩
  | 1 => ⟨S_, .i32⟩
  | 2 => ⟨S155648, .i32⟩
  | 3 => ⟨S155648, .i1⟩
  | 4 => ⟨S155648x1, .i1⟩
  | 5 => ⟨S_, .f32⟩
  | 6 => ⟨S_, .f32⟩
  | 7 => ⟨S155648x1024, .i1⟩
  | 8 => ⟨S155648x1024, .f32⟩
  | 9 => ⟨S155648x1024, .f32⟩
  | 10 => ⟨S155648x1024, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_c_7 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_8 : Ref sig .tc := ⟨.hbm, 62, rfl⟩
abbrev main_v29 : Ref sig .tc := ⟨.hbm, 63, rfl⟩
abbrev main_v30 : Ref sig .tc := ⟨.hbm, 64, rfl⟩
abbrev main_c_9 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_10 : Ref sig .tc := ⟨.hbm, 71, rfl⟩
abbrev main_v36 : Ref sig .tc := ⟨.hbm, 72, rfl⟩
abbrev main_v37 : Ref sig .tc := ⟨.hbm, 73, rfl⟩
abbrev main_c_11 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c_12 : Ref sig .tc := ⟨.hbm, 80, rfl⟩
abbrev main_v43 : Ref sig .tc := ⟨.hbm, 81, rfl⟩
abbrev main_v44 : Ref sig .tc := ⟨.hbm, 82, rfl⟩
abbrev main_c_13 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_14 : Ref sig .tc := ⟨.hbm, 98, rfl⟩
abbrev main_cst_15 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v58 : Ref sig .tc := ⟨.hbm, 105, rfl⟩
abbrev main_cst_16 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_17 : Ref sig .tc := ⟨.hbm, 111, rfl⟩
abbrev main_v63 : Ref sig .tc := ⟨.hbm, 112, rfl⟩
abbrev main_v64 : Ref sig .tc := ⟨.hbm, 113, rfl⟩
abbrev main_cst_18 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_19 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_20 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_v82 : Ref sig .tc := ⟨.hbm, 137, rfl⟩
abbrev main_v83 : Ref sig .tc := ⟨.hbm, 138, rfl⟩

abbrev nD : Nat := 1
abbrev τ : Topo := Topo.v7x

variable {F : FTy → Type} [FloatOps F]
-- ==== Kernel2.lean ====
abbrev S34816x1024 : Shape := ⟨2, ![34816, 1024]⟩
abbrev S1024 : Shape := ⟨1, ![1024]⟩
abbrev S16x6144 : Shape := ⟨2, ![16, 6144]⟩
abbrev S1024x3072 : Shape := ⟨2, ![1024, 3072]⟩
abbrev S3072 : Shape := ⟨1, ![3072]⟩
abbrev S96x1x1024 : Shape := ⟨3, ![96, 1, 1024]⟩
abbrev S1x1024 : Shape := ⟨2, ![1, 1024]⟩
abbrev S1x3072 : Shape := ⟨2, ![1, 3072]⟩
abbrev S34816x3072 : Shape := ⟨2, ![34816, 3072]⟩
abbrev S512x1024 : Shape := ⟨2, ![512, 1024]⟩
abbrev S1x1x1024 : Shape := ⟨3, ![1, 1, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S34816x1024, .f32⟩
  | .hbm, ⟨1, _⟩ => ⟨S1024, .f32⟩
  | .hbm, ⟨2, _⟩ => ⟨S16x6144, .f32⟩
  | .hbm, ⟨3, _⟩ => ⟨S1024x3072, .f32⟩
  | .hbm, ⟨4, _⟩ => ⟨S3072, .f32⟩
  | .hbm, ⟨5, _⟩ => ⟨S96x1x1024, .f32⟩
  | .hbm, ⟨6, _⟩ => ⟨S1024x3072, .bf16⟩
  | .hbm, ⟨7, _⟩ => ⟨S1x1024, .f32⟩
  | .hbm, ⟨8, _⟩ => ⟨S1x3072, .f32⟩
  | .hbm, ⟨9, _⟩ => ⟨S34816x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![3, 68], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c6_i32 : BitVec 32 := 6#32
  let v19 : BitVec 32 := Scalar.muli v18 c6_i32
  let c0_i32_4 : BitVec 32 := 0#32
  let v20 : BitVec 32 := Scalar.addi v19 c0_i32_4
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c6_i32 : BitVec 32 := 6#32
  let v19 : BitVec 32 := Scalar.muli v18 c6_i32
  let c1_i32_4 : BitVec 32 := 1#32
  let v20 : BitVec 32 := Scalar.addi v19 c1_i32_4
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S34816x1024 : Shape := ⟨2, ![34816, 1024]⟩
abbrev S1024 : Shape := ⟨1, ![1024]⟩
abbrev S16x6144 : Shape := ⟨2, ![16, 6144]⟩
abbrev S1024x3072 : Shape := ⟨2, ![1024, 3072]⟩
abbrev S3072 : Shape := ⟨1, ![3072]⟩
abbrev S32768x1024 : Shape := ⟨2, ![32768, 1024]⟩
abbrev S8x4096x1024 : Shape := ⟨3, ![8, 4096, 1024]⟩
abbrev S2048x1024 : Shape := ⟨2, ![2048, 1024]⟩
abbrev S8x256x1024 : Shape := ⟨3, ![8, 256, 1024]⟩
abbrev S8x6144 : Shape := ⟨2, ![8, 6144]⟩
abbrev S8x1x6144 : Shape := ⟨3, ![8, 1, 6144]⟩
abbrev S1x6144 : Shape := ⟨2, ![1, 6144]⟩
abbrev S1x1x6144 : Shape := ⟨3, ![1, 1, 6144]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x256 : Shape := ⟨2, ![8, 256]⟩
abbrev S8x256x1 : Shape := ⟨3, ![8, 256, 1]⟩
abbrev S8x4096x3072 : Shape := ⟨3, ![8, 4096, 3072]⟩
abbrev S1x1x3072 : Shape := ⟨3, ![1, 1, 3072]⟩
abbrev S8x256x3072 : Shape := ⟨3, ![8, 256, 3072]⟩
abbrev S32768x3072 : Shape := ⟨2, ![32768, 3072]⟩
abbrev S2048x3072 : Shape := ⟨2, ![2048, 3072]⟩
abbrev S34816x3072 : Shape := ⟨2, ![34816, 3072]⟩

abbrev nBuf : Space → Nat
  | .hbm => 75
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S1024, .f32⟩
  | .hbm, ⟨2, _⟩ => ⟨S16x6144, .f32⟩
  | .hbm, ⟨3, _⟩ => ⟨S1024x3072, .f32⟩
  | .hbm, ⟨4, _⟩ => ⟨S3072, .f32⟩
  | .hbm, ⟨5, _⟩ => ⟨S32768x1024, .f32⟩
  | .hbm, ⟨6, _⟩ => ⟨S8x4096x1024, .f32⟩
  | .hbm, ⟨7, _⟩ => ⟨S2048x1024, .f32⟩
  | .hbm, ⟨8, _⟩ => ⟨S8x256x1024, .f32⟩
  | .hbm, ⟨9, _⟩ => ⟨S8x6144, .f32⟩
  | .hbm, ⟨10, _⟩ => ⟨S8x1x6144, .f32⟩
  | .hbm, ⟨11, _⟩ => ⟨S1x6144, .f32⟩
  | .hbm, ⟨12, _⟩ => ⟨S1x1x6144, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x1x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x256x1024, .f32⟩
  | .hbm, ⟨39, _⟩ => ⟨S_, .f32⟩
  | .hbm, ⟨40, _⟩ => ⟨S8x256, .f32⟩
  | .hbm, ⟨41, _⟩ => ⟨S8x256x1, .f32⟩
  | .hbm, ⟨42, _⟩ => ⟨S_, .f32⟩
  | .hbm, ⟨43, _⟩ => ⟨S8x256x1, .f32⟩
  | .hbm, ⟨44, _⟩ => ⟨S8x256x1, .f32⟩
  | .hbm, ⟨45, _⟩ => ⟨S_, .f32⟩
  | .hbm, ⟨46, _⟩ => ⟨S8x256x1, .f32⟩
  | .hbm, ⟨47, _⟩ => ⟨S8x256x1, .f32⟩
  | .hbm, ⟨48, _⟩ => ⟨S8x256x1, .f32⟩
  | .hbm, ⟨49, _⟩ => ⟨S8x256x1024, .f32⟩
  | .hbm, ⟨50, _⟩ => ⟨S8x256x1024, .f32⟩
  | .hbm, ⟨51, _⟩ => ⟨S1x1x1024, .f32⟩
  | .hbm, ⟨52, _⟩ => ⟨S8x256x1024, .f32⟩
  | .hbm, ⟨53, _⟩ => ⟨S8x256x1024, .f32⟩
  | .hbm, ⟨54, _⟩ => ⟨S1x1x1024, .f32⟩
  | .hbm, ⟨55, _⟩ => ⟨S1x1x1024, .f32⟩
  | .hbm, ⟨56, _⟩ => ⟨S_, .f32⟩
  | .hbm, ⟨57, _⟩ => ⟨S1x1x1024, .f32⟩
  | .hbm, ⟨58, _⟩ => ⟨S1x1x1024, .f32⟩
  | .hbm, ⟨59, _⟩ => ⟨S8x256x1024, .f32⟩
  | .hbm, ⟨60, _⟩ => ⟨S8x256x1024, .f32⟩
  | .hbm, ⟨61, _⟩ => ⟨S8x256x1024, .f32⟩
  | .hbm, ⟨62, _⟩ => ⟨S8x256x1024, .f32⟩
  | .hbm, ⟨63, _⟩ => ⟨S8x4096x3072, .f32⟩
  | .hbm, ⟨64, _⟩ => ⟨S1x1x3072, .f32⟩
  | .hbm, ⟨65, _⟩ => ⟨S8x4096x3072, .f32⟩
  | .hbm, ⟨66, _⟩ => ⟨S8x4096x3072, .f32⟩
  | .hbm, ⟨67, _⟩ => ⟨S8x256x3072, .f32⟩
  | .hbm, ⟨68, _⟩ => ⟨S1x1x3072, .f32⟩
  | .hbm, ⟨69, _⟩ => ⟨S8x256x3072, .f32⟩
  | .hbm, ⟨70, _⟩ => ⟨S8x256x3072, .f32⟩
  | .hbm, ⟨71, _⟩ => ⟨S32768x3072, .f32⟩
  | .hbm, ⟨72, _⟩ => ⟨S2048x3072, .f32⟩
  | .hbm, ⟨73, _⟩ => ⟨S34816x3072, .f32⟩
  | .hbm, ⟨74, _⟩ => ⟨S34816x3072, .bf16⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Kernel3.lean ====
abbrev S34816x1024 : Shape := ⟨2, ![34816, 1024]⟩
abbrev S1024 : Shape := ⟨1, ![1024]⟩
abbrev S16x6144 : Shape := ⟨2, ![16, 6144]⟩
abbrev S1024x6144 : Shape := ⟨2, ![1024, 6144]⟩
abbrev S6144 : Shape := ⟨1, ![6144]⟩
abbrev S3072 : Shape := ⟨1, ![3072]⟩
abbrev S96x1x1024 : Shape := ⟨3, ![96, 1, 1024]⟩
abbrev S1x1024 : Shape := ⟨2, ![1, 1024]⟩
abbrev S1x6144 : Shape := ⟨2, ![1, 6144]⟩
abbrev S1x3072 : Shape := ⟨2, ![1, 3072]⟩
abbrev S34816x6144 : Shape := ⟨2, ![34816, 6144]⟩
abbrev S256x1024 : Shape := ⟨2, ![256, 1024]⟩
abbrev S1x1x1024 : Shape := ⟨3, ![1, 1, 1024]⟩
abbrev S1024x3072 : Shape := ⟨2, ![1024, 3072]⟩
abbrev S256x3072 : Shape := ⟨2, ![256, 3072]⟩
abbrev S256 : Shape := ⟨1, ![256]⟩
abbrev S256x1 : Shape := ⟨2, ![256, 1]⟩

abbrev nBuf : Space → Nat
  | .hbm => 14
  | .vmem => 15
  | .smem => 0
  | _ => 0

abbrev bufTy : (tb : Table) → Fin (tcTables nBuf tb) → BufTy
  | .hbm, ⟨0, _⟩ => ⟨S34816x1024, .f32⟩
  | .hbm, ⟨1, _⟩ => ⟨S1024, .f32⟩
  | .hbm, ⟨2, _⟩ => ⟨S16x6144, .f32⟩
  | .hbm, ⟨3, _⟩ => ⟨S1024x6144, .f32⟩
  | .hbm, ⟨4, _⟩ => ⟨S6144, .f32⟩
  | .hbm, ⟨5, _⟩ => ⟨S3072, .f32⟩
  | .hbm, ⟨6, _⟩ => ⟨S3072, .f32⟩
  | .hbm, ⟨7, _⟩ => ⟨S96x1x1024, .f32⟩
  | .hbm, ⟨8, _⟩ => ⟨S1024x6144, .bf16⟩
  | .hbm, ⟨9, _⟩ => ⟨S1x1024, .f32⟩
  | .hbm, ⟨10, _⟩ => ⟨S1x6144, .f32⟩
  | .hbm, ⟨11, _⟩ => ⟨S1x3072, .f32⟩
  | .hbm, ⟨12, _⟩ => ⟨S1x3072, .f32⟩
  | .hbm, ⟨13, _⟩ => ⟨S34816x6144, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x3072, .bf16⟩
  | .local _ .vmem, ⟨9, _⟩ => ⟨S1x3072, .f32⟩
  | .local _ .vmem, ⟨10, _⟩ => ⟨S1x3072, .f32⟩
  | .local _ .vmem, ⟨11, _⟩ => ⟨S1x3072, .f32⟩
  | .local _ .vmem, ⟨12, _⟩ => ⟨S1x3072, .f32⟩
  | .local _ .vmem, ⟨13, _⟩ => ⟨S256x3072, .bf16⟩
  | .local _ .vmem, ⟨14, _⟩ => ⟨S256x3072, .bf16⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 136], ![false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_20 : BitVec 32 := 0#32
  let v43 : BitVec 1 := Scalar.cmpi .ne v42 c0_i32_20
  v43

def k0_cond2 (i : grid0.Coords) : BitVec 1 :=
  let arg0 : BitVec 32 := BitVec.ofNat 32 (i 0).val
  let c1_i32 : BitVec 32 := 1#32
  let v44 : BitVec 1 := Scalar.cmpi .eq arg0 c1_i32
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c6_i32 : BitVec 32 := 6#32
  let v19 : BitVec 32 := Scalar.muli v18 c6_i32
  let c0_i32_4 : BitVec 32 := 0#32
  let v20 : BitVec 32 := Scalar.addi v19 c0_i32_4
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c6_i32 : BitVec 32 := 6#32
  let v19 : BitVec 32 := Scalar.muli v18 c6_i32
  let c1_i32_4 : BitVec 32 := 1#32
  let v20 : BitVec 32 := Scalar.addi v19 c1_i32_4
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S34816x1024 : Shape := ⟨2, ![34816, 1024]⟩
abbrev S1024 : Shape := ⟨1, ![1024]⟩
abbrev S16x6144 : Shape := ⟨2, ![16, 6144]⟩
abbrev S1024x6144 : Shape := ⟨2, ![1024, 6144]⟩
abbrev S6144 : Shape := ⟨1, ![6144]⟩
abbrev S3072 : Shape := ⟨1, ![3072]⟩
abbrev S32768x1024 : Shape := ⟨2, ![32768, 1024]⟩
abbrev S8x4096x1024 : Shape := ⟨3, ![8, 4096, 1024]⟩
abbrev S2048x1024 : Shape := ⟨2, ![2048, 1024]⟩
abbrev S8x256x1024 : Shape := ⟨3, ![8, 256, 1024]⟩
abbrev S8x6144 : Shape := ⟨2, ![8, 6144]⟩
abbrev S8x1x6144 : Shape := ⟨3, ![8, 1, 6144]⟩
abbrev S1x6144 : Shape := ⟨2, ![1, 6144]⟩
abbrev S1x1x6144 : Shape := ⟨3, ![1, 1, 6144]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x256 : Shape := ⟨2, ![8, 256]⟩
abbrev S8x256x1 : Shape := ⟨3, ![8, 256, 1]⟩
abbrev S8x4096x6144 : Shape := ⟨3, ![8, 4096, 6144]⟩
abbrev S8x4096x3072 : Shape := ⟨3, ![8, 4096, 3072]⟩
abbrev S1x1x3072 : Shape := ⟨3, ![1, 1, 3072]⟩
abbrev S8x256x6144 : Shape := ⟨3, ![8, 256, 6144]⟩
abbrev S8x256x3072 : Shape := ⟨3, ![8, 256, 3072]⟩
abbrev S32768x6144 : Shape := ⟨2, ![32768, 6144]⟩
abbrev S2048x6144 : Shape := ⟨2, ![2048, 6144]⟩
abbrev S34816x6144 : Shape := ⟨2, ![34816, 6144]⟩

abbrev nBuf : Space → Nat
  | .hbm => 159
  | .vmem => 0
  | .smem => 0
  | _ => 0

abbrev hbmTy0_0 (i : Nat) : BufTy := match i % 128 with
  | 0 => ⟨S34816x1024, .f32⟩
  | 1 => ⟨S1024, .f32⟩
  | 2 => ⟨S16x6144, .f32⟩
  | 3 => ⟨S1024x6144, .f32⟩
  | 4 => ⟨S6144, .f32⟩
  | 5 => ⟨S3072, .f32⟩
  | 6 => ⟨S3072, .f32⟩
  | 7 => ⟨S32768x1024, .f32⟩
  | 8 => ⟨S8x4096x1024, .f32⟩
  | 9 => ⟨S2048x1024, .f32⟩
  | 10 => ⟨S8x256x1024, .f32⟩
  | 11 => ⟨S8x6144, .f32⟩
  | 12 => ⟨S8x1x6144, .f32⟩
  | 13 => ⟨S1x6144, .f32⟩
  | 14 => ⟨S1x1x6144, .f32⟩
  | 15 => ⟨S8x4096x1024, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x1024, .f32⟩
  | 27 => ⟨S8x4096x1024, .f32⟩
  | 28 => ⟨S1x1x1024, .f32⟩
  | 29 => ⟨S8x4096x1024, .f32⟩
  | 30 => ⟨S8x4096x1024, .f32⟩
  | 31 => ⟨S8x1x1024, .f32⟩
  | 32 => ⟨S8x1x1024, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S8x256x1024, .f32⟩
  | 41 => ⟨S_, .f32⟩
  | 42 => ⟨S8x256, .f32⟩
  | 43 => ⟨S8x256x1, .f32⟩
  | 44 => ⟨S_, .f32⟩
  | 45 => ⟨S8x256x1, .f32⟩
  | 46 => ⟨S8x256x1, .f32⟩
  | 47 => ⟨S_, .f32⟩
  | 48 => ⟨S8x256x1, .f32⟩
  | 49 => ⟨S8x256x1, .f32⟩
  | 50 => ⟨S8x256x1, .f32⟩
  | 51 => ⟨S8x256x1024, .f32⟩
  | 52 => ⟨S8x256x1024, .f32⟩
  | 53 => ⟨S1x1x1024, .f32⟩
  | 54 => ⟨S8x256x1024, .f32⟩
  | 55 => ⟨S8x256x1024, .f32⟩
  | 56 => ⟨S1x1x1024, .f32⟩
  | 57 => ⟨S1x1x1024, .f32⟩
  | 58 => ⟨S_, .f32⟩
  | 59 => ⟨S1x1x1024, .f32⟩
  | 60 => ⟨S1x1x1024, .f32⟩
  | 61 => ⟨S8x256x1024, .f32⟩
  | 62 => ⟨S8x256x1024, .f32⟩
  | 63 => ⟨S8x256x1024, .f32⟩
  | 64 => ⟨S8x256x1024, .f32⟩
  | 65 => ⟨S8x4096x6144, .f32⟩
  | 66 => ⟨S1x1x6144, .f32⟩
  | 67 => ⟨S8x4096x6144, .f32⟩
  | 68 => ⟨S8x4096x6144, .f32⟩
  | 69 => ⟨S_, .f32⟩
  | 70 => ⟨S8x4096x6144, .f32⟩
  | 71 => ⟨S8x4096x6144, .f32⟩
  | 72 => ⟨S8x4096x6144, .f32⟩
  | 73 => ⟨S_, .f32⟩
  | 74 => ⟨S8x4096x6144, .f32⟩
  | 75 => ⟨S8x4096x6144, .f32⟩
  | 76 => ⟨S8x4096x6144, .f32⟩
  | 77 => ⟨S8x4096x6144, .f32⟩
  | 78 => ⟨S8x4096x3072, .f32⟩
  | 79 => ⟨S8x4096x3072, .f32⟩
  | 80 => ⟨S_, .f32⟩
  | 81 => ⟨S8x4096, .f32⟩
  | 82 => ⟨S8x4096x1, .f32⟩
  | 83 => ⟨S_, .f32⟩
  | 84 => ⟨S8x4096x1, .f32⟩
  | 85 => ⟨S8x4096x1, .f32⟩
  | 86 => ⟨S8x4096x3072, .f32⟩
  | 87 => ⟨S8x4096x3072, .f32⟩
  | 88 => ⟨S8x4096x3072, .f32⟩
  | 89 => ⟨S_, .f32⟩
  | 90 => ⟨S8x4096, .f32⟩
  | 91 => ⟨S8x4096x1, .f32⟩
  | 92 => ⟨S_, .f32⟩
  | 93 => ⟨S8x4096x1, .f32⟩
  | 94 => ⟨S8x4096x1, .f32⟩
  | 95 => ⟨S8x4096x3072, .f32⟩
  | 96 => ⟨S8x4096x3072, .f32⟩
  | 97 => ⟨S_, .f32⟩
  | 98 => ⟨S8x4096x1, .f32⟩
  | 99 => ⟨S8x4096x1, .f32⟩
  | 100 => ⟨S8x4096x1, .f32⟩
  | 101 => ⟨S8x4096x3072, .f32⟩
  | 102 => ⟨S8x4096x3072, .f32⟩
  | 103 => ⟨S1x1x3072, .f32⟩
  | 104 => ⟨S8x4096x3072, .f32⟩
  | 105 => ⟨S8x4096x3072, .f32⟩
  | 106 => ⟨S1x1x3072, .f32⟩
  | 107 => ⟨S8x4096x3072, .f32⟩
  | 108 => ⟨S8x4096x3072, .f32⟩
  | 109 => ⟨S8x4096x6144, .f32⟩
  | 110 => ⟨S8x256x6144, .f32⟩
  | 111 => ⟨S1x1x6144, .f32⟩
  | 112 => ⟨S8x256x6144, .f32⟩
  | 113 => ⟨S8x256x6144, .f32⟩
  | 114 => ⟨S_, .f32⟩
  | 115 => ⟨S8x256x6144, .f32⟩
  | 116 => ⟨S8x256x6144, .f32⟩
  | 117 => ⟨S8x256x6144, .f32⟩
  | 118 => ⟨S_, .f32⟩
  | 119 => ⟨S8x256x6144, .f32⟩
  | 120 => ⟨S8x256x6144, .f32⟩
  | 121 => ⟨S8x256x6144, .f32⟩
  | 122 => ⟨S8x256x6144, .f32⟩
  | 123 => ⟨S8x256x3072, .f32⟩
  | 124 => ⟨S8x256x3072, .f32⟩
  | 125 => ⟨S_, .f32⟩
  | 126 => ⟨S8x256, .f32⟩
  | 127 => ⟨S8x256x1, .f32⟩
  | _ => ⟨S34816x1024, .f32⟩

abbrev hbmTy0_1 (i : Nat) : BufTy := match i % 128 with
  | 0 => ⟨S_, .f32⟩
  | 1 => ⟨S8x256x1, .f32⟩
  | 2 => ⟨S8x256x1, .f32⟩
  | 3 => ⟨S8x256x3072, .f32⟩
  | 4 => ⟨S8x256x3072, .f32⟩
  | 5 => ⟨S8x256x3072, .f32⟩
  | 6 => ⟨S_, .f32⟩
  | 7 => ⟨S8x256, .f32⟩
  | 8 => ⟨S8x256x1, .f32⟩
  | 9 => ⟨S_, .f32⟩
  | 10 => ⟨S8x256x1, .f32⟩
  | 11 => ⟨S8x256x1, .f32⟩
  | 12 => ⟨S8x256x3072, .f32⟩
  | 13 => ⟨S8x256x3072, .f32⟩
  | 14 => ⟨S_, .f32⟩
  | 15 => ⟨S8x256x1, .f32⟩
  | 16 => ⟨S8x256x1, .f32⟩
  | 17 => ⟨S8x256x1, .f32⟩
  | 18 => ⟨S8x256x3072, .f32⟩
  | 19 => ⟨S8x256x3072, .f32⟩
  | 20 => ⟨S1x1x3072, .f32⟩
  | 21 => ⟨S8x256x3072, .f32⟩
  | 22 => ⟨S8x256x3072, .f32⟩
  | 23 => ⟨S1x1x3072, .f32⟩
  | 24 => ⟨S8x256x3072, .f32⟩
  | 25 => ⟨S8x256x3072, .f32⟩
  | 26 => ⟨S8x256x6144, .f32⟩
  | 27 => ⟨S32768x6144, .f32⟩
  | 28 => ⟨S2048x6144, .f32⟩
  | 29 => ⟨S34816x6144, .f32⟩
  | 30 => ⟨S34816x6144, .bf16⟩
  | _ => ⟨S34816x1024, .f32⟩

abbrev hbmTy (i : Nat) : BufTy := match i / 128 with
  | 0 => hbmTy0_0 i
  | 1 => hbmTy0_1 i
  | _ => ⟨S34816x1024, .f32⟩

abbrev bufTy : (tb : Table) → Fin (tcTables nBuf tb) → BufTy
  | .hbm, ⟨i, _⟩ => hbmTy i
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_14 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_15 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_16 : Ref sig .tc := ⟨.hbm, 125, rfl⟩
abbrev main_v101 : Ref sig .tc := ⟨.hbm, 126, rfl⟩
abbrev main_v102 : Ref sig .tc := ⟨.hbm, 127, rfl⟩
abbrev main_cst_17 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_18 : Ref sig .tc := ⟨.hbm, 134, rfl⟩
abbrev main_v108 : Ref sig .tc := ⟨.hbm, 135, rfl⟩
abbrev main_v109 : Ref sig .tc := ⟨.hbm, 136, rfl⟩
abbrev main_cst_19 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_20 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩

abbrev nD : Nat := 1
abbrev τ : Topo := Topo.v7x

variable {F : FTy → Type} [FloatOps F]
-- ==== Kernel4.lean ====
abbrev S34816x6144 : Shape := ⟨2, ![34816, 6144]⟩
abbrev S16x128x128 : Shape := ⟨3, ![16, 128, 128]⟩
abbrev S16x128 : Shape := ⟨2, ![16, 128]⟩
abbrev S128x16 : Shape := ⟨2, ![128, 16]⟩
abbrev S128x16x192 : Shape := ⟨3, ![128, 16, 192]⟩
abbrev S128x3072 : Shape := ⟨2, ![128, 3072]⟩
abbrev S34816x3072 : Shape := ⟨2, ![34816, 3072]⟩
abbrev S512x3072 : Shape := ⟨2, ![512, 3072]⟩
abbrev S1x384 : Shape := ⟨2, ![1, 384]⟩
abbrev S128x384 : Shape := ⟨2, ![128, 384]⟩
abbrev S1x128x128 : Shape := ⟨3, ![1, 128, 128]⟩
abbrev S128x128 : Shape := ⟨2, ![128, 128]⟩

abbrev nBuf : Space → Nat
  | .hbm => 8
  | .vmem => 8
  | .smem => 0
  | _ => 0

abbrev bufTy : (tb : Table) → Fin (tcTables nBuf tb) → BufTy
  | .hbm, ⟨0, _⟩ => ⟨S34816x6144, .bf16⟩
  | .hbm, ⟨1, _⟩ => ⟨S16x128x128, .f32⟩
  | .hbm, ⟨2, _⟩ => ⟨S16x128, .f32⟩
  | .hbm, ⟨3, _⟩ => ⟨S128x16, .f32⟩
  | .hbm, ⟨4, _⟩ => ⟨S128x16x192, .f32⟩
  | .hbm, ⟨5, _⟩ => ⟨S128x3072, .f32⟩
  | .hbm, ⟨6, _⟩ => ⟨S16x128x128, .bf16⟩
  | .hbm, ⟨7, _⟩ => ⟨S34816x3072, .bf16⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S16x128x128, .bf16⟩
  | .local _ .vmem, ⟨5, _⟩ => ⟨S128x3072, .f32⟩
  | .local _ .vmem, ⟨6, _⟩ => ⟨S512x3072, .bf16⟩
  | .local _ .vmem, ⟨7, _⟩ => ⟨S512x3072, .bf16⟩
  | _, _ => ⟨S34816x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S34816x6144 : Shape := ⟨2, ![34816, 6144]⟩
abbrev S16x128x128 : Shape := ⟨3, ![16, 128, 128]⟩
abbrev S16x128 : Shape := ⟨2, ![16, 128]⟩
abbrev S34816x3072 : Shape := ⟨2, ![34816, 3072]⟩
abbrev S272x128x16x192 : Shape := ⟨4, ![272, 128, 16, 192]⟩
abbrev S16x272x192x128 : Shape := ⟨4, ![16, 272, 192, 128]⟩
abbrev S128x16 : Shape := ⟨2, ![128, 16]⟩
abbrev S1x128x16x1 : Shape := ⟨4, ![1, 128, 16, 1]⟩

abbrev nBuf : Space → Nat
  | .hbm => 16
  | .vmem => 0
  | .smem => 0
  | _ => 0

abbrev bufTy : (tb : Table) → Fin (tcTables nBuf tb) → BufTy
  | .hbm, ⟨0, _⟩ => ⟨S34816x6144, .bf16⟩
  | .hbm, ⟨1, _⟩ => ⟨S16x128x128, .f32⟩
  | .hbm, ⟨2, _⟩ => ⟨S16x128, .f32⟩
  | .hbm, ⟨3, _⟩ => ⟨S34816x6144, .f32⟩
  | .hbm, ⟨4, _⟩ => ⟨S34816x3072, .f32⟩
  | .hbm, ⟨5, _⟩ => ⟨S34816x3072, .f32⟩
  | .hbm, ⟨6, _⟩ => ⟨S272x128x16x192, .f32⟩
  | .hbm, ⟨7, _⟩ => ⟨S16x272x192x128, .f32⟩
  | .hbm, ⟨8, _⟩ => ⟨S272x128x16x192, .f32⟩
  | .hbm, ⟨9, _⟩ => ⟨S128x16, .f32⟩
  | .hbm, ⟨10, _⟩ => ⟨S1x128x16x1, .f32⟩
  | .hbm, ⟨11, _⟩ => ⟨S272x128x16x192, .f32⟩
  | .hbm, ⟨12, _⟩ => ⟨S272x128x16x192, .f32⟩
  | .hbm, ⟨13, _⟩ => ⟨S34816x3072, .f32⟩
  | .hbm, ⟨14, _⟩ => ⟨S34816x3072, .f32⟩
  | .hbm, ⟨15, _⟩ => ⟨S34816x3072, .bf16⟩
  | _, _ => ⟨S34816x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel5.lean ====
abbrev S34816x3072 : Shape := ⟨2, ![34816, 3072]⟩
abbrev S3072x1024 : Shape := ⟨2, ![3072, 1024]⟩
abbrev S1024 : Shape := ⟨1, ![1024]⟩
abbrev S34816x1024 : Shape := ⟨2, ![34816, 1024]⟩
abbrev S16x6144 : Shape := ⟨2, ![16, 6144]⟩
abbrev S96x1x1024 : Shape := ⟨3, ![96, 1, 1024]⟩
abbrev S1x1024 : Shape := ⟨2, ![1, 1024]⟩
abbrev S512x3072 : Shape := ⟨2, ![512, 3072]⟩
abbrev S512x1024 : Shape := ⟨2, ![512, 1024]⟩
abbrev S1x1x1024 : Shape := ⟨3, ![1, 1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S34816x3072, .bf16⟩
  | .hbm, ⟨1, _⟩ => ⟨S3072x1024, .f32⟩
  | .hbm, ⟨2, _⟩ => ⟨S1024, .f32⟩
  | .hbm, ⟨3, _⟩ => ⟨S34816x1024, .f32⟩
  | .hbm, ⟨4, _⟩ => ⟨S16x6144, .f32⟩
  | .hbm, ⟨5, _⟩ => ⟨S3072x1024, .bf16⟩
  | .hbm, ⟨6, _⟩ => ⟨S96x1x1024, .f32⟩
  | .hbm, ⟨7, _⟩ => ⟨S1x1024, .f32⟩
  | .hbm, ⟨8, _⟩ => ⟨S34816x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S34816x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c6_i32 : BitVec 32 := 6#32
  let v19 : BitVec 32 := Scalar.muli v18 c6_i32
  let c2_i32 : BitVec 32 := 2#32
  let v20 : BitVec 32 := Scalar.addi v19 c2_i32
  let c0_i32_4 : BitVec 32 := 0#32
  let c0_i32_5 : BitVec 32 := 0#32
  let c0_i32_6 : BitVec 32 := 0#32
  ![v20.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel5Ideal.lean ====
abbrev S34816x3072 : Shape := ⟨2, ![34816, 3072]⟩
abbrev S3072x1024 : Shape := ⟨2, ![3072, 1024]⟩
abbrev S1024 : Shape := ⟨1, ![1024]⟩
abbrev S34816x1024 : Shape := ⟨2, ![34816, 1024]⟩
abbrev S16x6144 : Shape := ⟨2, ![16, 6144]⟩
abbrev S96x1x1024 : Shape := ⟨3, ![96, 1, 1024]⟩
abbrev S1x1024 : Shape := ⟨2, ![1, 1024]⟩
abbrev S512x3072 : Shape := ⟨2, ![512, 3072]⟩
abbrev S512x1024 : Shape := ⟨2, ![512, 1024]⟩
abbrev S1x1x1024 : Shape := ⟨3, ![1, 1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S34816x3072, .bf16⟩
  | .hbm, ⟨1, _⟩ => ⟨S3072x1024, .f32⟩
  | .hbm, ⟨2, _⟩ => ⟨S1024, .f32⟩
  | .hbm, ⟨3, _⟩ => ⟨S34816x1024, .f32⟩
  | .hbm, ⟨4, _⟩ => ⟨S16x6144, .f32⟩
  | .hbm, ⟨5, _⟩ => ⟨S3072x1024, .bf16⟩
  | .hbm, ⟨6, _⟩ => ⟨S96x1x1024, .f32⟩
  | .hbm, ⟨7, _⟩ => ⟨S1x1024, .f32⟩
  | .hbm, ⟨8, _⟩ => ⟨S34816x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S34816x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c6_i32 : BitVec 32 := 6#32
  let v19 : BitVec 32 := Scalar.muli v18 c6_i32
  let c2_i32 : BitVec 32 := 2#32
  let v20 : BitVec 32 := Scalar.addi v19 c2_i32
  let c0_i32_4 : BitVec 32 := 0#32
  let c0_i32_5 : BitVec 32 := 0#32
  let c0_i32_6 : BitVec 32 := 0#32
  ![v20.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S34816x3072 : Shape := ⟨2, ![34816, 3072]⟩
abbrev S3072x1024 : Shape := ⟨2, ![3072, 1024]⟩
abbrev S1024 : Shape := ⟨1, ![1024]⟩
abbrev S34816x1024 : Shape := ⟨2, ![34816, 1024]⟩
abbrev S16x6144 : Shape := ⟨2, ![16, 6144]⟩
abbrev S32768x3072 : Shape := ⟨2, ![32768, 3072]⟩
abbrev S8x4096x3072 : Shape := ⟨3, ![8, 4096, 3072]⟩
abbrev S2048x3072 : Shape := ⟨2, ![2048, 3072]⟩
abbrev S8x256x3072 : Shape := ⟨3, ![8, 256, 3072]⟩
abbrev S32768x1024 : Shape := ⟨2, ![32768, 1024]⟩
abbrev S8x4096x1024 : Shape := ⟨3, ![8, 4096, 1024]⟩
abbrev S2048x1024 : Shape := ⟨2, ![2048, 1024]⟩
abbrev S8x256x1024 : Shape := ⟨3, ![8, 256, 1024]⟩
abbrev S8x1024 : Shape := ⟨2, ![8, 1024]⟩
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S34816x3072, .bf16⟩
  | .hbm, ⟨1, _⟩ => ⟨S3072x1024, .f32⟩
  | .hbm, ⟨2, _⟩ => ⟨S1024, .f32⟩
  | .hbm, ⟨3, _⟩ => ⟨S34816x1024, .f32⟩
  | .hbm, ⟨4, _⟩ => ⟨S16x6144, .f32⟩
  | .hbm, ⟨5, _⟩ => ⟨S32768x3072, .bf16⟩
  | .hbm, ⟨6, _⟩ => ⟨S8x4096x3072, .bf16⟩
  | .hbm, ⟨7, _⟩ => ⟨S8x4096x3072, .f32⟩
  | .hbm, ⟨8, _⟩ => ⟨S2048x3072, .bf16⟩
  | .hbm, ⟨9, _⟩ => ⟨S8x256x3072, .bf16⟩
  | .hbm, ⟨10, _⟩ => ⟨S8x256x3072, .f32⟩
  | .hbm, ⟨11, _⟩ => ⟨S32768x1024, .f32⟩
  | .hbm, ⟨12, _⟩ => ⟨S8x4096x1024, .f32⟩
  | .hbm, ⟨13, _⟩ => ⟨S2048x1024, .f32⟩
  | .hbm, ⟨14, _⟩ => ⟨S8x256x1024, .f32⟩
  | .hbm, ⟨15, _⟩ => ⟨S8x1024, .f32⟩
  | .hbm, ⟨16, _⟩ => ⟨S8x1x1024, .f32⟩
  | .hbm, ⟨17, _⟩ => ⟨S1x1024, .f32⟩
  | .hbm, ⟨18, _⟩ => ⟨S1x1x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x256x1024, .f32⟩
  | .hbm, ⟨27, _⟩ => ⟨S1x1x1024, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S8x256x1024, .f32⟩
  | .hbm, ⟨32, _⟩ => ⟨S8x256x1024, .f32⟩
  | .hbm, ⟨33, _⟩ => ⟨S32768x1024, .f32⟩
  | .hbm, ⟨34, _⟩ => ⟨S2048x1024, .f32⟩
  | .hbm, ⟨35, _⟩ => ⟨S34816x1024, .f32⟩
  | _, _ => ⟨S34816x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S34816x1024 : Shape := ⟨2, ![34816, 1024]⟩
abbrev S1024x1024 : Shape := ⟨2, ![1024, 1024]⟩
abbrev S1024 : Shape := ⟨1, ![1024]⟩
abbrev S16x6144 : Shape := ⟨2, ![16, 6144]⟩
abbrev S96x1x1024 : Shape := ⟨3, ![96, 1, 1024]⟩
abbrev S1x1024 : Shape := ⟨2, ![1, 1024]⟩
abbrev S512x1024 : Shape := ⟨2, ![512, 1024]⟩
abbrev S1x1x1024 : Shape := ⟨3, ![1, 1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S34816x1024, .bf16⟩
  | .hbm, ⟨1, _⟩ => ⟨S1024x1024, .f32⟩
  | .hbm, ⟨2, _⟩ => ⟨S1024, .f32⟩
  | .hbm, ⟨3, _⟩ => ⟨S34816x1024, .f32⟩
  | .hbm, ⟨4, _⟩ => ⟨S16x6144, .f32⟩
  | .hbm, ⟨5, _⟩ => ⟨S1024x1024, .bf16⟩
  | .hbm, ⟨6, _⟩ => ⟨S96x1x1024, .f32⟩
  | .hbm, ⟨7, _⟩ => ⟨S1x1024, .f32⟩
  | .hbm, ⟨8, _⟩ => ⟨S34816x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c6_i32 : BitVec 32 := 6#32
  let v19 : BitVec 32 := Scalar.muli v18 c6_i32
  let c2_i32 : BitVec 32 := 2#32
  let v20 : BitVec 32 := Scalar.addi v19 c2_i32
  let c0_i32_4 : BitVec 32 := 0#32
  let c0_i32_5 : BitVec 32 := 0#32
  let c0_i32_6 : BitVec 32 := 0#32
  ![v20.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S34816x1024 : Shape := ⟨2, ![34816, 1024]⟩
abbrev S1024x1024 : Shape := ⟨2, ![1024, 1024]⟩
abbrev S1024 : Shape := ⟨1, ![1024]⟩
abbrev S16x6144 : Shape := ⟨2, ![16, 6144]⟩
abbrev S32768x1024 : Shape := ⟨2, ![32768, 1024]⟩
abbrev S8x4096x1024 : Shape := ⟨3, ![8, 4096, 1024]⟩
abbrev S2048x1024 : Shape := ⟨2, ![2048, 1024]⟩
abbrev S8x256x1024 : Shape := ⟨3, ![8, 256, 1024]⟩
abbrev S8x1024 : Shape := ⟨2, ![8, 1024]⟩
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S34816x1024, .bf16⟩
  | .hbm, ⟨1, _⟩ => ⟨S1024x1024, .f32⟩
  | .hbm, ⟨2, _⟩ => ⟨S1024, .f32⟩
  | .hbm, ⟨3, _⟩ => ⟨S34816x1024, .f32⟩
  | .hbm, ⟨4, _⟩ => ⟨S16x6144, .f32⟩
  | .hbm, ⟨5, _⟩ => ⟨S32768x1024, .bf16⟩
  | .hbm, ⟨6, _⟩ => ⟨S8x4096x1024, .bf16⟩
  | .hbm, ⟨7, _⟩ => ⟨S8x4096x1024, .f32⟩
  | .hbm, ⟨8, _⟩ => ⟨S2048x1024, .bf16⟩
  | .hbm, ⟨9, _⟩ => ⟨S8x256x1024, .bf16⟩
  | .hbm, ⟨10, _⟩ => ⟨S8x256x1024, .f32⟩
  | .hbm, ⟨11, _⟩ => ⟨S32768x1024, .f32⟩
  | .hbm, ⟨12, _⟩ => ⟨S8x4096x1024, .f32⟩
  | .hbm, ⟨13, _⟩ => ⟨S2048x1024, .f32⟩
  | .hbm, ⟨14, _⟩ => ⟨S8x256x1024, .f32⟩
  | .hbm, ⟨15, _⟩ => ⟨S8x1024, .f32⟩
  | .hbm, ⟨16, _⟩ => ⟨S8x1x1024, .f32⟩
  | .hbm, ⟨17, _⟩ => ⟨S1x1024, .f32⟩
  | .hbm, ⟨18, _⟩ => ⟨S1x1x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x256x1024, .f32⟩
  | .hbm, ⟨27, _⟩ => ⟨S1x1x1024, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S8x256x1024, .f32⟩
  | .hbm, ⟨32, _⟩ => ⟨S8x256x1024, .f32⟩
  | .hbm, ⟨33, _⟩ => ⟨S32768x1024, .f32⟩
  | .hbm, ⟨34, _⟩ => ⟨S2048x1024, .f32⟩
  | .hbm, ⟨35, _⟩ => ⟨S34816x1024, .f32⟩
  | _, _ => ⟨S34816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Kernel8.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S4x1x6144, .f32⟩
  | .hbm, ⟨9, _⟩ => ⟨S4x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S4x1x6144 : Shape := ⟨3, ![4, 1, 6144]⟩
abbrev S_ : Shape := ⟨0, ![]⟩
abbrev S4x6144x8 : Shape := ⟨3, ![4, 6144, 8]⟩
abbrev S4x8x6144 : Shape := ⟨3, ![4, 8, 6144]⟩
abbrev S1x1024 : Shape := ⟨2, ![1, 1024]⟩
abbrev S4x6144x1 : Shape := ⟨3, ![4, 6144, 1]⟩
abbrev S4x7x6144 : Shape := ⟨3, ![4, 7, 6144]⟩
abbrev S4x16x6144 : Shape := ⟨3, ![4, 16, 6144]⟩

abbrev nBuf : Space → Nat
  | .hbm => 33
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S4x1x6144, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S4x6144x8, .f32⟩
  | .hbm, ⟨15, _⟩ => ⟨S4x8x6144, .f32⟩
  | .hbm, ⟨16, _⟩ => ⟨S4x8x6144, .f32⟩
  | .hbm, ⟨17, _⟩ => ⟨S4x8x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4x6144x1, .f32⟩
  | .hbm, ⟨29, _⟩ => ⟨S4x1x6144, .f32⟩
  | .hbm, ⟨30, _⟩ => ⟨S4x1x6144, .f32⟩
  | .hbm, ⟨31, _⟩ => ⟨S4x7x6144, .f32⟩
  | .hbm, ⟨32, _⟩ => ⟨S4x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel9.lean ====
abbrev S4x34816x1024 : Shape := ⟨3, ![4, 34816, 1024]⟩
abbrev S34816x128 : Shape := ⟨2, ![34816, 128]⟩
abbrev S34816x1024 : Shape := ⟨2, ![34816, 1024]⟩
abbrev S16x6144 : Shape := ⟨2, ![16, 6144]⟩
abbrev S96x1x1024 : Shape := ⟨3, ![96, 1, 1024]⟩
abbrev S4x256x1024 : Shape := ⟨3, ![4, 256, 1024]⟩
abbrev S256x128 : Shape := ⟨2, ![256, 128]⟩
abbrev S256x1024 : Shape := ⟨2, ![256, 1024]⟩
abbrev S1x1x1024 : Shape := ⟨3, ![1, 1, 1024]⟩
abbrev S1x256x1024 : Shape := ⟨3, ![1, 256, 1024]⟩
abbrev S256x1 : Shape := ⟨2, ![256, 1]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x34816x1024, .bf16⟩
  | .hbm, ⟨1, _⟩ => ⟨S34816x128, .f32⟩
  | .hbm, ⟨2, _⟩ => ⟨S34816x1024, .f32⟩
  | .hbm, ⟨3, _⟩ => ⟨S16x6144, .f32⟩
  | .hbm, ⟨4, _⟩ => ⟨S96x1x1024, .f32⟩
  | .hbm, ⟨5, _⟩ => ⟨S34816x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x128, .f32⟩
  | .local _ .vmem, ⟨3, _⟩ => ⟨S256x128, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S256x1024, .f32⟩
  | .local _ .vmem, ⟨9, _⟩ => ⟨S256x1024, .f32⟩
  | _, _ => ⟨S4x34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c6_i32 : BitVec 32 := 6#32
  let v19 : BitVec 32 := Scalar.muli v18 c6_i32
  let c5_i32 : BitVec 32 := 5#32
  let v20 : BitVec 32 := Scalar.addi v19 c5_i32
  let c0_i32_4 : BitVec 32 := 0#32
  let c0_i32_5 : BitVec 32 := 0#32
  let c0_i32_6 : BitVec 32 := 0#32
  ![v20.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4x34816x1024 : Shape := ⟨3, ![4, 34816, 1024]⟩
abbrev S34816x128 : Shape := ⟨2, ![34816, 128]⟩
abbrev S34816x1024 : Shape := ⟨2, ![34816, 1024]⟩
abbrev S16x6144 : Shape := ⟨2, ![16, 6144]⟩
abbrev S34816x4 : Shape := ⟨2, ![34816, 4]⟩
abbrev S4x34816 : Shape := ⟨2, ![4, 34816]⟩
abbrev S4x34816x1 : Shape := ⟨3, ![4, 34816, 1]⟩
abbrev S_ : Shape := ⟨0, ![]⟩
abbrev S32768x1024 : Shape := ⟨2, ![32768, 1024]⟩
abbrev S8x4096x1024 : Shape := ⟨3, ![8, 4096, 1024]⟩
abbrev S2048x1024 : Shape := ⟨2, ![2048, 1024]⟩
abbrev S8x256x1024 : Shape := ⟨3, ![8, 256, 1024]⟩
abbrev S8x1024 : Shape := ⟨2, ![8, 1024]⟩
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x34816x1024, .bf16⟩
  | .hbm, ⟨1, _⟩ => ⟨S34816x128, .f32⟩
  | .hbm, ⟨2, _⟩ => ⟨S34816x1024, .f32⟩
  | .hbm, ⟨3, _⟩ => ⟨S16x6144, .f32⟩
  | .hbm, ⟨4, _⟩ => ⟨S4x34816x1024, .f32⟩
  | .hbm, ⟨5, _⟩ => ⟨S34816x4, .f32⟩
  | .hbm, ⟨6, _⟩ => ⟨S4x34816, .f32⟩
  | .hbm, ⟨7, _⟩ => ⟨S4x34816x1, .f32⟩
  | .hbm, ⟨8, _⟩ => ⟨S4x34816x1024, .f32⟩
  | .hbm, ⟨9, _⟩ => ⟨S4x34816x1024, .f32⟩
  | .hbm, ⟨10, _⟩ => ⟨S_, .f32⟩
  | .hbm, ⟨11, _⟩ => ⟨S34816x1024, .f32⟩
  | .hbm, ⟨12, _⟩ => ⟨S32768x1024, .f32⟩
  | .hbm, ⟨13, _⟩ => ⟨S8x4096x1024, .f32⟩
  | .hbm, ⟨14, _⟩ => ⟨S2048x1024, .f32⟩
  | .hbm, ⟨15, _⟩ => ⟨S8x256x1024, .f32⟩
  | .hbm, ⟨16, _⟩ => ⟨S8x1024, .f32⟩
  | .hbm, ⟨17, _⟩ => ⟨S8x1x1024, .f32⟩
  | .hbm, ⟨18, _⟩ => ⟨S1x1024, .f32⟩
  | .hbm, ⟨19, _⟩ => ⟨S1x1x1024, .f32⟩
  | .hbm, ⟨20, _⟩ => ⟨S32768x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S2048x1024, .f32⟩
  | .hbm, ⟨26, _⟩ => ⟨S8x256x1024, .f32⟩
  | .hbm, ⟨27, _⟩ => ⟨S8x256x1024, .f32⟩
  | .hbm, ⟨28, _⟩ => ⟨S8x256x1024, .f32⟩
  | .hbm, ⟨29, _⟩ => ⟨S8x256x1024, .f32⟩
  | .hbm, ⟨30, _⟩ => ⟨S32768x1024, .f32⟩
  | .hbm, ⟨31, _⟩ => ⟨S2048x1024, .f32⟩
  | .hbm, ⟨32, _⟩ => ⟨S34816x1024, .f32⟩
  | _, _ => ⟨S4x34816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel10.lean ====
abbrev S34816x3072 : Shape := ⟨2, ![34816, 3072]⟩
abbrev S3x3072 : Shape := ⟨2, ![3, 3072]⟩
abbrev S3072 : Shape := ⟨1, ![3072]⟩
abbrev S1x3072 : Shape := ⟨2, ![1, 3072]⟩
abbrev S32768x1024 : Shape := ⟨2, ![32768, 1024]⟩
abbrev S4096x128 : Shape := ⟨2, ![4096, 128]⟩
abbrev S3x128 : Shape := ⟨2, ![3, 128]⟩
abbrev S1x128 : Shape := ⟨2, ![1, 128]⟩
abbrev S4096x1 : Shape := ⟨2, ![4096, 1]⟩

abbrev nBuf : Space → Nat
  | .hbm => 6
  | .vmem => 22
  | .smem => 0
  | _ => 0

abbrev bufTy : (tb : Table) → Fin (tcTables nBuf tb) → BufTy
  | .hbm, ⟨0, _⟩ => ⟨S34816x3072, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S32768x1024, .f32⟩
  | .hbm, ⟨5, _⟩ => ⟨S32768x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | _, _ => ⟨S34816x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference10Ideal.lean ====
abbrev S34816x3072 : Shape := ⟨2, ![34816, 3072]⟩
abbrev S3x3072 : Shape := ⟨2, ![3, 3072]⟩
abbrev S3072 : Shape := ⟨1, ![3072]⟩
abbrev S32768x3072 : Shape := ⟨2, ![32768, 3072]⟩
abbrev S8x4096x3072 : Shape := ⟨3, ![8, 4096, 3072]⟩
abbrev S_ : Shape := ⟨0, ![]⟩
abbrev S8x4098x3072 : Shape := ⟨3, ![8, 4098, 3072]⟩
abbrev S1x3072 : Shape := ⟨2, ![1, 3072]⟩
abbrev S1x1x3072 : Shape := ⟨3, ![1, 1, 3072]⟩
abbrev S8x4096x1024 : Shape := ⟨3, ![8, 4096, 1024]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S34816x3072, .f32⟩
  | .hbm, ⟨1, _⟩ => ⟨S3x3072, .f32⟩
  | .hbm, ⟨2, _⟩ => ⟨S3072, .f32⟩
  | .hbm, ⟨3, _⟩ => ⟨S32768x3072, .f32⟩
  | .hbm, ⟨4, _⟩ => ⟨S8x4096x3072, .f32⟩
  | .hbm, ⟨5, _⟩ => ⟨S_, .i32⟩
  | .hbm, ⟨6, _⟩ => ⟨S_, .f32⟩
  | .hbm, ⟨7, _⟩ => ⟨S8x4098x3072, .f32⟩
  | .hbm, ⟨8, _⟩ => ⟨S8x4096x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S8x4096x3072, .f32⟩
  | .hbm, ⟨13, _⟩ => ⟨S8x4096x3072, .f32⟩
  | .hbm, ⟨14, _⟩ => ⟨S_, .f32⟩
  | .hbm, ⟨15, _⟩ => ⟨S8x4096x3072, .f32⟩
  | .hbm, ⟨16, _⟩ => ⟨S8x4096x3072, .f32⟩
  | .hbm, ⟨17, _⟩ => ⟨S8x4096x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S8x4096x3072, .f32⟩
  | .hbm, ⟨22, _⟩ => ⟨S8x4096x3072, .f32⟩
  | .hbm, ⟨23, _⟩ => ⟨S8x4096x3072, .f32⟩
  | .hbm, ⟨24, _⟩ => ⟨S8x4096x3072, .f32⟩
  | .hbm, ⟨25, _⟩ => ⟨S1x3072, .f32⟩
  | .hbm, ⟨26, _⟩ => ⟨S3072, .f32⟩
  | .hbm, ⟨27, _⟩ => ⟨S1x1x3072, .f32⟩
  | .hbm, ⟨28, _⟩ => ⟨S8x4096x3072, .f32⟩
  | .hbm, ⟨29, _⟩ => ⟨S8x4096x3072, .f32⟩
  | .hbm, ⟨30, _⟩ => ⟨S8x4096x3072, .f32⟩
  | .hbm, ⟨31, _⟩ => ⟨S1x1x3072, .f32⟩
  | .hbm, ⟨32, _⟩ => ⟨S8x4096x3072, .f32⟩
  | .hbm, ⟨33, _⟩ => ⟨S8x4096x3072, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S32768x1024, .f32⟩
  | .hbm, ⟨39, _⟩ => ⟨S32768x1024, .f32⟩
  | _, _ => ⟨S34816x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Proof.Exp.Host.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The look-up tables the host prepares, as functions of the counts -/

/-- Floor division by 512, entry by entry, as the host computes it. -/
def floor512 {s : Shape} (h : S_.BroadcastsInDim s ![]) (x : IVec s 32) : IVec s 32 :=
  select (andi (cmpi .ne (signi x) (broadcastInDim s ![] h (signi (constantI S_ 32 512#32))))
      (cmpi .ne (Host.remsi x (broadcastInDim s ![] h (constantI S_ 32 512#32))) (broadcastInDim s ![] h (constantI S_ 32 0#32))))
    (subi (Host.divsi x (broadcastInDim s ![] h (constantI S_ 32 512#32))) (broadcastInDim s ![] h (constantI S_ 32 1#32)))
    (Host.divsi x (broadcastInDim s ![] h (constantI S_ 32 512#32)))

/-- Each expert's count of rows, rounded up to whole tiles. -/
def padded (x : IVec S32 32) : IVec S32 32 :=
  muli (floor512 bcast_S_S32 (subi (addi x (broadcastInDim S32 ![] bcast_S_S32 (constantI S_ 32 512#32))) (broadcastInDim S32 ![] bcast_S_S32 (constantI S_ 32 1#32))))
    (broadcastInDim S32 ![] bcast_S_S32 (constantI S_ 32 512#32))

/-- Where each expert's padded rows end. -/
def padEnd (x : IVec S32 32) : IVec S32 32 :=
  Host.reduceWindow IntOp.addi ![32] ![1] ![31] ![0] (padded x) (broadcastInDim S_ ![] bcast_S_S_ (constantI S_ 32 0#32)) reduceWindows_S32_S32_w32s1p31_0 h_S_

/-- The expert each tile of rows belongs to. -/
def tileE (x : IVec S32 32) : IVec S304 32 :=
  minsi (Host.reduce IntOp.addi (extui 32 (cmpi .sle
      (broadcastInDim S304x32 ![0, 1] bcast_S1x32_S304x32_0_1 (broadcastInDim S1x32 ![1] bcast_S32_S1x32_1 (padEnd x)))
      (broadcastInDim S304x32 ![0, 1] bcast_S304x1_S304x32_0_1 (broadcastInDim S304x1 ![0] bcast_S304_S304x1_0
        (muli (iotaInDim S304 32 0) (broadcastInDim S304 ![] bcast_S_S304 (constantI S_ 32 512#32)))))) natLt_1_32)
      (constantI S_ 32 0#32) reducesTo_S304x32_S304_d1 h_S_)
    (broadcastInDim S304 ![] bcast_S_S304 (constantI S_ 32 31#32))

/-- Whether each tile's expert is another than the tile before it had. -/
def tileNew (x : IVec S32 32) : IVec S304 32 :=
  concatenate S304 0 [⟨S1, broadcastInDim S1 ![] bcast_S_S1 (constantI S_ 32 1#32)⟩,
    ⟨S303, extui 32 (cmpi .ne (extractStridedSlice S303 ![1] (tileE x) slices_S304_S303_1) (extractStridedSlice S303 ![0] (tileE x) slices_S304_S303_0)) natLt_1_32⟩]
    concatenates_S1_S303_S304_d0

/-- How many tiles hold rows. -/
def nUsed (x : IVec S32 32) : IVec S1 32 :=
  floor512 bcast_S_S1 (extractStridedSlice S1 ![31] (padEnd x) slices_S32_S1_31)

/-! ## The buffers when the call is entered -/

section Stretches

variable (W : Valuation τ sig (Elt F))

/-- After the first stretch: the counts plus 511, and the divisor. -/
theorem read_v3 : StableHlo.after hostOps0 W (Proc.devRef .tc main_v3)
    = subi (addi (W (Proc.devRef .tc main_arg0)) (broadcastInDim S32 ![] bcast_S_S32 (constantI S_ 32 512#32))) (broadcastInDim S32 ![] bcast_S_S32 (constantI S_ 32 1#32)) := by
  unfold hostOps0
  after_results_simp
theorem read_c1 : StableHlo.after hostOps0 W (Proc.devRef .tc main_c_1) = constantI S_ 32 512#32 := by
  unfold hostOps0
  after_results_simp
/-- After the second: their quotient. -/
theorem read_v4 (h : W (Proc.devRef .tc main_c_1) = constantI S_ 32 512#32) :
    StableHlo.after hostOps0_1 W (Proc.devRef .tc main_v4) = floor512 bcast_S_S32 (W (Proc.devRef .tc main_v3)) := by
  unfold hostOps0_1
  after_results_simp
  simp only [StableHlo.TRef.toBuf, StableHlo.TRef.ofBuf, cast_cast, cast_eq]
  rw [h]; rfl
/-- After the third: the padded counts. -/
theorem read_v6 : StableHlo.after hostOps0_2 W (Proc.devRef .tc main_v6)
    = muli (W (Proc.devRef .tc main_v4)) (broadcastInDim S32 ![] bcast_S_S32 (constantI S_ 32 512#32)) := by
  unfold hostOps0_2
  after_results_simp
/-- After the fourth: where the padded rows end. -/
theorem read_v7 : StableHlo.after hostOps0_3 W (Proc.devRef .tc main_v7)
    = Host.reduceWindow IntOp.addi ![32] ![1] ![31] ![0] (W (Proc.devRef .tc main_v6)) (broadcastInDim S_ ![] bcast_S_S_ (constantI S_ 32 0#32)) reduceWindows_S32_S32_w32s1p31_0 h_S_ := by
  unfold hostOps0_3
  after_results_simp
  simp only [StableHlo.TRef.toBuf, StableHlo.TRef.ofBuf, cast_cast, cast_eq]
/-- After the fifth: the tables of tiles, the last end and the divisor. -/
theorem read_v20 (x : IVec S32 32) (h : W (Proc.devRef .tc main_v7) = padEnd x) : StableHlo.after hostOps0_4 W (Proc.devRef .tc main_v20) = tileE x := by
  unfold hostOps0_4
  after_results_simp
  rw [h]; rfl
theorem read_v26 (x : IVec S32 32) (h : W (Proc.devRef .tc main_v7) = padEnd x) : StableHlo.after hostOps0_4 W (Proc.devRef .tc main_v26) = tileNew x := by
  unfold hostOps0_4
  after_results
  rw [h]; rfl
theorem read_v27 : StableHlo.after hostOps0_4 W (Proc.devRef .tc main_v27) = extractStridedSlice S1 ![31] (W (Proc.devRef .tc main_v7)) slices_S32_S1_31 := by
  unfold hostOps0_4
  after_results_simp
theorem read_c7 : StableHlo.after hostOps0_4 W (Proc.devRef .tc main_c_7) = constantI S_ 32 512#32 := by
  unfold hostOps0_4
  after_results_simp
/-- After the sixth: the number of tiles that hold rows. -/
theorem read_v28 (h : W (Proc.devRef .tc main_c_7) = constantI S_ 32 512#32) :
    StableHlo.after hostOps0_5 W (Proc.devRef .tc main_v28) = floor512 bcast_S_S1 (W (Proc.devRef .tc main_v27)) := by
  unfold hostOps0_5
  after_results_simp
  simp only [StableHlo.TRef.toBuf, StableHlo.TRef.ofBuf, cast_cast, cast_eq]
  rw [h]; rfl
/-- After the last: the biases with a unit axis. -/
theorem read_v29 : StableHlo.after hostOps0_6 W (Proc.devRef .tc main_v29) = shapeCast S32x1x2048 (W (Proc.devRef .tc main_arg3)) shapeCasts_S32x2048_S32x1x2048 := by
  unfold hostOps0_6
  after_results_simp
  rfl
theorem read_v30 : StableHlo.after hostOps0_6 W (Proc.devRef .tc main_v30) = shapeCast S32x1x1024 (W (Proc.devRef .tc main_arg5)) shapeCasts_S32x1024_S32x1x1024 := by
  unfold hostOps0_6
  after_results_simp
  rfl

/-- What the stretches write, in order. -/
def wr0 : List (Ref sig .tc) := [main_c, main_v0, main_v1, main_c_0, main_v2, main_v3, main_c_1]
def wr1 : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]
def wr2 : List (Ref sig .tc) := [main_c_2, main_v5, main_v6]
def wr3 : List (Ref sig .tc) := [main_call1_call0_c, main_call1_call0_v0, main_v7]
def wr4 : List (Ref sig .tc) := [main_v8, main_v9, main_c_3, main_v10, main_v11, main_v12, main_v13, main_v14, main_v15, main_v16, main_v17, main_c_4, main_v18, main_c_5, main_v19, main_v20, main_c_6, main_v21, main_v22, main_v23, main_v24, main_v25, main_v26, main_v27, main_c_7]
def wr5 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v28]
def wr6 : List (Ref sig .tc) := [main_v29, main_v30]

theorem keep0 {r : Ref sig .tc} (h : r ∉ wr0) : StableHlo.after hostOps0 W (Proc.devRef .tc r) = W (Proc.devRef .tc r) :=
  StableHlo.after_of_writes_sub _ W (StableHlo.forall_writes_sub_of_map (W := wr0) rfl) h
theorem keep1 {r : Ref sig .tc} (h : r ∉ wr1) : StableHlo.after hostOps0_1 W (Proc.devRef .tc r) = W (Proc.devRef .tc r) :=
  StableHlo.after_of_writes_sub _ W (StableHlo.forall_writes_sub_of_map (W := wr1) rfl) h
theorem keep2 {r : Ref sig .tc} (h : r ∉ wr2) : StableHlo.after hostOps0_2 W (Proc.devRef .tc r) = W (Proc.devRef .tc r) :=
  StableHlo.after_of_writes_sub _ W (StableHlo.forall_writes_sub_of_map (W := wr2) rfl) h
theorem keep3 {r : Ref sig .tc} (h : r ∉ wr3) : StableHlo.after hostOps0_3 W (Proc.devRef .tc r) = W (Proc.devRef .tc r) :=
  StableHlo.after_of_writes_sub _ W (StableHlo.forall_writes_sub_of_map (W := wr3) rfl) h
theorem keep4 {r : Ref sig .tc} (h : r ∉ wr4) : StableHlo.after hostOps0_4 W (Proc.devRef .tc r) = W (Proc.devRef .tc r) :=
  StableHlo.after_of_writes_sub _ W (StableHlo.forall_writes_sub_of_map (W := wr4) rfl) h
theorem keep5 {r : Ref sig .tc} (h : r ∉ wr5) : StableHlo.after hostOps0_5 W (Proc.devRef .tc r) = W (Proc.devRef .tc r) :=
  StableHlo.after_of_writes_sub _ W (StableHlo.forall_writes_sub_of_map (W := wr5) rfl) h
theorem keep6 {r : Ref sig .tc} (h : r ∉ wr6) : StableHlo.after hostOps0_6 W (Proc.devRef .tc r) = W (Proc.devRef .tc r) :=
  StableHlo.after_of_writes_sub _ W (StableHlo.forall_writes_sub_of_map (W := wr6) rfl) h

end Stretches

/-- The host's stretches before the call. -/
def stretches : List (List (HloOp τ sig (Elt F))) := [hostOps0, hostOps0_1, hostOps0_2, hostOps0_3, hostOps0_4, hostOps0_5, hostOps0_6]

variable (m : (ℓ : Loc nD τ sig) → Buf (Elt F) ℓ) (ρ : Dev nD → PrngReg)

/-- What a buffer holds when the call is entered. -/
def V (c : Dev nD) (b : Ref sig .tc) : Buf (Elt F) ((c : Thread nD τ).loc b) :=
  StableHlo.after (stretches (F := F)).flatten (fun b => m (c, b)) (Proc.devRef .tc b)

/-- The stretches one after another. -/
theorem V_eq (c : Dev nD) (b : Ref sig .tc) : V m c b
    = StableHlo.after hostOps0_6 (StableHlo.after hostOps0_5 (StableHlo.after hostOps0_4 (StableHlo.after hostOps0_3 (StableHlo.after hostOps0_2 (StableHlo.after hostOps0_1 (StableHlo.after hostOps0 (fun b => m (c, b)))))))) (Proc.devRef .tc b) := by
  unfold V stretches
  rw [List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append]

/-- A buffer that no stretch writes is as launched. -/
theorem V_keep (c : Dev nD) {b : Ref sig .tc} (h : b ∉ wr0 ++ wr1 ++ wr2 ++ wr3 ++ wr4 ++ wr5 ++ wr6) : V m c b = m ((c : Thread nD τ).loc b) := by
  simp only [List.mem_append, not_or] at h
  obtain ⟨⟨⟨⟨⟨⟨h0, h1⟩, h2⟩, h3⟩, h4⟩, h5⟩, h6⟩ := h
  rw [V_eq, keep6 _ h6, keep5 _ h5, keep4 _ h4, keep3 _ h3, keep2 _ h2, keep1 _ h1, keep0 _ h0]

theorem V_arg0 (c : Dev nD) : V m c main_arg0 = m ((c : Thread nD τ).loc main_arg0) := V_keep m c (by decide)
theorem V_arg1 (c : Dev nD) : V m c main_arg1 = m ((c : Thread nD τ).loc main_arg1) := V_keep m c (by decide)
theorem V_arg2 (c : Dev nD) : V m c main_arg2 = m ((c : Thread nD τ).loc main_arg2) := V_keep m c (by decide)
theorem V_arg3 (c : Dev nD) : V m c main_arg3 = m ((c : Thread nD τ).loc main_arg3) := V_keep m c (by decide)
theorem V_arg4 (c : Dev nD) : V m c main_arg4 = m ((c : Thread nD τ).loc main_arg4) := V_keep m c (by decide)
theorem V_arg5 (c : Dev nD) : V m c main_arg5 = m ((c : Thread nD τ).loc main_arg5) := V_keep m c (by decide)

/-- Where the padded rows end, after the fourth stretch. -/
theorem padEnd_after (W : Valuation τ sig (Elt F)) :
    StableHlo.after hostOps0_3 (StableHlo.after hostOps0_2 (StableHlo.after hostOps0_1 (StableHlo.after hostOps0 W))) (Proc.devRef .tc main_v7)
      = padEnd (W (Proc.devRef .tc main_arg0)) := by
  rw [read_v7, read_v6, read_v4 _ (read_c1 W), read_v3]; rfl

/-- The three tables. -/
theorem V_v20 (c : Dev nD) : V m c main_v20 = tileE (m ((c : Thread nD τ).loc main_arg0)) := by
  rw [V_eq, keep6 _ (by decide), keep5 _ (by decide), read_v20 _ _ (padEnd_after _)]
theorem V_v26 (c : Dev nD) : V m c main_v26 = tileNew (m ((c : Thread nD τ).loc main_arg0)) := by
  rw [V_eq, keep6 _ (by decide), keep5 _ (by decide), read_v26 _ _ (padEnd_after _)]
theorem V_v28 (c : Dev nD) : V m c main_v28 = nUsed (m ((c : Thread nD τ).loc main_arg0)) := by
  rw [V_eq, keep6 _ (by decide), read_v28 _ (read_c7 _), read_v27, padEnd_after]; rfl
/-- The biases. -/
theorem V_v29 (c : Dev nD) : V m c main_v29 = shapeCast S32x1x2048 (m ((c : Thread nD τ).loc main_arg3)) shapeCasts_S32x2048_S32x1x2048 := by
  rw [V_eq, read_v29, keep5 _ (by decide), keep4 _ (by decide), keep3 _ (by decide), keep2 _ (by decide), keep1 _ (by decide), keep0 _ (by decide)]
theorem V_v30 (c : Dev nD) : V m c main_v30 = shapeCast S32x1x1024 (m ((c : Thread nD τ).loc main_arg5)) shapeCasts_S32x1024_S32x1x1024 := by
  rw [V_eq, read_v30, keep5 _ (by decide), keep4 _ (by decide), keep3 _ (by decide), keep2 _ (by decide), keep1 _ (by decide), keep0 _ (by decide)]

/-- @main up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches
    ⟨hostOps0_sub, hostOps0_1_sub, hostOps0_2_sub, hostOps0_3_sub, hostOps0_4_sub, hostOps0_5_sub, hostOps0_6_sub⟩
    ⟨⟨rfl, rfl, rfl, rfl, rfl, rfl, rfl⟩, ⟨rfl, rfl, rfl, rfl, rfl, rfl, rfl, rfl, rfl, rfl, rfl, rfl, rfl, rfl, rfl, rfl, rfl⟩, ⟨rfl, rfl, rfl⟩, ⟨rfl, rfl, rfl⟩, ⟨rfl, rfl, rfl, rfl, rfl, rfl, rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl, rfl, rfl, rfl⟩, ⟨rfl, rfl⟩⟩ fun c => (main_chain c).trans rfl

end Cert.KernelIdeal.Exp
end
-- ==== Proof.Exp.Words.lean ====
module

public import proofs.«01_k».proof.Proof.Exp.Host
public import Idealize.ShloMosaic.Lib.Routing.OpsOne
public import Idealize.ShloMosaic.Lib.ValueIdxCore
public import Idealize.ShloMosaic.Lib.WordCmp
public import Idealize.ShloMosaic.Lib.Pipeline.Value

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.Routing Idealize.ShloMosaic.WordCmp
open Cert.KernelIdeal.Gen

variable {F : FTy → Type} [FloatOps F]

local notation "𝕄" => MT nD τ sig Unit (Elt F) ℕ (UR sig nD τ) ℕ

/-! ## What the host's look-up tables hold -/

/-- A multiple of 512 as a word. -/
def Mul512 (w : BitVec 32) : Prop := w.toNat % 512 = 0

theorem mul512_add {a b : BitVec 32} (ha : Mul512 a) (hb : Mul512 b) : Mul512 (a + b) := by
  unfold Mul512 at *; rw [BitVec.toNat_add]; omega

/-- Every padded count is a multiple of 512. -/
theorem padded_mul (x : IVec S32 32) (i : S32.Idx) : Mul512 (padded x i) := by
  show Mul512 (_ * 512#32)
  unfold Mul512; rw [BitVec.toNat_mul, show (512#32 : BitVec 32).toNat = 512 from rfl]; omega

/-- So is the place where each expert's rows end. -/
theorem padEnd_mul (x : IVec S32 32) (j : Fin 32) : Mul512 (padEnd x (ix1 j)) := by
  unfold padEnd
  rw [show Host.reduceWindow IntOp.addi ![32] ![1] ![31] ![0] (padded x) (broadcastInDim S_ ![] bcast_S_S_ (constantI S_ 32 0#32)) reduceWindows_S32_S32_w32s1p31_0 h_S_ (ix1 j)
    = ∑ i : Fin 32, if i ≤ j then padded x (ix1 i) else 0 from cumsum_vec (by decide) (padded x) _ rfl _ _ j]
  refine Finset.sum_induction _ Mul512 (fun _ _ => mul512_add) rfl fun i _ => ?_
  by_cases h : i ≤ j
  · rw [if_pos h]; exact padded_mul x _
  · rw [if_neg h]; rfl

open Classical in
/-- The expert a row belongs to, from where the experts' rows end. -/
def expertOf (p : IVec (shape1 32) 32) (s : Nat) : Nat :=
  min (Nat.count (fun q => ∃ h : q < 32, (p (ix1 ⟨q, h⟩)).toInt ≤ (s : ℤ)) 32) 31

theorem expertOf_lt (p : IVec (shape1 32) 32) (s : Nat) : expertOf p s < 32 := by
  unfold expertOf; omega

theorem minsi_31 (n : Nat) (hn : n ≤ 32) : IntOp.minsi (BitVec.ofNat 32 n) 31#32 = BitVec.ofNat 32 (min n 31) := by
  interval_cases n <;> decide

/-- Where a block's rows start. -/
theorem row_start {n B : Nat} (b5 : shape0.BroadcastsInDim (shape1 n) (![] : Fin 0 → Fin (shape1 n).rank)) (t : Fin n) :
    muli (iotaInDim (shape1 n) 32 0) (broadcastInDim (shape1 n) ![] b5 (constantI shape0 32 (BitVec.ofNat 32 B))) (ix1 t) = BitVec.ofNat 32 t.val * BitVec.ofNat 32 B :=
  congrArg (fun z => BitVec.ofNat 32 t.val * z) (bc0 b5 _ _)

open Classical in
/-- The host's count of the ends a block's first row has reached, clamped, is that expert. -/
theorem expert_word {n B : Nat} (hB : n * B ≤ 2 ^ 31) (p : IVec (shape1 32) 32)
    (b1 : (shape1 32).BroadcastsInDim (shape2 1 32) (![1] : Fin 1 → Fin (shape2 1 32).rank))
    (b2 : (shape2 1 32).BroadcastsInDim (shape2 n 32) (![0, 1] : Fin 2 → Fin (shape2 n 32).rank))
    (b3 : (shape1 n).BroadcastsInDim (shape2 n 1) (![0] : Fin 1 → Fin (shape2 n 1).rank))
    (b4 : (shape2 n 1).BroadcastsInDim (shape2 n 32) (![0, 1] : Fin 2 → Fin (shape2 n 32).rank))
    (b5 b6 : shape0.BroadcastsInDim (shape1 n) (![] : Fin 0 → Fin (shape1 n).rank))
    (hw : 1 < 32) (h : (shape2 n 32).ReducesTo [1] (shape1 n)) (hu : 0 < shape0.numel) (t : Fin n) :
    minsi (Host.reduce IntOp.addi (extui 32 (cmpi .sle
        (broadcastInDim (shape2 n 32) ![0, 1] b2 (broadcastInDim (shape2 1 32) ![1] b1 p))
        (broadcastInDim (shape2 n 32) ![0, 1] b4 (broadcastInDim (shape2 n 1) ![0] b3
          (muli (iotaInDim (shape1 n) 32 0) (broadcastInDim (shape1 n) ![] b5 (constantI shape0 32 (BitVec.ofNat 32 B))))))) hw)
        (constantI shape0 32 0#32) h hu)
      (broadcastInDim (shape1 n) ![] b6 (constantI shape0 32 31#32)) (ix1 t) = BitVec.ofNat 32 (expertOf p (t.val * B)) := by
  show IntOp.minsi (Host.reduce IntOp.addi _ _ h hu (ix1 t)) (broadcastInDim (shape1 n) ![] b6 (constantI shape0 32 31#32) (ix1 t)) = _
  rw [reduce_count (by decide) _ hw h hu t (fun q => ∃ h : q < 32, (p (ix1 ⟨q, h⟩)).toInt ≤ ((t.val * B : Nat) : ℤ)) ?_, bc0]
  · exact minsi_31 _ (Nat.count_le _)
  · intro q
    refine (iff_of_eq (congrArg (· = 1#1) (congrArg₂ (IntOp.cmpi .sle) (bcCols b1 b2 p t q) ((bcRows b3 b4 _ t q).trans (row_start b5 t))))).trans ?_
    have hlt : t.val * B < 2 ^ 31 := by
      rcases Nat.eq_zero_or_pos B with h0 | h0
      · subst h0; simp
      · exact lt_of_lt_of_le (Nat.mul_lt_mul_of_pos_right t.isLt h0) hB
    rw [← BitVec.ofNat_mul, cmpi_sle_eq, ofBool_decide_eq_one_iff, toInt_ofNat_of_lt hlt]
    exact ⟨fun h => ⟨q.isLt, h⟩, fun ⟨_, h⟩ => h⟩

/-- A block of rows inside a tile belongs to the tile's expert: the ends are multiples of the tile's height. -/
theorem expertOf_tile (p : IVec (shape1 32) 32) (hp : ∀ j : Fin 32, Mul512 (p (ix1 j))) (s : Nat) :
    expertOf p s = expertOf p (s / 512 * 512) := by
  unfold expertOf
  refine congrArg (fun z => min z 31) ?_
  have e : ∀ q, (∃ h : q < 32, (p (ix1 ⟨q, h⟩)).toInt ≤ (s : ℤ)) ↔ ∃ h : q < 32, (p (ix1 ⟨q, h⟩)).toInt ≤ ((s / 512 * 512 : Nat) : ℤ) := fun q => exists_congr fun h => ?_
  · simp only [e]
  have := hp ⟨q, h⟩
  unfold Mul512 at this
  rw [BitVec.toInt_eq_toNat_cond]
  have hlt := (p (ix1 ⟨q, h⟩)).isLt
  split <;> omega

/-- The tiles' table holds their experts. -/
theorem tileE_word (x : IVec S32 32) (t : Fin 304) : tileE x (ix1 t) = BitVec.ofNat 32 (expertOf (padEnd x) (t.val * 512)) :=
  expert_word (by decide) (padEnd x) bcast_S32_S1x32_1 bcast_S1x32_S304x32_0_1 bcast_S304_S304x1_0 bcast_S304x1_S304x32_0_1 bcast_S_S304 bcast_S_S304 natLt_1_32 reducesTo_S304x32_S304_d1 h_S_ t

/-- The first tile's expert is new. -/
theorem tileNew_zero (x : IVec S32 32) : tileNew x (ix1 (0 : Fin 304)) = 1#32 := by
  unfold tileNew
  generalize tileE x = e
  exact (concatenate_pair_apply_left (t := S304) (s₁ := S1) (s₂ := S303) 0 _ _ concatenates_S1_S303_S304_d0 (ix1 (0 : Fin 304)) rfl (ix1 (0 : Fin 1))
    (fun b => match b with | ⟨0, _⟩ => rfl)).trans rfl

/-- A widened comparison is one where the words differ. -/
theorem new_word (a b : BitVec 32) : (IntOp.cmpi .ne a b).setWidth 32 = 1#32 ↔ a ≠ b := by
  rw [cmpi_ne_eq]
  by_cases h' : a = b
  · rw [decide_eq_false (fun q => q h')]; exact ⟨fun q => absurd q (by decide), fun q => absurd h' q⟩
  · rw [decide_eq_true h']; exact ⟨fun _ => h', fun _ => by decide⟩

/-- One entry put before a vector: a later entry is the vector's. -/
theorem cons_succ {α : Type} (u : S1.Idx → α) (v : S303.Idx → α) (t : Nat) (h : t + 1 < 304) :
    concatenate S304 0 [⟨S1, u⟩, ⟨S303, v⟩] concatenates_S1_S303_S304_d0 (ix1 (⟨t + 1, h⟩ : Fin 304)) = v (ix1 (⟨t, by omega⟩ : Fin 303)) :=
  concatenate_pair_apply_right (t := S304) (s₁ := S1) (s₂ := S303) 0 u v concatenates_S1_S303_S304_d0 (ix1 (⟨t + 1, h⟩ : Fin 304)) rfl rfl (ix1 (⟨t, by omega⟩ : Fin 303))
    (fun b hb => absurd (Subsingleton.elim (α := Fin 1) _ _) hb) rfl

/-- A vector's neighbours compared. -/
theorem ne_next (e : IVec S304 32) (t : Nat) (h : t + 1 < 304) :
    extui 32 (cmpi .ne (extractStridedSlice S303 ![1] e slices_S304_S303_1) (extractStridedSlice S303 ![0] e slices_S304_S303_0)) natLt_1_32 (ix1 (⟨t, by omega⟩ : Fin 303))
      = (IntOp.cmpi .ne (e (ix1 (⟨t + 1, h⟩ : Fin 304))) (e (ix1 (⟨t, by omega⟩ : Fin 304)))).setWidth 32 := by
  have e1 : extractStridedSlice S303 ![1] e slices_S304_S303_1 (ix1 (⟨t, by omega⟩ : Fin 303)) = e (ix1 (⟨t + 1, h⟩ : Fin 304)) :=
    (slice1 1 e slices_S304_S303_1 (⟨t, by omega⟩ : Fin 303) (by show 1 + t < 304; omega)).trans
      (congrArg (fun k : Fin 304 => e (ix1 k)) (Fin.ext (by show 1 + t = t + 1; omega)))
  have e2 : extractStridedSlice S303 ![0] e slices_S304_S303_0 (ix1 (⟨t, by omega⟩ : Fin 303)) = e (ix1 (⟨t, by omega⟩ : Fin 304)) :=
    (slice1 0 e slices_S304_S303_0 (⟨t, by omega⟩ : Fin 303) (by show 0 + t < 304; omega)).trans
      (congrArg (fun k : Fin 304 => e (ix1 k)) (Fin.ext (by show 0 + t = t; omega)))
  exact congrArg (BitVec.setWidth 32) (congrArg₂ (IntOp.cmpi .ne) e1 e2)

/-- A later tile's is where it differs from the tile before. -/
theorem tileNew_succ (x : IVec S32 32) (t : Nat) (h : t + 1 < 304) :
    tileNew x (ix1 (⟨t + 1, h⟩ : Fin 304)) = 1#32 ↔ tileE x (ix1 (⟨t + 1, h⟩ : Fin 304)) ≠ tileE x (ix1 (⟨t, by omega⟩ : Fin 304)) := by
  unfold tileNew
  rw [cons_succ, ne_next _ t h]
  exact new_word _ _

/-- Dividing a multiple of 512 down by 512 is exact. -/
theorem floor_word (w : BitVec 32) (hw : Mul512 w) (t : Nat) (ht : t < 2 ^ 20) (r : Nat) (hr : r / 512 = t) :
    (BitVec.ofNat 32 t).slt (Scalar.select (IntOp.andi (IntOp.cmpi .ne (if w = 0 then 0 else if w.msb then -1 else 1) 1#32) (IntOp.cmpi .ne (IntOp.remsi .host w 512#32) 0#32))
      (IntOp.divsi .host w 512#32 - 1#32) (IntOp.divsi .host w 512#32)) = true ↔ (BitVec.ofNat 32 r).slt w = true := by
  have hi : w.toInt = 512 * (w.toInt / 512) := by
    unfold Mul512 at hw
    have hlt := w.isLt
    rw [BitVec.toInt_eq_toNat_cond]
    split <;> omega
  have hb := BitVec.toInt_lt (x := w)
  have hb' := BitVec.le_toInt (x := w)
  have hc : ¬ IntOp.SDivCorner w 512#32 := by
    rintro (h | ⟨-, h⟩) <;> exact absurd h (by decide)
  have hrem : IntOp.remsi .host w 512#32 = 0#32 := by
    unfold IntOp.remsi; rw [if_neg hc]
    apply BitVec.eq_of_toInt_eq
    rw [BitVec.toInt_srem, show (512#32 : BitVec 32).toInt = 512 from by decide, show (0#32 : BitVec 32).toInt = 0 from by decide, hi]
    exact Int.mul_tmod_right _ _
  have hdiv : (IntOp.divsi .host w 512#32).toInt = w.toInt / 512 := by
    unfold IntOp.divsi; rw [if_neg hc, BitVec.toInt_sdiv_of_ne_or_ne _ _ (Or.inr (by decide)), show (512#32 : BitVec 32).toInt = 512 from by decide]
    conv_lhs => rw [hi]
    exact Int.mul_tdiv_cancel_left _ (by decide)
  rw [hrem, show IntOp.cmpi .ne (0#32 : BitVec 32) 0#32 = 0#1 from by decide]
  have hand : ∀ a : BitVec 1, IntOp.andi a 0#1 = 0#1 := by decide
  rw [hand, show ∀ a b : BitVec 32, Scalar.select (0#1 : BitVec 1) a b = b from fun _ _ => rfl]
  have e1 : ∀ a b : BitVec 32, a.slt b = true ↔ a.toInt < b.toInt := fun a b => by simp [BitVec.slt]
  rw [e1, e1, hdiv, toInt_ofNat_of_lt (by omega), toInt_ofNat_of_lt (by omega)]
  omega

/-- The host's floor division at an entry. -/
theorem floor512_at {s : Shape} (h : S_.BroadcastsInDim s ![]) (x : IVec s 32) (i : s.Idx) :
    floor512 h x i = Scalar.select (IntOp.andi (IntOp.cmpi .ne (if x i = 0 then 0 else if (x i).msb then -1 else 1) 1#32) (IntOp.cmpi .ne (IntOp.remsi .host (x i) 512#32) 0#32))
      (IntOp.divsi .host (x i) 512#32 - 1#32) (IntOp.divsi .host (x i) 512#32) := by
  have e : (if (512#32 : BitVec 32) = 0 then (0 : BitVec 32) else if (512#32 : BitVec 32).msb then -1 else 1) = 1#32 := by decide
  conv_rhs => rw [← e]
  rfl

/-- A tile is among the used ones exactly where its rows lie before the last expert's end. -/
theorem nUsed_word (x : IVec S32 32) (t : Nat) (ht : t < 304) (r : Nat) (hr : r / 512 = t) :
    (BitVec.ofNat 32 t).slt (nUsed x (ix1 (0 : Fin 1))) = true ↔ (BitVec.ofNat 32 r).slt (padEnd x (ix1 (31 : Fin 32))) = true := by
  have e : extractStridedSlice S1 ![31] (padEnd x) slices_S32_S1_31 (ix1 (0 : Fin 1)) = padEnd x (ix1 (31 : Fin 32)) := by
    generalize padEnd x = p
    exact slice1 31 p slices_S32_S1_31 (0 : Fin 1) (by decide)
  unfold nUsed
  rw [floor512_at, e]
  exact floor_word _ (padEnd_mul x 31) t (by omega) r hr

end Cert.KernelIdeal.Exp
end
-- ==== Proof.Exp.Body.lean ====
module

public import proofs.«01_k».proof.Proof.Exp.Host
public import Idealize.ShloMosaic.Lib.VecWindow
public import Idealize.ShloMosaic.Lib.ValueIdxCore

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

/-! ## The call's body on any staging buffers -/

/-- The tables as the body is handed them. -/
abbrev tbM0_0 : Memref sig .tc .smem S304 .i32 := Memref.whole main_v20
abbrev htbM0_0 : tbM0_0.IsWhole := Memref.isWhole_whole _
abbrev tbM0_1 : Memref sig .tc .smem S304 .i32 := Memref.whole main_v26
abbrev htbM0_1 : tbM0_1.IsWhole := Memref.isWhole_whole _
abbrev tbM0_2 : Memref sig .tc .smem S1 .i32 := Memref.whole main_v28
abbrev htbM0_2 : tbM0_2.IsWhole := Memref.isWhole_whole _

/-- A table's contents on core `c`, and the half of it the body holds. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- A table's word. -/
def word304 (c : Dev nD) (xt : TbBuf0 (F := F) c tbM0_1) (t : Fin 304) : BitVec 32 := (show IVec S304 32 from xt) (ix1 t)
def word1 (c : Dev nD) (xt : TbBuf0 (F := F) c tbM0_2) : BitVec 32 := (show IVec S1 32 from xt) (ix1 (0 : Fin 1))

/-! ## What the body leaves, as values -/

/-- The two halves of the columns: the gates' and the linear parts'. -/
def lo2 (a : Vec F S1024x2048 .bf16) : Vec F S1024x1024 .bf16 :=
  fun y => a (ix2 (y 0 : Fin 1024) (⟨(y 1 : Fin 1024).val, (y 1 : Fin 1024).isLt.trans (by decide)⟩ : Fin 2048))
def hi2 (a : Vec F S1024x2048 .bf16) : Vec F S1024x1024 .bf16 :=
  fun y => a (ix2 (y 0 : Fin 1024) (⟨1024 + (y 1 : Fin 1024).val, Nat.add_lt_add_left (y 1 : Fin 1024).isLt 1024⟩ : Fin 2048))
def lo3 (a : Vec F S1x1x2048 .f32) : Vec F S1x1x1024 .f32 :=
  fun y => a (ix3 (y 0 : Fin 1) (y 1 : Fin 1) (⟨(y 2 : Fin 1024).val, (y 2 : Fin 1024).isLt.trans (by decide)⟩ : Fin 2048))
def hi3 (a : Vec F S1x1x2048 .f32) : Vec F S1x1x1024 .f32 :=
  fun y => a (ix3 (y 0 : Fin 1) (y 1 : Fin 1) (⟨1024 + (y 2 : Fin 1024).val, Nat.add_lt_add_left (y 2 : Fin 1024).isLt 1024⟩ : Fin 2048))

/-- What the scratch holds after the point: the expert's weights where the tile's expert is new, else what it held. -/
def wguAfter (w : BitVec 32) (x1 : Vec F S1x1024x2048 .f32) (s0 : Vec F S1024x2048 .bf16) : Vec F S1024x2048 .bf16 :=
  if w = 1#32 then k0_pay1 x1 else s0
def wdnAfter (w : BitVec 32) (x3 : Vec F S1x1024x1024 .f32) (s1 : Vec F S1024x1024 .bf16) : Vec F S1024x1024 .bf16 :=
  if w = 1#32 then k0_pay2 x3 else s1

/-- The output block: the expert applied to the rows where the tile is used, else zeros. -/
def outAfter (t : Fin 304) (n : BitVec 32) (x0 : Vec F S512x1024 .bf16) (x2 : Vec F S1x1x2048 .f32) (x4 : Vec F S1x1x1024 .f32)
    (a0 : Vec F S1024x2048 .bf16) (a1 : Vec F S1024x1024 .bf16) : Vec F S512x1024 .bf16 :=
  if (BitVec.ofNat 32 t.val).slt n then k0_pay4 x0 (lo2 a0) (lo3 x2) (hi2 a0) (hi3 x2) a1 x4 else k0_pay3

/-- The body's conditions read off the words. -/
theorem cond_new (w : BitVec 32) : (Scalar.cmpi .ne (Scalar.extui (Scalar.cmpi .eq w 1#32) : BitVec 32) 0#32 = 1#1) ↔ w = 1#32 := by
  by_cases h : w = 1#32
  · subst h; exact ⟨fun _ => rfl, fun _ => by decide⟩
  · refine ⟨fun h' => absurd h' ?_, fun h' => absurd h' h⟩
    have e : Scalar.cmpi .eq w 1#32 = 0#1 := by
      show BitVec.ofBool (w == 1#32) = 0#1
      rw [beq_eq_false_iff_ne.2 h]; rfl
    rw [e]; decide

theorem cond_used (i : grid0.Coords) (t : Fin 304) (ht : (i 0).val = t.val) (n : BitVec 32) :
    k0_cond2 i n = 1#1 ↔ (BitVec.ofNat 32 t.val).slt n = true := by
  unfold k0_cond2
  rw [ht]
  show Scalar.cmpi .ne (Scalar.extui (BitVec.ofBool ((BitVec.ofNat 32 t.val).slt n)) : BitVec 32) 0#32 = 1#1 ↔ _
  cases (BitVec.ofNat 32 t.val).slt n <;> decide

theorem cond_unused (i : grid0.Coords) (t : Fin 304) (ht : (i 0).val = t.val) (n : BitVec 32) :
    k0_cond3 i n = 1#1 ↔ ¬ (BitVec.ofNat 32 t.val).slt n = true := by
  unfold k0_cond3
  rw [ht]
  have e : Scalar.cmpi .sge (BitVec.ofNat 32 t.val) n = BitVec.ofBool (!(BitVec.ofNat 32 t.val).slt n) := by
    show BitVec.ofBool (n.sle (BitVec.ofNat 32 t.val)) = _
    rw [BitVec.sle_eq_not_slt]
  show Scalar.cmpi .ne (Scalar.extui (Scalar.cmpi .sge (BitVec.ofNat 32 t.val) n) : BitVec 32) 0#32 = 1#1 ↔ _
  rw [e]
  cases (BitVec.ofNat 32 t.val).slt n <;> decide

/-- The scratch after the body, read as a value. -/
theorem read_wgu {κ : Kind} {sp sp' : Space} (M : View sig κ sp S1024x2048 .bf16) (M1 : View sig κ sp' S1x1024x2048 .f32) (f : M.ty.Contents (Elt F)) (g : M1.ty.Contents (Elt F))
    (w : BitVec 32) (x1 : Vec F S1x1024x2048 .f32) (s0 : Vec F S1024x2048 .bf16) (hf : M.read (Elt F) f = s0) (hg : M1.read (Elt F) g = x1) (C : Prop) [Decidable C] (hC : C ↔ w = 1#32) :
    M.read (Elt F) (if hc : C then M.writes (Elt F) f
      [⟨Rect.unit (s := S1024x2048) ![0, 0] S1024x2048.size inb_S1024x2048_S1024x2048_0_0, k0_pay1 (M1.readAt (Elt F) (Rect.unit (s := S1x1024x2048) ![0, 0, 0] S1x1024x2048.size inb_S1x1024x2048_S1x1024x2048_0_0_0).toLoadRect g)⟩]
      else f) = wguAfter w x1 s0 := by
  unfold wguAfter
  by_cases h : C
  · rw [dif_pos h, if_pos (hC.1 h)]
    refine (View.read_writes_full M f _ _ _).trans (congrArg k0_pay1 ?_)
    exact (View.readAt_full M1 g _).trans hg
  · rw [dif_neg h, if_neg fun q => h (hC.2 q), hf]
theorem read_wdn {κ : Kind} {sp sp' : Space} (M : View sig κ sp S1024x1024 .bf16) (M1 : View sig κ sp' S1x1024x1024 .f32) (f : M.ty.Contents (Elt F)) (g : M1.ty.Contents (Elt F))
    (w : BitVec 32) (x3 : Vec F S1x1024x1024 .f32) (s1 : Vec F S1024x1024 .bf16) (hf : M.read (Elt F) f = s1) (hg : M1.read (Elt F) g = x3) (C : Prop) [Decidable C] (hC : C ↔ w = 1#32) :
    M.read (Elt F) (if hc : C then M.writes (Elt F) f
      [⟨Rect.unit (s := S1024x1024) ![0, 0] S1024x1024.size inb_S1024x1024_S1024x1024_0_0, k0_pay2 (M1.readAt (Elt F) (Rect.unit (s := S1x1024x1024) ![0, 0, 0] S1x1024x1024.size inb_S1x1024x1024_S1x1024x1024_0_0_0).toLoadRect g)⟩]
      else f) = wdnAfter w x3 s1 := by
  unfold wdnAfter
  by_cases h : C
  · rw [dif_pos h, if_pos (hC.1 h)]
    refine (View.read_writes_full M f _ _ _).trans (congrArg k0_pay2 ?_)
    exact (View.readAt_full M1 g _).trans hg
  · rw [dif_neg h, if_neg fun q => h (hC.2 q), hf]

/-- Loads of halves. -/
theorem load_lo2 {κ : Kind} {sp : Space} (M : View sig κ sp S1024x2048 .bf16) (f : M.ty.Contents (Elt F)) (a : Vec F S1024x2048 .bf16) (h : M.read (Elt F) f = a) :
    M.readAt (Elt F) (Rect.unit (s := S1024x2048) ![0, 0] S1024x1024.size inb_S1024x2048_S1024x1024_0_0).toLoadRect f = lo2 a := by
  subst h
  funext y
  refine congrArg (M.read (Elt F) f) (funext fun b => Fin.ext ?_)
  match b with
  | ⟨0, _⟩ => show 0 + 1 * (y 0).val = (y 0).val; omega
  | ⟨1, _⟩ => show 0 + 1 * (y 1).val = (y 1).val; omega
theorem load_hi2 {κ : Kind} {sp : Space} (M : View sig κ sp S1024x2048 .bf16) (f : M.ty.Contents (Elt F)) (a : Vec F S1024x2048 .bf16) (h : M.read (Elt F) f = a) :
    M.readAt (Elt F) (Rect.unit (s := S1024x2048) ![0, 1024] S1024x1024.size inb_S1024x2048_S1024x1024_0_1024).toLoadRect f = hi2 a := by
  subst h
  funext y
  refine congrArg (M.read (Elt F) f) (funext fun b => Fin.ext ?_)
  match b with
  | ⟨0, _⟩ => show 0 + 1 * (y 0).val = (y 0).val; omega
  | ⟨1, _⟩ => show 1024 + 1 * (y 1).val = 1024 + (y 1).val; omega
theorem load_lo3 {κ : Kind} {sp : Space} (M : View sig κ sp S1x1x2048 .f32) (f : M.ty.Contents (Elt F)) (a : Vec F S1x1x2048 .f32) (h : M.read (Elt F) f = a) :
    M.readAt (Elt F) (Rect.unit (s := S1x1x2048) ![0, 0, 0] S1x1x1024.size inb_S1x1x2048_S1x1x1024_0_0_0).toLoadRect f = lo3 a := by
  subst h
  funext y
  refine congrArg (M.read (Elt F) f) (funext fun b => Fin.ext ?_)
  match b with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem load_hi3 {κ : Kind} {sp : Space} (M : View sig κ sp S1x1x2048 .f32) (f : M.ty.Contents (Elt F)) (a : Vec F S1x1x2048 .f32) (h : M.read (Elt F) f = a) :
    M.readAt (Elt F) (Rect.unit (s := S1x1x2048) ![0, 0, 1024] S1x1x1024.size inb_S1x1x2048_S1x1x1024_0_0_1024).toLoadRect f = hi3 a := by
  subst h
  funext y
  refine congrArg (M.read (Elt F) f) (funext fun b => Fin.ext ?_)
  match b with
  | ⟨0, _⟩ => show 0 + 1 * (y 0).val = (y 0).val; omega
  | ⟨1, _⟩ => show 0 + 1 * (y 1).val = (y 1).val; omega
  | ⟨2, _⟩ => show 1024 + 1 * (y 2).val = 1024 + (y 2).val; omega

/-- The output buffer after the body, read as a value: one of the two stores is made. -/
theorem read_out {κ : Kind} {sp : Space} (M : View sig κ sp S512x1024 .bf16) (f : M.ty.Contents (Elt F)) (t : Fin 304) (n : BitVec 32) (p : FVec F S512x1024 .bf16)
    (x0 : Vec F S512x1024 .bf16) (x2 : Vec F S1x1x2048 .f32) (x4 : Vec F S1x1x1024 .f32) (a0 : Vec F S1024x2048 .bf16) (a1 : Vec F S1024x1024 .bf16)
    (hp : p = k0_pay4 x0 (lo2 a0) (lo3 x2) (hi2 a0) (hi3 x2) a1 x4)
    (C2 C3 : Prop) [Decidable C2] [Decidable C3] (h2 : C2 ↔ (BitVec.ofNat 32 t.val).slt n = true) (h3 : C3 ↔ ¬ (BitVec.ofNat 32 t.val).slt n = true) :
    M.read (Elt F) (if hc : C3 then M.writes (Elt F) (if hc : C2 then M.writes (Elt F) f [⟨Rect.unit (s := S512x1024) ![0, 0] S512x1024.size inb_S512x1024_S512x1024_0_0, p⟩] else f)
        [⟨Rect.unit (s := S512x1024) ![0, 0] S512x1024.size inb_S512x1024_S512x1024_0_0, k0_pay3⟩]
      else if hc : C2 then M.writes (Elt F) f [⟨Rect.unit (s := S512x1024) ![0, 0] S512x1024.size inb_S512x1024_S512x1024_0_0, p⟩] else f) = outAfter t n x0 x2 x4 a0 a1 := by
  unfold outAfter
  by_cases h : (BitVec.ofNat 32 t.val).slt n = true
  · rw [dif_neg fun q => h3.1 q h, dif_pos (h2.2 h), if_pos h, ← hp]
    exact View.read_writes_full M f _ _ _
  · rw [dif_pos (h3.2 h), if_neg h]
    exact View.read_writes_full M _ _ _ _

set_option maxHeartbeats 1000000 in
/-- The body at a point: the inputs stay, the scratch holds the expert of the tile, the output is the block. -/
theorem runBody (c : Dev nD) (i : grid0.Coords) (arg4 : Memref sig .tc .vmem S512x1024 .bf16) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x1024 .bf16) (x1 : Vec F S1x1024x2048 .f32) (x2 : Vec F S1x1x2048 .f32) (x3 : Vec F S1x1024x1024 .f32) (x4 : Vec F S1x1x1024 .f32) (s0 : Vec F S1024x2048 .bf16) (s1 : Vec F S1024x1024 .bf16) (xt0 : TbBuf0 (F := F) c tbM0_0) (xt1 : TbBuf0 (F := F) c tbM0_1) (xt2 : TbBuf0 (F := F) c tbM0_2)
    (t : Fin 304) (ht : (i 0).val = t.val) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare s0 ∗ owns (c : Thread nD τ) arg11 fullShare s1 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outAfter t (word1 c xt2) x0 x2 x4 (wguAfter (word304 c xt1 t) x1 s0) (wdnAfter (word304 c xt1 t) x3 s1)) ∗ owns (c : Thread nD τ) arg10 fullShare (wguAfter (word304 c xt1 t) x1 s0) ∗ owns (c : Thread nD τ) arg11 fullShare (wdnAfter (word304 c xt1 t) x3 s1) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11) K := by
    intro E K
    simp only [cc0_moe_experts_eq_skeleton]; unfold cc0_moe_experts_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec
    sl_step
    have h1 : runBody.sl.r c i xt1 = (word304 c xt1 t) := by
      unfold runBody.sl.r word304
      show xt1 _ = xt1 _
      refine congrArg xt1 (funext fun b => Fin.ext ?_)
      match b with
      | ⟨0, _⟩ =>
        show (BitVec.ofNat 32 (i 0).val).toNat + 1 * 0 = t.val
        rw [ht]
        have := t.isLt
        simp only [BitVec.toNat_ofNat]
        omega
    have h2 : runBody.sl.r_1 c xt2 = (word1 c xt2) := by
      unfold runBody.sl.r_1 word1
      show xt2 _ = xt2 _
      refine congrArg xt2 (funext fun b => Fin.ext ?_)
      match b with
      | ⟨0, _⟩ => show 0 + 1 * 0 = 0; rfl
    have hw := read_wgu arg10.view arg5.view _ _ (word304 c xt1 t) x1 s0 hs0 hf1 (Scalar.cmpi .ne (Scalar.extui (Scalar.cmpi .eq (runBody.sl.r c i xt1) 1#32) : BitVec 32) 0#32 = 1#1) (by rw [h1]; exact cond_new _)
    have hv := read_wdn arg11.view arg7.view _ _ (word304 c xt1 t) x3 s1 hs1 hf3 (Scalar.cmpi .ne (Scalar.extui (Scalar.cmpi .eq (runBody.sl.r c i xt1) 1#32) : BitVec 32) 0#32 = 1#1) (by rw [h1]; exact cond_new _)
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      refine read_out arg9.view _ t (word1 c xt2) _ x0 x2 x4 (wguAfter (word304 c xt1 t) x1 s0) (wdnAfter (word304 c xt1 t) x3 s1) ?_ (k0_cond2 i (runBody.sl.r_1 c xt2) = 1#1) (k0_cond3 i (runBody.sl.r_1 c xt2) = 1#1) (by rw [h2]; exact cond_used i t ht _) (by rw [h2]; exact cond_unused i t ht _)
      congr 1
      · exact (View.readAt_full arg4.view _ _).trans hf0
      · exact load_lo2 arg10.view _ _ hw
      · exact load_lo3 arg6.view _ _ hf2
      · exact load_hi2 arg10.view _ _ hw
      · exact load_hi3 arg6.view _ _ hf2
      · exact (View.readAt_full arg11.view _ _).trans hv
      · exact (View.readAt_full arg8.view _ _).trans hf4
    isplitl [HS0]
    · iexists _; isplitr; swap; · iexact HS0
      ipureintro; exact hw
    isplitl [HS1]
    · iexists _; isplitr; swap; · iexact HS1
      ipureintro; exact hv
    isplitl [HT0]; · iexact HT0
    isplitl [HT1]; · iexact HT1
    iexact HT2

end Cert.KernelIdeal.Exp
end
-- ==== Proof.Exp.Tables.lean ====
module

public import proofs.«01_k».proof.Proof.Exp.Words
public import proofs.«01_k».proof.Proof.Exp.Body

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables when the call is entered, and the blocks they choose -/

/-- The counts of rows per expert. -/
def cnt (c : Dev nD) : IVec S32 32 := m ((c : Thread nD τ).loc main_arg0)

/-- The tables' contents (there is one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
theorem tbl_0 (c : Dev nD) : tbl m 0 = tileE (cnt m c) := by
  obtain rfl : c = 0 := Subsingleton.elim _ _; exact V_v20 m 0
theorem tbl_1 (c : Dev nD) : tbl m 1 = tileNew (cnt m c) := by
  obtain rfl : c = 0 := Subsingleton.elim _ _; exact V_v26 m 0
theorem tbl_2 (c : Dev nD) : tbl m 2 = nUsed (cnt m c) := by
  obtain rfl : c = 0 := Subsingleton.elim _ _; exact V_v28 m 0

attribute [local irreducible] tbl V

/-- The expert of a tile. -/
def ex (c : Dev nD) (t : Nat) : Nat := expertOf (padEnd (cnt m c)) (t * 512)
theorem ex_lt (c : Dev nD) (t : Nat) : ex m c t < 32 := expertOf_lt _ _

/-- The word the index maps read at a point. -/
theorem word_at (c : Dev nD) (i : grid0.Coords) :
    ((tbl m).at 0 (Rect.unit (s := S304) ![(Scalar.indexCast (BitVec.ofNat 32 (i 0).val) : Index).toNat] S1.size (k0_off1_inb i)) numel1_S1 : BitVec 32)
      = BitVec.ofNat 32 (ex m c (i 0).val) := by
  have h0 : (i 0).val < 304 := (i 0).isLt
  show tbl m 0 _ = _
  rw [tbl_0 m c]
  refine (congrArg (tileE (cnt m c)) (funext fun b => Fin.ext ?_)).trans (tileE_word (cnt m c) ⟨(i 0).val, h0⟩)
  match b with
  | ⟨0, _⟩ =>
    show (BitVec.ofNat 32 (i 0).val).toNat + 1 * 0 = (i 0).val
    simp only [BitVec.toNat_ofNat]
    omega

theorem ofNat_ex (c : Dev nD) (t : Nat) : (BitVec.ofNat 32 (ex m c t)).toNat = ex m c t := by
  have := ex_lt m c t
  simp only [BitVec.toNat_ofNat]; omega

/-- The weights' and biases' index maps take the tile's expert. -/
theorem tr_1 (c : Dev nD) (i : grid0.Coords) : cc0_transform_1 k0_off1_inb numel1_S1 (tbl m) i = ![ex m c (i 0).val, 0, 0] := by
  unfold cc0_transform_1
  refine (congrArg (fun w : BitVec 32 => ![w.toNat, (0#32 : BitVec 32).toNat, (0#32 : BitVec 32).toNat]) (word_at m c i)).trans ?_
  show ![_, 0, 0] = _
  rw [ofNat_ex]
theorem tr_2 (c : Dev nD) (i : grid0.Coords) : cc0_transform_2 k0_off1_inb numel1_S1 (tbl m) i = ![ex m c (i 0).val, 0, 0] := tr_1 m c i
theorem tr_3 (c : Dev nD) (i : grid0.Coords) : cc0_transform_3 k0_off1_inb numel1_S1 (tbl m) i = ![ex m c (i 0).val, 0, 0] := tr_1 m c i
theorem tr_4 (c : Dev nD) (i : grid0.Coords) : cc0_transform_4 k0_off1_inb numel1_S1 (tbl m) i = ![ex m c (i 0).val, 0, 0] := tr_1 m c i

/-- Every block the tables choose lies inside its array. -/
theorem okT : ok0 (F := F) (tbl m) := by
  have hx := fun i : grid0.Coords => ex_lt m 0 (i 0).val
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [tr_1 m 0]; have := hx i
    match a with
    | ⟨0, _⟩ => show (ex m 0 (i 0).val + 1) * 1 ≤ 32; omega
    | ⟨1, _⟩ => show (0 + 1) * 1024 ≤ 1024; omega
    | ⟨2, _⟩ => show (0 + 1) * 2048 ≤ 2048; omega
  · rw [tr_2 m 0]; have := hx i
    match a with
    | ⟨0, _⟩ => show (ex m 0 (i 0).val + 1) * 1 ≤ 32; omega
    | ⟨1, _⟩ => show (0 + 1) * 1 ≤ 1; omega
    | ⟨2, _⟩ => show (0 + 1) * 2048 ≤ 2048; omega
  · rw [tr_3 m 0]; have := hx i
    match a with
    | ⟨0, _⟩ => show (ex m 0 (i 0).val + 1) * 1 ≤ 32; omega
    | ⟨1, _⟩ => show (0 + 1) * 1024 ≤ 1024; omega
    | ⟨2, _⟩ => show (0 + 1) * 1024 ≤ 1024; omega
  · rw [tr_4 m 0]; have := hx i
    match a with
    | ⟨0, _⟩ => show (ex m 0 (i 0).val + 1) * 1 ≤ 32; omega
    | ⟨1, _⟩ => show (0 + 1) * 1 ≤ 1; omega
    | ⟨2, _⟩ => show (0 + 1) * 1024 ≤ 1024; omega

/-- The pipeline at these tables. -/
abbrev adm : (pcfg0 (F := F)).Adm := ⟨tbl m, okT m⟩
abbrev cfgM : Pipeline.Cfg sig Λ₀ := cfg0 (adm m)

theorem N_M : (cfgM m).N = 304 := N_0
/-- The point as a tile's number. -/
def tile (t : Fin (cfgM m).N) : Fin 304 := ⟨t.val, lt_of_lt_of_eq t.isLt (N_M m)⟩
theorem coords_val (t : Fin (cfgM m).N) : ((cfgM m).grid.coords t 0).val = t.val := by
  have h := lt_of_lt_of_eq t.isLt (N_M m)
  rw [Pipeline.Grid.coords_val (S := 1) (B := 304) t 0 (by show grid0.stride 0 = 1; decide) rfl]
  omega

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The tile's rows. -/
theorem iblk_0 (c : Dev nD) (t : Fin (cfgM m).N) (y0 : Fin 512) (y1 : Fin 1024) :
    iblk m c 0 t (ix2 y0 y1) = m ((c : Thread nD τ).loc main_arg1) (ix2 (⟨t.val * 512 + y0.val, by have := lt_of_lt_of_eq t.isLt (N_M m); omega⟩ : Fin 155648) y1) := by
  show V m c main_arg1 _ = _
  rw [V_arg1]
  refine congrArg _ (funext fun a => Fin.ext ?_)
  have h := coords_val m t
  have hl := lt_of_lt_of_eq t.isLt (N_M m)
  match a with
  | ⟨0, _⟩ =>
    show (BitVec.ofNat 32 ((cfgM m).grid.coords t 0).val).toNat * 512 + 1 * y0.val = t.val * 512 + y0.val
    rw [h]; simp only [BitVec.toNat_ofNat]; omega
  | ⟨1, _⟩ => show (0#32 : BitVec 32).toNat * 1024 + 1 * y1.val = y1.val; simp

/-- The block of an expert starts at the expert. -/
theorem expert_off (c : Dev nD) (t : Fin (cfgM m).N) {f : Fin 3 → Nat} (hf : f = ![ex m c ((cfgM m).grid.coords t 0).val, 0, 0]) (y0 : Fin 1) :
    f 0 * 1 + 1 * y0.val = ex m c t.val := by
  subst hf
  rw [coords_val]
  show ex m c t.val * 1 + 1 * y0.val = _
  omega

/-- The expert's weights and biases. -/
theorem iblk_1 (c : Dev nD) (t : Fin (cfgM m).N) (y0 : Fin 1) (y1 : Fin 1024) (y2 : Fin 2048) :
    iblk m c 1 t (ix3 y0 y1 y2) = m ((c : Thread nD τ).loc main_arg2) (ix3 (⟨ex m c t.val, ex_lt m c _⟩ : Fin 32) y1 y2) := by
  show V m c main_arg2 _ = _
  rw [V_arg2]
  refine congrArg _ (funext fun a => Fin.ext ?_)
  match a with
  | ⟨0, _⟩ =>
    show cc0_transform_1 k0_off1_inb numel1_S1 (tbl m) ((cfgM m).grid.coords t) 0 * 1 + 1 * y0.val = ex m c t.val
    exact expert_off m c t (tr_1 m c _) y0
  | ⟨1, _⟩ => show (0#32 : BitVec 32).toNat * 1024 + 1 * y1.val = y1.val; simp
  | ⟨2, _⟩ => show (0#32 : BitVec 32).toNat * 2048 + 1 * y2.val = y2.val; simp
theorem iblk_2 (c : Dev nD) (t : Fin (cfgM m).N) (y0 : Fin 1) (y1 : Fin 1) (y2 : Fin 2048) :
    iblk m c 2 t (ix3 y0 y1 y2) = V m c main_v29 (ix3 (⟨ex m c t.val, ex_lt m c _⟩ : Fin 32) y1 y2) := by
  show V m c main_v29 _ = _
  refine congrArg _ (funext fun a => Fin.ext ?_)
  match a with
  | ⟨0, _⟩ =>
    show cc0_transform_2 k0_off1_inb numel1_S1 (tbl m) ((cfgM m).grid.coords t) 0 * 1 + 1 * y0.val = ex m c t.val
    exact expert_off m c t (tr_2 m c _) y0
  | ⟨1, _⟩ => show (0#32 : BitVec 32).toNat * 1 + 1 * y1.val = y1.val; simp
  | ⟨2, _⟩ => show (0#32 : BitVec 32).toNat * 2048 + 1 * y2.val = y2.val; simp
theorem iblk_3 (c : Dev nD) (t : Fin (cfgM m).N) (y0 : Fin 1) (y1 : Fin 1024) (y2 : Fin 1024) :
    iblk m c 3 t (ix3 y0 y1 y2) = m ((c : Thread nD τ).loc main_arg4) (ix3 (⟨ex m c t.val, ex_lt m c _⟩ : Fin 32) y1 y2) := by
  show V m c main_arg4 _ = _
  rw [V_arg4]
  refine congrArg _ (funext fun a => Fin.ext ?_)
  match a with
  | ⟨0, _⟩ =>
    show cc0_transform_3 k0_off1_inb numel1_S1 (tbl m) ((cfgM m).grid.coords t) 0 * 1 + 1 * y0.val = ex m c t.val
    exact expert_off m c t (tr_3 m c _) y0
  | ⟨1, _⟩ => show (0#32 : BitVec 32).toNat * 1024 + 1 * y1.val = y1.val; simp
  | ⟨2, _⟩ => show (0#32 : BitVec 32).toNat * 1024 + 1 * y2.val = y2.val; simp
theorem iblk_4 (c : Dev nD) (t : Fin (cfgM m).N) (y0 : Fin 1) (y1 : Fin 1) (y2 : Fin 1024) :
    iblk m c 4 t (ix3 y0 y1 y2) = V m c main_v30 (ix3 (⟨ex m c t.val, ex_lt m c _⟩ : Fin 32) y1 y2) := by
  show V m c main_v30 _ = _
  refine congrArg _ (funext fun a => Fin.ext ?_)
  match a with
  | ⟨0, _⟩ =>
    show cc0_transform_4 k0_off1_inb numel1_S1 (tbl m) ((cfgM m).grid.coords t) 0 * 1 + 1 * y0.val = ex m c t.val
    exact expert_off m c t (tr_4 m c _) y0
  | ⟨1, _⟩ => show (0#32 : BitVec 32).toNat * 1 + 1 * y1.val = y1.val; simp
  | ⟨2, _⟩ => show (0#32 : BitVec 32).toNat * 1024 + 1 * y2.val = y2.val; simp

/-- A tile whose expert is the one of the tile before has the same weights. -/
theorem iblk_1_congr (c : Dev nD) (t s : Fin (cfgM m).N) (h : ex m c t.val = ex m c s.val) : (iblk m c 1 t : Vec F S1x1024x2048 .f32) = iblk m c 1 s := by
  funext y
  obtain ⟨y0, y1, y2, rfl⟩ : ∃ (y0 : Fin 1) (y1 : Fin 1024) (y2 : Fin 2048), y = ix3 y0 y1 y2 := ⟨_, _, _, eq_ix3 y⟩
  rw [iblk_1, iblk_1]
  exact congrArg _ (congrArg (fun e : Fin 32 => ix3 e y1 y2) (Fin.ext h))
theorem iblk_3_congr (c : Dev nD) (t s : Fin (cfgM m).N) (h : ex m c t.val = ex m c s.val) : (iblk m c 3 t : Vec F S1x1024x1024 .f32) = iblk m c 3 s := by
  funext y
  obtain ⟨y0, y1, y2, rfl⟩ : ∃ (y0 : Fin 1) (y1 : Fin 1024) (y2 : Fin 1024), y = ix3 y0 y1 y2 := ⟨_, _, _, eq_ix3 y⟩
  rw [iblk_3, iblk_3]
  exact congrArg _ (congrArg (fun e : Fin 32 => ix3 e y1 y2) (Fin.ext h))

end Cert.KernelIdeal.Exp
end
-- ==== Proof.Exp.Run.lean ====
module

public import proofs.«01_k».proof.Proof.Exp.Tables
public import Idealize.ShloMosaic.Lib.Claim
public import Idealize.ShloMosaic.Lib.Quiescent

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] tbl V

/-! ## The call's run -/

/-- What a tile's output block holds. -/
def outBlock (c : Dev nD) (t : Fin (cfgM m).N) : Vec F S512x1024 .bf16 :=
  outAfter (tile m t) (word1 c (tbl m 2)) (iblk m c 0 t) (iblk m c 2 t) (iblk m c 4 t) (k0_pay1 (iblk m c 1 t)) (k0_pay2 (iblk m c 3 t))

/-- Before point `t` the scratch holds the weights of the expert of the tile before. -/
def Held0 (c : Dev nD) (t : Fin ((cfgM m).N + 1)) (d : Vec F S1024x2048 .bf16) : Prop :=
  ∀ s : Fin (cfgM m).N, s.val + 1 = t.val → d = k0_pay1 (iblk m c 1 s)
def Held1 (c : Dev nD) (t : Fin ((cfgM m).N + 1)) (d : Vec F S1024x1024 .bf16) : Prop :=
  ∀ s : Fin (cfgM m).N, s.val + 1 = t.val → d = k0_pay2 (iblk m c 3 s)

/-- A tile that is not marked new has the expert of the tile before. -/
theorem same_expert (c : Dev nD) (t : Fin (cfgM m).N) (h : ¬ word304 c (tbl m 1) (tile m t) = 1#32) :
    ∃ s : Fin (cfgM m).N, s.val + 1 = t.val ∧ ex m c t.val = ex m c s.val := by
  obtain ⟨n, hn⟩ := t
  have hn' : n < 304 := lt_of_lt_of_eq hn (N_M m)
  have e : word304 c (tbl m 1) (tile m ⟨n, hn⟩) = tileNew (cnt m c) (ix1 (⟨n, hn'⟩ : Fin 304)) := by
    rw [tbl_1 m c]; rfl
  rw [e] at h
  match n with
  | 0 => exact absurd (tileNew_zero _) h
  | k + 1 =>
    refine ⟨⟨k, by omega⟩, rfl, ?_⟩
    rw [tileNew_succ _ k hn', not_not, tileE_word, tileE_word] at h
    have := congrArg BitVec.toNat h
    rw [show expertOf (padEnd (cnt m c)) ((⟨k + 1, hn'⟩ : Fin 304).val * 512) = ex m c (k + 1) from rfl,
      show expertOf (padEnd (cnt m c)) ((⟨k, by omega⟩ : Fin 304).val * 512) = ex m c k from rfl, ofNat_ex, ofNat_ex] at this
    exact this

/-- So after the point the scratch holds this tile's expert. -/
theorem wgu_now (c : Dev nD) (t : Fin (cfgM m).N) (d : Vec F S1024x2048 .bf16) (h : Held0 m c t.castSucc d) :
    wguAfter (word304 c (tbl m 1) (tile m t)) (iblk m c 1 t) d = k0_pay1 (iblk m c 1 t) := by
  unfold wguAfter
  by_cases hw : word304 c (tbl m 1) (tile m t) = 1#32
  · rw [if_pos hw]
  · rw [if_neg hw]
    obtain ⟨s, hs, he⟩ := same_expert m c t hw
    rw [h s hs]
    exact congrArg k0_pay1 (iblk_1_congr m c t s he).symm
theorem wdn_now (c : Dev nD) (t : Fin (cfgM m).N) (d : Vec F S1024x1024 .bf16) (h : Held1 m c t.castSucc d) :
    wdnAfter (word304 c (tbl m 1) (tile m t)) (iblk m c 3 t) d = k0_pay2 (iblk m c 3 t) := by
  unfold wdnAfter
  by_cases hw : word304 c (tbl m 1) (tile m t) = 1#32
  · rw [if_pos hw]
  · rw [if_neg hw]
    obtain ⟨s, hs, he⟩ := same_expert m c t hw
    rw [h s hs]
    exact congrArg k0_pay2 (iblk_3_congr m c t s he).symm

theorem held0_succ (c : Dev nD) (t : Fin (cfgM m).N) : Held0 m c t.succ (k0_pay1 (iblk m c 1 t)) := fun s hs => by
  obtain rfl : s = t := Fin.ext (by have : s.val + 1 = t.val + 1 := hs; omega)
  rfl
theorem held1_succ (c : Dev nD) (t : Fin (cfgM m).N) : Held1 m c t.succ (k0_pay2 (iblk m c 3 t)) := fun s hs => by
  obtain rfl : s = t := Fin.ext (by have : s.val + 1 = t.val + 1 := hs; omega)
  rfl

/-- The scratch buffers. -/
abbrev scM0_0 : Memref sig .tc .vmem S1024x2048 .bf16 := Memref.whole cc0_scratch0
abbrev scM0_1 : Memref sig .tc .vmem S1024x1024 .bf16 := Memref.whole cc0_scratch1

/-- The region's own invariant, its scratch as owned buffers. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The tables' halves. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- What the points hand on: the scratch with the last tile's expert, the generator's register, the tables. -/
def Inv (c : Dev nD) (t : Fin ((cfgM m).N + 1)) : sProp 𝕄 :=
  iprop((∃ d, iprop(⌜Held0 m c t d⌝ ∗ owns (c : Thread nD τ) scM0_0 fullShare d)) ∗ (∃ d, iprop(⌜Held1 m c t d⌝ ∗ owns (c : Thread nD τ) scM0_1 fullShare d))
    ∗ (∃ r, prngReg c r) ∗ tbPt0 c tbM0_0 (tbl m 0) ∗ tbPt0 c tbM0_1 (tbl m 1) ∗ tbPt0 c tbM0_2 (tbl m 2))

/-- The proof data of the pipeline. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ t := Inv m c t
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = outBlock m c t := by dsimp only [dats]; try rfl

/-- Each input's staging buffer holds its block at every point. -/
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgM m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgM m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
abbrev ms0_0 (t : Fin (cfgM m).N) : Memref sig .tc .vmem S512x1024 .bf16 := spec0_0.stage ((cfgM m).slots t 0)
abbrev ms0_1 (t : Fin (cfgM m).N) : Memref sig .tc .vmem S1x1024x2048 .f32 := spec0_1.stage ((cfgM m).slots t 1)
abbrev ms0_2 (t : Fin (cfgM m).N) : Memref sig .tc .vmem S1x1x2048 .f32 := spec0_2.stage ((cfgM m).slots t 2)
abbrev ms0_3 (t : Fin (cfgM m).N) : Memref sig .tc .vmem S1x1024x1024 .f32 := spec0_3.stage ((cfgM m).slots t 3)
abbrev ms0_4 (t : Fin (cfgM m).N) : Memref sig .tc .vmem S1x1x1024 .f32 := spec0_4.stage ((cfgM m).slots t 4)
abbrev ms0_5 (t : Fin (cfgM m).N) : Memref sig .tc .vmem S512x1024 .bf16 := spec0_5.stage ((cfgM m).slots t 5)

/-- Every output block is written back. -/
theorem flush0_5 (t : Fin (cfgM m).N) : ((cfgM m).win 5).flush t = true :=
  Pipeline.Window.flushOf_reads cc0_transform_5 reads0_5 hreads0_5 0 (by decide) (by decide) (Pipeline.Window.sep_of_coord cc0_transform_5 0 0 (fun _ => rfl) (by decide)) (P := 1) (m := 0) (by decide) rfl t |>.mpr (Nat.mod_one _)

/-- The body as the pipeline calls it at a point. -/
abbrev bodyAt0 (a : (pcfg0 (F := F)).Adm) (t : Fin (cfg0 a).N) : Prog (TpuEff nD τ sig (Elt F) Λ₀ .tc) PUnit :=
  cc0_moe_experts (grid0.coords t) tbM0_0 htbM0_0 tbM0_1 htbM0_1 tbM0_2 htbM0_2 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- What the body is called with at a point, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t))

set_option maxHeartbeats 800000 in
/-- The body at any point. -/
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.castSucc = Inv m c t.castSucc from rfl, show (dats m 0 c).Φ t.succ = Inv m c t.succ from rfl]
  unfold Inv
  iintro ⟨⟨⟨%s0, %hs0, HS0⟩, ⟨%s1, %hs1, HS1⟩, Hg, HT0, HT1, HT2⟩, Ho, ⟨%d0, H0⟩, ⟨%d1, H1⟩, ⟨%d2, H2⟩, ⟨%d3, H3⟩, ⟨%d4, H4⟩, ⟨%d5, H5⟩⟩
  iapply ((runBody c (grid0.coords t) _ _ _ _ _ _ _ _ _ _ _ _ _ _ _ _ (iblk m c 0 t) (iblk m c 1 t) (iblk m c 2 t) (iblk m c 3 t) (iblk m c 4 t) s0 s1 (tbl m 0) (tbl m 1) (tbl m 2) (tile m t) (coords_val m t)) Set.univ _)
  rw [wgu_now m c t s0 hs0, wdn_now m c t s1 hs1]
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  isplitl [HT2]; · iexact HT2
  iintro ⟨H0, H1, H2, H3, H4, H5, HS0, HS1, HT0, HT1, HT2⟩
  isplitl [HS0 HS1 Hg HT0 HT1 HT2]
  · isplitl [HS0]
    · iexists _; isplitr; swap; · iexact HS0
      ipureintro; exact held0_succ m c t
    isplitl [HS1]
    · iexists _; isplitr; swap; · iexact HS1
      ipureintro; exact held1_succ m c t
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body. -/
theorem defs₀_row (t : Fin (cfgM m).N) :
    defs₀ (F := F) .tc (cfgM m).body ((cfgM m).bodyArgs t ((cfgM m).slots t)) = bodyAt0 (adm m) t := by
  unfold defs₀; rw [Defs.onTc_tc]

/-- The output window's part of the obligation: it is written back at every point. -/
theorem leaves_out {P Q : sProp 𝕄} (b f : Bool) : f = true → (match b with | true => (match f with | false => P | true => Q) | false => Q) = Q := by
  rintro rfl; cases b <;> rfl

theorem restate {P Q : sProp 𝕄} (e : P = Q) : P ⊢ Q := e ▸ .rfl

/-- The library's body obligation. -/
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => restate (congrArg (fun Z : sProp 𝕄 => iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ Z)) (leaves_out (P := iprop(∃ d, owns (c : Thread nD τ) (ms0_5 m t) fullShare ((dats m 0 c).before 5 t d))) (Q := owns (c : Thread nD τ) (ms0_5 m t) fullShare ((dats m 0 c).after 5 t)) ((cfgM m).idle 5 ((cfgM m).grid.coords t)) _ (flush0_5 m t)).symm)

/-- The invariant before the first point, and after the last. -/
theorem inv_in (c : Dev nD) : iprop(Pipeline.ΦA spec0 c ∗ Pipeline.ΦT pre0 (tbl m) c) ⊢ (dats m 0 c).Φ 0 := by
  rw [PhiA0_eq, PhiT0_eq, show (dats m 0 c).Φ 0 = Inv m c 0 from rfl]
  unfold Inv
  iintro ⟨⟨⟨⟨%s0, HS0⟩, ⟨%s1, HS1⟩⟩, Hg⟩, HT0, HT1, HT2⟩
  isplitl [HS0]
  · iexists s0; isplitr; swap; · iexact HS0
    ipureintro; exact fun s hs => absurd hs (Nat.succ_ne_zero _)
  isplitl [HS1]
  · iexists s1; isplitr; swap; · iexact HS1
    ipureintro; exact fun s hs => absurd hs (Nat.succ_ne_zero _)
  isplitl [Hg]; · iexact Hg
  isplitl [HT0]; · iexact HT0
  isplitl [HT1]; · iexact HT1
  iexact HT2
theorem inv_out (c : Dev nD) : (dats m 0 c).Φ (Fin.last (cfgM m).N) ⊢ Pipeline.ΦA spec0 c := by
  rw [PhiA0_eq, show (dats m 0 c).Φ (Fin.last (cfgM m).N) = Inv m c (Fin.last (cfgM m).N) from rfl]
  unfold Inv
  iintro ⟨⟨%s0, -, HS0⟩, ⟨%s1, -, HS1⟩, Hg, -⟩
  isplitl [HS0 HS1]
  · isplitl [HS0]
    · iexists _; iexact HS0
    iexists _; iexact HS1
  iexact Hg

-- the launch theorem's implicit arguments are found by unifying its conclusion with this one
set_option backward.isDefEq.respectTransparency.types false in
/-- The launch: what the run leaves, and every semaphore counter at zero. -/
theorem run_main : θ_run defs (onTc (τ := τ) (main (F := F))) (s₀ m ρ) (fun r => Pipeline.FramePost (Pipeline.pin pcfgs fun _ => adm m) (dats m) 0 (V m) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hin := inv_in m) (hout := inv_out m)

/-- The run read at the result and the arguments. -/
theorem run_read : θ_run defs (onTc (τ := τ) (main (F := F))) ⟨m, fun _ => 0, ρ⟩ (fun r => (∀ c : Dev nD,
      r.2.mem ((c.tc : Thread nD τ).loc main_v31) = (dats m 0 c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 5,
    ((h.1 c).2 main_arg0 (by decide : main_arg0 ∈ Pipeline.restRefs sig spec0)).trans (V_arg0 m c),
    (((h.1 c).1 0).trans ((dats m 0 c).arrAt_in 0 rfl _)).trans ((A_eq m c 0).trans (V_arg1 m c)),
    (((h.1 c).1 1).trans ((dats m 0 c).arrAt_in 1 rfl _)).trans ((A_eq m c 1).trans (V_arg2 m c)),
    ((h.1 c).2 main_arg3 (by decide : main_arg3 ∈ Pipeline.restRefs sig spec0)).trans (V_arg3 m c),
    (((h.1 c).1 3).trans ((dats m 0 c).arrAt_in 3 rfl _)).trans ((A_eq m c 3).trans (V_arg4 m c)),
    ((h.1 c).2 main_arg5 (by decide : main_arg5 ∈ Pipeline.restRefs sig spec0)).trans (V_arg5 m c)⟩, h.2⟩) (run_main m ρ)

end Cert.KernelIdeal.Exp
end
-- ==== Proof.Exp.SameText.lean ====
module

public import proofs.«01_k».proof.Proof.Exp.Run
public import proofs.«01_k».proof.Proof.Gen.Kernel
public import proofs.«01_k».proof.Proof.Gen.KernelIdeal
public import Idealize.ShloMosaic.PureOps.BitExact

@[expose] public section

set_option backward.isDefEq.respectTransparency false
set_option backward.isDefEq.respectTransparency.types false

noncomputable section

namespace Cert.Proof

open Idealize.ShloMosaic Idealize.SL.Sem

/-! ## The word-level program is the same program as the idealized one, read on words -/

set_option maxHeartbeats 0 in
/-- The two programs' statements. -/
theorem main_eq : @Cert.Kernel.main Bits _ _ = @Cert.KernelIdeal.main Bits _ _ := rfl
set_option maxHeartbeats 0 in
/-- Their kernels' bodies. -/
theorem defs0_eq : @Cert.Kernel.defs₀ Bits _ _ = @Cert.KernelIdeal.defs₀ Bits _ _ := by
  funext κ ℓ a
  cases κ with
  | tc =>
    match ℓ, a with
    | 0, (t, s) => rfl
  | scScalar _ => rfl
  | scVector _ _ => rfl
set_option maxHeartbeats 0 in
/-- Their kernels as pipelines. -/
theorem defs_eq : @Cert.Kernel.defs Bits _ _ = @Cert.KernelIdeal.defs Bits _ _ :=
  congrArg (Pipeline.defs (@Cert.KernelIdeal.pcfgs Bits _ _)) defs0_eq

end Cert.Proof
end
-- ==== Proof.Exp.Frames.lean ====
module

public import proofs.«01_k».proof.Proof.Exp.SameText
public import proofs.«01_k».proof.Defs

@[expose] public section

set_option backward.isDefEq.respectTransparency false
set_option backward.isDefEq.respectTransparency.types false

noncomputable section

namespace Cert.Proof

open Idealize.ShloMosaic Idealize.SL.Sem

set_option maxHeartbeats 0 in
/-- The kernel, on machine words and rounded floats, runs and leaves its arguments as they were. -/
theorem frame_kernel : Cert.quiescent_Kernel (hKernel := Cert.Kernel.Gen.facts) := fun m ρ _ => by
  have key : ∀ d, d = @Cert.KernelIdeal.defs Bits _ _ → ∀ p, p = @Cert.KernelIdeal.main Bits _ _ →
      θ_run d (onTc (τ := Cert.KernelIdeal.τ) p) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) := by
    rintro _ rfl _ rfl
    exact (θ_run Cert.KernelIdeal.defs _ _).mono (fun _ h => ⟨fun c => (h.1 c).2, h.2⟩) (Cert.KernelIdeal.Exp.run_read (F := Bits) m ρ)
  exact key _ defs_eq _ main_eq

end Cert.Proof
end
-- ==== Proof.Exp.Spec.lean ====
module

public import Idealize.ShloMosaic.Lib.Pointwise
public import Idealize.ShloMosaic.Lib.IdealHost
public import Idealize.ShloMosaic.Lib.Routing.Ops

@[expose] public section

set_option maxRecDepth 16384

noncomputable section

namespace Cert.Exp

open Idealize.ShloMosaic

/-- What the gate and the linear part of one hidden unit give: both clamped, the gate through its sigmoid. -/
def unit (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + Ideal.ofBits .f32 0x3F800000#32)

/-- The gates' and the linear parts' columns. -/
abbrev colG (k : Fin 1024) : Fin 2048 := ⟨k.val, k.isLt.trans (by decide)⟩
abbrev colL (k : Fin 1024) : Fin 2048 := ⟨1024 + k.val, Nat.add_lt_add_left k.isLt 1024⟩

/-- One entry of an expert's output on a row `x`: the hidden units' values through the second matrix's column, and its bias. -/
def entry (x : Fin 1024 → EReal) (w1 : Fin 1024 → Fin 2048 → EReal) (b1 : Fin 2048 → EReal) (w2 : Fin 1024 → EReal) (b2 : EReal) : EReal :=
  (∑ k : Fin 1024, unit ((∑ i : Fin 1024, x i * w1 i (colG k)) + b1 (colG k)) ((∑ i : Fin 1024, x i * w1 i (colL k)) + b1 (colL k)) * w2 k) + b2

/-! ## Members of a stack of matrices, picked by a list of numbers -/

/-- The dimension numbers of `stack[idx]`. -/
abbrev slabDims {nb B C n : Nat} (wf : GatherDims.WF (⟨3, ![nb, B, C]⟩ : Shape) ⟨2, ![n, 1]⟩ ⟨3, ![n, B, C]⟩ [1, 2] [0] [] [0] [] 1 ![1, B, C]) :
    GatherDims (⟨3, ![nb, B, C]⟩ : Shape) ⟨2, ![n, 1]⟩ ⟨3, ![n, B, C]⟩ where
  offsetDims := [1, 2]
  collapsedSliceDims := [0]
  operandBatchingDims := []
  startIndicesBatchingDims := []
  startIndexMap := [0]
  indexVectorDim := 1
  sliceSizes := ![1, B, C]
  wf := wf

/-- Where the list holds `b` at `c`, member `c` of the result is the stack's member `b`. -/
theorem gather_slab {α : Type} {nb B C n : Nat} (wf : GatherDims.WF (⟨3, ![nb, B, C]⟩ : Shape) ⟨2, ![n, 1]⟩ ⟨3, ![n, B, C]⟩ [1, 2] [0] [] [0] [] 1 ![1, B, C])
    (x : (⟨3, ![nb, B, C]⟩ : Shape).Idx → α) (idx : IVec (⟨2, ![n, 1]⟩ : Shape) 32) (c : Fin n) (y : Fin B) (z : Fin C) (b : Fin nb)
    (hb : idx (ix2 c (0 : Fin 1)) = BitVec.ofNat 32 b.val) (hnb : nb < 2 ^ 31) :
    Host.gather (slabDims wf) x idx (ix3 c y z) = x (ix3 b y z) := by
  unfold Host.gather
  refine congrArg x (funext fun a => Fin.ext ?_)
  match a with
  | ⟨0, _⟩ =>
    show (slabDims wf).start (ix3 c y z) idx 0 + (slabDims wf).batchCoord (ix3 c y z) 0 + (slabDims wf).offCoord (ix3 c y z) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims wf).startIndexMap from List.mem_singleton.mpr rfl)]
    have hsi : (slabDims wf).siIdx (ix3 c y z) ⟨List.idxOf (0 : Fin 3) (slabDims wf).startIndexMap,
        List.idxOf_lt_length_iff.2 (List.mem_singleton.mpr rfl)⟩ = ix2 c (0 : Fin 1) := by
      funext b'; refine Fin.ext ?_
      match b' with
      | ⟨0, _⟩ => rfl
      | ⟨1, _⟩ => rfl
    have hbl := b.isLt
    rw [hsi, hb, StableHlo.Predicate.toInt_ofNat_small _ (by omega)]
    show min ((b.val : Int)).toNat (nb - 1) = b.val
    omega
  | ⟨1, _⟩ =>
    show (slabDims wf).start (ix3 c y z) idx 1 + (slabDims wf).batchCoord (ix3 c y z) 1 + (slabDims wf).offCoord (ix3 c y z) 1 = y.val
    rw [GatherDims.batchCoord_eq_zero _ _ _ List.not_mem_nil, Nat.add_zero]
    unfold GatherDims.start
    rw [dif_neg (fun h => absurd (List.mem_singleton.mp h) (Fin.ne_of_val_ne (Nat.succ_ne_zero _))), Nat.zero_add]
    rfl
  | ⟨2, _⟩ =>
    show (slabDims wf).start (ix3 c y z) idx 2 + (slabDims wf).batchCoord (ix3 c y z) 2 + (slabDims wf).offCoord (ix3 c y z) 2 = z.val
    rw [GatherDims.batchCoord_eq_zero _ _ _ List.not_mem_nil, Nat.add_zero]
    unfold GatherDims.start
    rw [dif_neg (fun h => absurd (List.mem_singleton.mp h) (Fin.ne_of_val_ne (Nat.succ_ne_zero _))), Nat.zero_add]
    rfl

end Cert.Exp
end
-- ==== Proof.Exp.Entry.lean ====
module

public import proofs.«01_k».proof.Proof.Exp.Run
public import proofs.«01_k».proof.Proof.Exp.Spec

@[expose] public section

set_option maxRecDepth 16384

noncomputable section

namespace Cert.KernelIdeal.Exp

open Idealize.ShloMosaic Cert.KernelIdeal.Gen Cert.Exp

/-- One entry of a used tile's block: the expert's output on the tile's row. -/
theorem pay4_entry (x : Vec Ideal S512x1024 .bf16) (w : Vec Ideal S1x1024x2048 .f32) (b : Vec Ideal S1x1x2048 .f32) (w2 : Vec Ideal S1x1024x1024 .f32) (b2 : Vec Ideal S1x1x1024 .f32)
    (p : Fin 512) (j : Fin 1024) :
    k0_pay4 (F := Ideal) x (lo2 (k0_pay1 w)) (lo3 b) (hi2 (k0_pay1 w)) (hi3 b) (k0_pay2 w2) b2 (ix2 p j)
      = entry (fun i => x (ix2 p i)) (fun i k => w (ix3 0 i k)) (fun k => b (ix3 0 0 k)) (fun k => w2 (ix3 0 k j)) (b2 (ix3 0 0 j)) := by
  pointwise [k0_pay4, k0_pay1, k0_pay2, lo2, lo3, hi2, hi3, entry, unit]
  rfl

end Cert.KernelIdeal.Exp
end
-- ==== Proof.Exp.Value.lean ====
module

public import proofs.«01_k».proof.Proof.Exp.Entry

@[expose] public section

set_option maxRecDepth 16384

noncomputable section

namespace Cert.KernelIdeal.Exp

open Idealize.ShloMosaic Idealize.ShloMosaic.TcCoe Cert.KernelIdeal.Gen Cert.Exp

/-- The zeros an unused tile gets. -/
theorem pay3_entry (p : Fin 512) (j : Fin 1024) : (k0_pay3 (F := Ideal) (ix2 p j) : EReal) = 0 := by
  pointwise [k0_pay3]

variable (m : (ℓ : Loc nD τ sig) → Buf (Elt Ideal) ℓ)

attribute [local irreducible] tbl V

/-- A row of biases as a block of one row, and back. -/
theorem bias2_at (a : FVec Ideal S32x2048 .f32) (e : Fin 32) (k : Fin 2048) : shapeCast S32x1x2048 a shapeCasts_S32x2048_S32x1x2048 (ix3 e (0 : Fin 1) k) = a (ix2 e k) := by
  pointwise
theorem bias4_at (a : FVec Ideal S32x1024 .f32) (e : Fin 32) (k : Fin 1024) : shapeCast S32x1x1024 a shapeCasts_S32x1024_S32x1x1024 (ix3 e (0 : Fin 1) k) = a (ix2 e k) := by
  pointwise

/-- An entry of a tile's block: the expert's output on the tile's row where the tile is used, else zero. -/
theorem outAfter_at (t : Fin 304) (n : BitVec 32) (x : Vec Ideal S512x1024 .bf16) (w : Vec Ideal S1x1024x2048 .f32) (b : Vec Ideal S1x1x2048 .f32) (w2 : Vec Ideal S1x1024x1024 .f32)
    (b2 : Vec Ideal S1x1x1024 .f32) (p : Fin 512) (j : Fin 1024) (q : Bool) (hq : (BitVec.ofNat 32 t.val).slt n = true ↔ q = true)
    (X : Fin 1024 → EReal) (W1 : Fin 1024 → Fin 2048 → EReal) (B1 : Fin 2048 → EReal) (W2 : Fin 1024 → EReal) (B2 : EReal)
    (hx : ∀ i, x (ix2 p i) = X i) (hw : ∀ i k, w (ix3 0 i k) = W1 i k) (hb : ∀ k, b (ix3 0 0 k) = B1 k) (hw2 : ∀ k, w2 (ix3 0 k j) = W2 k) (hb2 : b2 (ix3 0 0 j) = B2) :
    outAfter t n x b b2 (k0_pay1 w) (k0_pay2 w2) (ix2 p j) = if q = true then entry X W1 B1 W2 B2 else 0 := by
  unfold outAfter
  by_cases hu : q = true
  · rw [if_pos (hq.mpr hu), if_pos hu, pay4_entry]
    simp only [hx, hw, hb, hw2, hb2]
  · rw [if_neg (fun h => hu (hq.mp h)), if_neg hu]
    exact pay3_entry p j

/-- A row's tile is one of the grid. -/
theorem tile_lt (r : Fin 155648) : r.val / 512 < (cfgM m).N := by
  rw [N_M]; have := r.isLt; omega

/-- The kernel's result: every row from its tile's block. -/
def total (c : Dev nD) : FVec Ideal S155648x1024 .bf16 := fun i =>
  outBlock m c (⟨(i 0 : Fin 155648).val / 512, tile_lt m (i 0 : Fin 155648)⟩ : Fin (cfgM m).N)
    (ix2 (⟨(i 0 : Fin 155648).val % 512, Nat.mod_lt _ (by decide)⟩ : Fin 512) (i 1 : Fin 1024))

/-- What a point writes back is its block of the result. -/
theorem flushed_eq (c : Dev nD) (t : Fin (cfgM m).N) :
    (dats m 0 c).flushed 5 t = (((cfgM m).win 5).blk t).view.read (Elt Ideal) (total m c) := by
  show ((cfgM m).win 5).cut (grid0.coords t) ((dats m 0 c).after 5 t) = _
  rw [after0_5]
  have h := coords_val m t
  have hl := lt_of_lt_of_eq t.isLt (N_M m)
  funext y
  obtain ⟨y0, y1, rfl⟩ : ∃ (y0 : Fin 512) (y1 : Fin 1024), y = ix2 y0 y1 := ⟨_, _, ValueIdx.eq_ix2 (n0 := 512) (n1 := 1024) y⟩
  have e0 : (BitVec.ofNat 32 ((cfgM m).grid.coords t 0).val).toNat * 512 + 1 * y0.val = t.val * 512 + y0.val := by
    rw [h]; simp only [BitVec.toNat_ofNat]; omega
  show outBlock m c t (ix2 y0 y1) = outBlock m c _ _
  have ht : t = ⟨((BitVec.ofNat 32 ((cfgM m).grid.coords t 0).val).toNat * 512 + 1 * y0.val) / 512, lt_of_lt_of_eq (by rw [e0]; omega) (N_M m).symm⟩ :=
    Fin.ext (by show t.val = (_ : Nat) / 512; rw [e0]; omega)
  exact congr (congrArg (outBlock m c) ht) (funext fun a => Fin.ext (by
    match a with
    | ⟨0, _⟩ => show y0.val = ((BitVec.ofNat 32 ((cfgM m).grid.coords t 0).val).toNat * 512 + 1 * y0.val) % 512; rw [e0]; omega
    | ⟨1, _⟩ => show y1.val = (0#32 : BitVec 32).toNat * 1024 + 1 * y1.val; simp))

/-- Every row lies in its tile's block. -/
theorem cover (i : S155648x1024.Idx) : ∃ t : Fin (cfgM m).N, ((cfgM m).win 5).flush t = true ∧ i ∈ (((cfgM m).win 5).blk t).view.set := by
  have h0 : (i 0 : Nat) < 155648 := (i 0).isLt
  have h1 : (i 1 : Nat) < 1024 := (i 1).isLt
  refine ⟨⟨(i 0 : Nat) / 512, by rw [N_M]; omega⟩, flush0_5 m _, ?_⟩
  generalize ht : (⟨(i 0 : Nat) / 512, _⟩ : Fin (cfgM m).N) = t
  have hv : t.val = (i 0 : Nat) / 512 := by rw [← ht]
  have h := coords_val m t
  have hs : (((cfgM m).win 5).blk t).view.set = (((cfgM m).win 5).rect t).set := View.set_slice_whole _ _
  rw [hs]
  refine Rect.mem_set_unit.mpr ?_
  intro a
  match a with
  | ⟨0, _⟩ =>
    show (BitVec.ofNat 32 ((cfgM m).grid.coords t 0).val).toNat * 512 ≤ (i 0 : Nat) ∧ (i 0 : Nat) < (BitVec.ofNat 32 ((cfgM m).grid.coords t 0).val).toNat * 512 + 512
    rw [h, hv]; simp only [BitVec.toNat_ofNat]; omega
  | ⟨1, _⟩ =>
    show (0#32 : BitVec 32).toNat * 1024 ≤ (i 1 : Nat) ∧ (i 1 : Nat) < (0#32 : BitVec 32).toNat * 1024 + 1024
    simp only [BitVec.toNat_ofNat]; omega

/-- So the result array ends as that. -/
theorem final (c : Dev nD) : (dats m 0 c).arrAt 5 (cfgM m).N = total m c :=
  (dats m 0 c).arrAt_eq_of_cover 5 (total m c) (fun t _ => flushed_eq m c t) (cover m)

/-- An entry of it: the expert's output on the row where the row comes before the last end, else zero. -/
theorem total_at (c : Dev nD) (r : Fin 155648) (j : Fin 1024) (e : Fin 32) (he : e.val = ex m c (r.val / 512)) :
    total m c (ix2 r j) = if (BitVec.ofNat 32 r.val).slt (padEnd (cnt m c) (ix1 31)) = true
      then entry (fun i => m ((c : Thread nD τ).loc main_arg1) (ix2 r i)) (fun i k => m ((c : Thread nD τ).loc main_arg2) (ix3 e i k))
        (fun k => m ((c : Thread nD τ).loc main_arg3) (ix2 e k)) (fun k => m ((c : Thread nD τ).loc main_arg4) (ix3 e k j)) (m ((c : Thread nD τ).loc main_arg5) (ix2 e j))
      else 0 := by
  have hr : r.val / 512 < 304 := by have := r.isLt; omega
  show outBlock m c (⟨r.val / 512, by rw [N_M]; exact hr⟩ : Fin (cfgM m).N) (ix2 (⟨r.val % 512, Nat.mod_lt _ (by decide)⟩ : Fin 512) j) = _
  generalize ht : (⟨r.val / 512, _⟩ : Fin (cfgM m).N) = t
  have hv : t.val = r.val / 512 := by rw [← ht]
  have he' : e = ⟨ex m c t.val, ex_lt m c _⟩ := Fin.ext (by rw [hv]; exact he)
  have hw : word1 c (tbl m 2) = nUsed (cnt m c) (ValueIdx.ix1 (0 : Fin 1)) := by rw [tbl_2 m c]; rfl
  have hl : t.val < 304 := by omega
  have hrow : ∀ q : Fin 155648, q.val = t.val * 512 + r.val % 512 → q = r := fun q hq => Fin.ext (by omega)
  refine outAfter_at (tile m t) (word1 c (tbl m 2)) (iblk m c 0 t) (iblk m c 1 t) (iblk m c 2 t) (iblk m c 3 t) (iblk m c 4 t) _ j _ ?_ _ _ _ _ _ ?_ ?_ ?_ ?_ ?_
  · rw [hw]
    exact nUsed_word (cnt m c) t.val hl r.val hv.symm
  · intro i
    rw [ix2_eq_valueIdx]
    refine (iblk_0 m c t _ i).trans ?_
    rw [ix2_eq_valueIdx]
    exact congrArg (fun q : Fin 155648 => m ((c : Thread nD τ).loc main_arg1) (ValueIdx.ix2 q i)) (hrow _ rfl)
  · intro i k
    rw [ix3_eq_valueIdx, he', ix3_eq_valueIdx]
    exact iblk_1 m c t 0 i k
  · intro k
    rw [ix3_eq_valueIdx, he']
    refine (iblk_2 m c t 0 0 k).trans ?_
    rw [V_v29, ← ix3_eq_valueIdx]
    exact bias2_at _ _ k
  · intro k
    rw [ix3_eq_valueIdx, he', ix3_eq_valueIdx]
    exact iblk_3 m c t 0 k j
  · rw [ix3_eq_valueIdx, he']
    refine (iblk_4 m c t 0 0 j).trans ?_
    rw [V_v30, ← ix3_eq_valueIdx]
    exact bias4_at _ _ j

end Cert.KernelIdeal.Exp
end
-- ==== Proof.Exp.Ref.lean ====
module

public import proofs.«01_k».proof.Proof.Gen.ReferenceIdeal.Run
public import proofs.«01_k».proof.Proof.Exp.Words
public import proofs.«01_k».proof.Proof.Exp.Spec

@[expose] public section

set_option maxRecDepth 16384

noncomputable section

namespace Cert.ReferenceIdeal.Exp

open Idealize.ShloMosaic Idealize.ShloMosaic.TcCoe Cert.ReferenceIdeal.Gen Cert.Exp

/-! ## The reference's result, in named parts -/

/-- Where each expert's padded rows end. -/
def ends (a0 : IVec S32 32) : IVec S32 32 :=
  Host.reduceWindow IntOp.addi ![32] ![1] ![31] ![0] (muli (select (andi (cmpi .ne (signi (subi (addi a0 (broadcastInDim S32 ![] bcast_S_S32 (constantI S_ 32 512#32))) (broadcastInDim S32 ![] bcast_S_S32 (constantI S_ 32 1#32)))) (broadcastInDim S32 ![] bcast_S_S32 (signi (id (constantI S_ 32 512#32))))) (cmpi .ne (Host.remsi (subi (addi a0 (broadcastInDim S32 ![] bcast_S_S32 (constantI S_ 32 512#32))) (broadcastInDim S32 ![] bcast_S_S32 (constantI S_ 32 1#32))) (broadcastInDim S32 ![] bcast_S_S32 (id (constantI S_ 32 512#32)))) (broadcastInDim S32 ![] bcast_S_S32 (constantI S_ 32 0#32)))) (subi (Host.divsi (subi (addi a0 (broadcastInDim S32 ![] bcast_S_S32 (constantI S_ 32 512#32))) (broadcastInDim S32 ![] bcast_S_S32 (constantI S_ 32 1#32))) (broadcastInDim S32 ![] bcast_S_S32 (id (constantI S_ 32 512#32)))) (broadcastInDim S32 ![] bcast_S_S32 (constantI S_ 32 1#32))) (Host.divsi (subi (addi a0 (broadcastInDim S32 ![] bcast_S_S32 (constantI S_ 32 512#32))) (broadcastInDim S32 ![] bcast_S_S32 (constantI S_ 32 1#32))) (broadcastInDim S32 ![] bcast_S_S32 (id (constantI S_ 32 512#32))))) (broadcastInDim S32 ![] bcast_S_S32 (constantI S_ 32 512#32))) (broadcastInDim S_ ![] bcast_S_S_ (constantI S_ 32 0#32)) reduceWindows_S32_S32_w32s1p31_0 h_S_
/-- The expert of each block of 128 rows. -/
def blockE (p : IVec S32 32) : IVec S1216 32 :=
  minsi (Host.reduce IntOp.addi (extui 32 (cmpi .sle (broadcastInDim S1216x32 ![0, 1] bcast_S1x32_S1216x32_0_1 (broadcastInDim S1x32 ![1] bcast_S32_S1x32_1 p)) (broadcastInDim S1216x32 ![0, 1] bcast_S1216x1_S1216x32_0_1 (broadcastInDim S1216x1 ![0] bcast_S1216_S1216x1_0 (muli (iotaInDim S1216 32 0) (broadcastInDim S1216 ![] bcast_S_S1216 (constantI S_ 32 128#32)))))) natLt_1_32) (constantI S_ 32 0#32) reducesTo_S1216x32_S1216_d1 h_S_) (broadcastInDim S1216 ![] bcast_S_S1216 (constantI S_ 32 31#32))
/-- The list of experts as the weights' look-ups take it. -/
def rowsE (e : IVec S1216 32) : IVec S1216x1 32 :=
  broadcastInDim S1216x1 ![0] bcast_S1216_S1216x1_0 (select (cmpi .slt e (broadcastInDim S1216 ![] bcast_S_S1216 (constantI S_ 32 0#32))) (addi e (broadcastInDim S1216 ![] bcast_S_S1216 (constantI S_ 32 32#32))) e)
/-- The first layer of every block. -/
def hidden (X : FVec Ideal S1216x128x1024 .f32) (W1 : FVec Ideal S1216x1024x2048 .f32) (B1 : FVec Ideal S1216x2048 .f32) : FVec Ideal S1216x128x2048 .f32 :=
  (addf (Host.dotGeneral dot_S1216x128x1024_S1216x1024x2048_S1216x128x2048_2_1_1_2_0_0 none X W1) (broadcastInDim S1216x128x2048 ![0, 1, 2] bcast_S1216x1x2048_S1216x128x2048_0_1_2 (broadcastInDim S1216x1x2048 ![0, 2] bcast_S1216x2048_S1216x1x2048_0_2 B1)))
/-- Every block's output, from its rows and its expert's weights. -/
def blocks (X : FVec Ideal S1216x128x1024 .f32) (W1 : FVec Ideal S1216x1024x2048 .f32) (B1 : FVec Ideal S1216x2048 .f32) (W2 : FVec Ideal S1216x1024x1024 .f32)
    (B2 : FVec Ideal S1216x1024 .f32) : FVec Ideal S1216x128x1024 .f32 :=
  (addf (Host.dotGeneral dot_S1216x128x1024_S1216x1024x1024_S1216x128x1024_2_1_1_2_0_0 none (mulf (mulf (minimumf (extractStridedSlice S1216x128x1024 ![0, 0, 0] (hidden X W1 B1) slices_S1216x128x2048_S1216x128x1024_0_0_0) (broadcastInDim S1216x128x1024 ![] bcast_S_S1216x128x1024 (constant S_ .f32 0x40E00000#32))) (Host.divf (broadcastInDim S1216x128x1024 ![] bcast_S_S1216x128x1024 (constant S_ .f32 0x3F800000#32)) (addf (broadcastInDim S1216x128x1024 ![] bcast_S_S1216x128x1024 (constant S_ .f32 0x3F800000#32)) (Host.exp (Host.negf (mulf (broadcastInDim S1216x128x1024 ![] bcast_S_S1216x128x1024 (constant S_ .f32 0x3FD9DB23#32)) (minimumf (extractStridedSlice S1216x128x1024 ![0, 0, 0] (hidden X W1 B1) slices_S1216x128x2048_S1216x128x1024_0_0_0) (broadcastInDim S1216x128x1024 ![] bcast_S_S1216x128x1024 (constant S_ .f32 0x40E00000#32))))))))) (addf (minimumf (broadcastInDim S1216x128x1024 ![] bcast_S_S1216x128x1024 (id (constant S_ .f32 0x40E00000#32))) (maximumf (broadcastInDim S1216x128x1024 ![] bcast_S_S1216x128x1024 (id (constant S_ .f32 0xC0E00000#32))) (extractStridedSlice S1216x128x1024 ![0, 0, 1024] (hidden X W1 B1) slices_S1216x128x2048_S1216x128x1024_0_0_1024))) (broadcastInDim S1216x128x1024 ![] bcast_S_S1216x128x1024 (constant S_ .f32 0x3F800000#32)))) W2) (broadcastInDim S1216x128x1024 ![0, 1, 2] bcast_S1216x1x1024_S1216x128x1024_0_1_2 (broadcastInDim S1216x1x1024 ![0, 2] bcast_S1216x1024_S1216x1x1024_0_2 B2)))
/-- The whole result. -/
def result (a0 : IVec S32 32) (a1 : FVec Ideal S155648x1024 .bf16) (a2 : FVec Ideal S32x1024x2048 .f32) (a3 : FVec Ideal S32x2048 .f32) (a4 : FVec Ideal S32x1024x1024 .f32)
    (a5 : FVec Ideal S32x1024 .f32) : FVec Ideal S155648x1024 .bf16 :=
  truncf .bf16 (select (broadcastInDim S155648x1024 ![0, 1] bcast_S155648x1_S155648x1024_0_1 (broadcastInDim S155648x1 ![0] bcast_S155648_S155648x1_0 (cmpi .slt (iotaInDim S155648 32 0) (broadcastInDim S155648 ![] bcast_S_S155648 (shapeCast _ (extractStridedSlice S1 ![31] (ends a0) slices_S32_S1_31) shapeCasts_S1_S_))))) (shapeCast _ (blocks (shapeCast _ (extf .f32 a1 bitsLt_bf16_f32) shapeCasts_S155648x1024_S1216x128x1024) (Host.gather gather_S32x1024x2048_S1216x1_S1216x1024x2048_12_0_n_n_0_1_110242048 a2 (rowsE (blockE (ends a0)))) (Host.gather gather_S32x2048_S1216x1_S1216x2048_1_0_n_n_0_1_12048 a3 (rowsE (blockE (ends a0)))) (Host.gather gather_S32x1024x1024_S1216x1_S1216x1024x1024_12_0_n_n_0_1_110241024 a4 (rowsE (blockE (ends a0)))) (Host.gather gather_S32x1024_S1216x1_S1216x1024_1_0_n_n_0_1_11024 a5 (rowsE (blockE (ends a0))))) shapeCasts_S1216x128x1024_S155648x1024) (broadcastInDim S155648x1024 ![] bcast_S_S155648x1024 (id (constant S_ .f32 0x00000000#32)))) bitsLt_bf16_f32

/-- The printed result is that. -/
theorem res_eq (m : (ℓ : Loc nD τ sig) → Buf (Elt Ideal) ℓ) (c : Dev nD) :
    Value.res_main_v83 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rfl

/-- The kernel's host computes the same ends. -/
theorem ends_eq (a0 : IVec S32 32) : ends a0 = KernelIdeal.Exp.padEnd a0 := rfl

/-- An entry of a block: the expert's output on the block's row. -/
theorem blocks_entry (X : FVec Ideal S1216x128x1024 .f32) (W1 : FVec Ideal S1216x1024x2048 .f32) (B1 : FVec Ideal S1216x2048 .f32) (W2 : FVec Ideal S1216x1024x1024 .f32)
    (B2 : FVec Ideal S1216x1024 .f32) (b : Fin 1216) (p : Fin 128) (j : Fin 1024) :
    blocks X W1 B1 W2 B2 (ix3 b p j) = entry (fun i => X (ix3 b p i)) (fun i k => W1 (ix3 b i k)) (fun k => B1 (ix2 b k)) (fun k => W2 (ix3 b k j)) (B2 (ix2 b j)) := by
  pointwise [blocks, hidden, entry, unit, Ideal.logistic]
  rfl

/-- Each block's expert, as a number. -/
theorem blockE_word (a0 : IVec S32 32) (b : Fin 1216) :
    blockE (ends a0) (ix1 b) = BitVec.ofNat 32 (KernelIdeal.Exp.expertOf (ends a0) (b.val * 128)) := by
  rw [ix1_eq_valueIdx]
  exact KernelIdeal.Exp.expert_word (by decide) (ends a0) bcast_S32_S1x32_1 bcast_S1x32_S1216x32_0_1 bcast_S1216_S1216x1_0 bcast_S1216x1_S1216x32_0_1 bcast_S_S1216 bcast_S_S1216 natLt_1_32 reducesTo_S1216x32_S1216_d1 h_S_ b

/-- An expert's number is never negative, so the look-up takes it as it is. -/
theorem rowsE_at (e : IVec S1216 32) (b : Fin 1216) (n : Nat) (hn : n < 32) (h : e (ix1 b) = BitVec.ofNat 32 n) :
    rowsE e (ix2 b (0 : Fin 1)) = BitVec.ofNat 32 n := by
  pointwise [rowsE]
  rw [h]
  interval_cases n <;> rfl

/-- An entry of the result: the expert's output on the row where the row comes before the last end, else zero. -/
theorem result_at (a0 : IVec S32 32) (a1 : FVec Ideal S155648x1024 .bf16) (a2 : FVec Ideal S32x1024x2048 .f32) (a3 : FVec Ideal S32x2048 .f32) (a4 : FVec Ideal S32x1024x1024 .f32)
    (a5 : FVec Ideal S32x1024 .f32) (r : Fin 155648) (j : Fin 1024) (e : Fin 32) (he : e.val = KernelIdeal.Exp.expertOf (ends a0) (r.val / 128 * 128)) :
    result a0 a1 a2 a3 a4 a5 (ix2 r j) = if (BitVec.ofNat 32 r.val).slt (ends a0 (ix1 31)) = true
      then entry (fun i => a1 (ix2 r i)) (fun i k => a2 (ix3 e i k)) (fun k => a3 (ix2 e k)) (fun k => a4 (ix3 e k j)) (a5 (ix2 e j)) else 0 := by
  have hb : r.val / 128 < 1216 := by have := r.isLt; omega
  have hw : rowsE (blockE (ends a0)) (ix2 (⟨r.val / 128, hb⟩ : Fin 1216) (0 : Fin 1)) = BitVec.ofNat 32 e.val :=
    rowsE_at _ _ _ e.isLt ((blockE_word a0 _).trans (congrArg _ he.symm))
  have g2 : ∀ i k, Host.gather gather_S32x1024x2048_S1216x1_S1216x1024x2048_12_0_n_n_0_1_110242048 a2 (rowsE (blockE (ends a0))) (ix3 (⟨r.val / 128, hb⟩ : Fin 1216) i k) = a2 (ix3 e i k) :=
    fun i k => gather_slab _ a2 _ _ i k e hw (by decide)
  have g4 : ∀ i k, Host.gather gather_S32x1024x1024_S1216x1_S1216x1024x1024_12_0_n_n_0_1_110241024 a4 (rowsE (blockE (ends a0))) (ix3 (⟨r.val / 128, hb⟩ : Fin 1216) i k) = a4 (ix3 e i k) :=
    fun i k => gather_slab _ a4 _ _ i k e hw (by decide)
  rw [ix2_eq_valueIdx] at hw
  have g3 : ∀ k, Host.gather gather_S32x2048_S1216x1_S1216x2048_1_0_n_n_0_1_12048 a3 (rowsE (blockE (ends a0))) (ix2 (⟨r.val / 128, hb⟩ : Fin 1216) k) = a3 (ix2 e k) := fun k => by
    rw [ix2_eq_valueIdx, ix2_eq_valueIdx]
    exact Routing.gather_row gather_S32x2048_S1216x1_S1216x2048_1_0_n_n_0_1_12048 rfl rfl rfl rfl rfl a3 _ _ k e hw (by decide)
  have g5 : ∀ k, Host.gather gather_S32x1024_S1216x1_S1216x1024_1_0_n_n_0_1_11024 a5 (rowsE (blockE (ends a0))) (ix2 (⟨r.val / 128, hb⟩ : Fin 1216) k) = a5 (ix2 e k) := fun k => by
    rw [ix2_eq_valueIdx, ix2_eq_valueIdx]
    exact Routing.gather_row gather_S32x1024_S1216x1_S1216x1024_1_0_n_n_0_1_11024 rfl rfl rfl rfl rfl a5 _ _ k e hw (by decide)
  have hx : ∀ i : Fin 1024, shapeCast S1216x128x1024 (extf .f32 a1 bitsLt_bf16_f32) shapeCasts_S155648x1024_S1216x128x1024
      (ix3 (⟨r.val / 128, hb⟩ : Fin 1216) (⟨r.val % 128, Nat.mod_lt _ (by decide)⟩ : Fin 128) i) = a1 (ix2 r i) := fun i => by
    pointwise
  pointwise [result]
  rw [blocks_entry]
  simp only [g2, g3, g4, g5, hx]
  show (if _ then _ else _) = _
  have hz : (id (constant (F := Ideal) S_ .f32 0#32) ix0 : EReal) = 0 := by
    show Ideal.ofBits .f32 0#32 = 0
    pointwise
  rw [hz]
  refine if_congr ?_ rfl rfl
  show (BitVec.ofBool ((BitVec.ofNat 32 r.val).slt (ends a0 (ix1 31))) = 1#1) ↔ _
  generalize (BitVec.ofNat 32 r.val).slt (ends a0 (ix1 31)) = q
  cases q <;> decide

end Cert.ReferenceIdeal.Exp
end
-- ==== Proof.Exp.Same.lean ====
module

public import proofs.«01_k».proof.Proof.Exp.Value
public import proofs.«01_k».proof.Proof.Exp.Ref

@[expose] public section

set_option maxRecDepth 16384

noncomputable section

namespace Cert.Exp

open Idealize.ShloMosaic Idealize.ShloMosaic.TcCoe Cert.KernelIdeal.Gen

variable (m : (ℓ : Loc KernelIdeal.nD KernelIdeal.τ KernelIdeal.sig) → Buf (Elt Ideal) ℓ)

/-- A block of 128 rows and the tile of 512 it lies in have the same expert. -/
theorem expert_same (a0 : IVec KernelIdeal.S32 32) (r : Nat) :
    KernelIdeal.Exp.expertOf (KernelIdeal.Exp.padEnd a0) (r / 512 * 512) = KernelIdeal.Exp.expertOf (KernelIdeal.Exp.padEnd a0) (r / 128 * 128) := by
  rw [KernelIdeal.Exp.expertOf_tile _ (KernelIdeal.Exp.padEnd_mul a0) (r / 128 * 128)]
  refine congrArg _ ?_
  omega

/-- The kernel's result is the reference's on the same arguments. -/
theorem result_eq_total (c : Dev KernelIdeal.nD) :
    ReferenceIdeal.Exp.result (m ((c : Thread KernelIdeal.nD KernelIdeal.τ).loc KernelIdeal.main_arg0)) (m ((c : Thread KernelIdeal.nD KernelIdeal.τ).loc KernelIdeal.main_arg1))
      (m ((c : Thread KernelIdeal.nD KernelIdeal.τ).loc KernelIdeal.main_arg2)) (m ((c : Thread KernelIdeal.nD KernelIdeal.τ).loc KernelIdeal.main_arg3))
      (m ((c : Thread KernelIdeal.nD KernelIdeal.τ).loc KernelIdeal.main_arg4)) (m ((c : Thread KernelIdeal.nD KernelIdeal.τ).loc KernelIdeal.main_arg5)) = KernelIdeal.Exp.total m c := by
  funext y
  obtain ⟨r, j, rfl⟩ : ∃ (r : Fin 155648) (j : Fin 1024), y = ix2 r j := ⟨_, _, eq_ix2 (n0 := 155648) (n1 := 1024) y⟩
  have hl := KernelIdeal.Exp.ex_lt m c (r.val / 512)
  refine (ReferenceIdeal.Exp.result_at _ _ _ _ _ _ r j ⟨KernelIdeal.Exp.ex m c (r.val / 512), hl⟩ ?_).trans (KernelIdeal.Exp.total_at m c r j ⟨_, hl⟩ rfl).symm
  exact expert_same (KernelIdeal.Exp.cnt m c) r.val

end Cert.Exp
end
-- ==== Proof.Dense.Spec.lean ====
module

public import Idealize.ShloMosaic.Lib.Pointwise
public import Idealize.ShloMosaic.Lib.IdealHost
public import Idealize.ShloMosaic.Lib.Pipeline.ValueKit.Basic

@[expose] public section

noncomputable section

namespace Cert.Dense

open Idealize.ShloMosaic

/-- An entry of a row of length 1024 put to mean square one (with the small constant added to the mean), before the gain. -/
def unitRow (x : Fin 1024 → EReal) (i : Fin 1024) : EReal :=
  x i * Ideal.rsqrt (Ideal.div (∑ k : Fin 1024, x k * x k) (Ideal.ofBits .f32 0x44800000#32) + Ideal.ofBits .f32 0x358637BD#32)

/-- The entry after the gain `g`, the scale `1 + sc` and the shift `sh`. -/
def modRow (x g sc sh : Fin 1024 → EReal) (i : Fin 1024) : EReal := unitRow x i * g i * (1 + sc i) + sh i

/-- A vector as a matrix of one row. -/
theorem row_at {n : Nat} (a : (⟨1, ![n]⟩ : Shape).Idx → EReal) (h : (⟨1, ![n]⟩ : Shape).ShapeCasts ⟨2, ![1, n]⟩) (k : Fin n) : shapeCast ⟨2, ![1, n]⟩ a h (ix2 (0 : Fin 1) k) = a (ix1 k) :=
  shapeCast_apply _ _ _ _ (by rw [Shape.rowMajor_val_one, Shape.rowMajor_val_two]; show k.val = 0 * n + k.val; omega)

/-- The modulation rows cut into their six pieces each. -/
theorem piece_at (a : (⟨2, ![16, 6144]⟩ : Shape).Idx → EReal) (h : (⟨2, ![16, 6144]⟩ : Shape).ShapeCasts ⟨3, ![96, 1, 1024]⟩) (q : Fin 96) (k : Fin 1024) (g : Fin 16) (l : Fin 6144)
    (e : g.val * 6144 + l.val = q.val * 1024 + k.val) : shapeCast ⟨3, ![96, 1, 1024]⟩ a h (ix3 q (0 : Fin 1) k) = a (ix2 g l) :=
  shapeCast_apply _ _ _ _ (by rw [Shape.rowMajor_val_two, Shape.rowMajor_val_three]; show g.val * 6144 + l.val = (q.val * 1 + 0) * 1024 + k.val; omega)

end Cert.Dense
end
-- ==== Proof.Dense.Modulated.lean ====
module

public import proofs.«01_k».proof.Proof.Gen.Reference2Ideal
public import proofs.«01_k».proof.Proof.Dense.Spec

@[expose] public section

set_option maxRecDepth 16384

noncomputable section

namespace Cert.Reference2Ideal.Dense

open Idealize.ShloMosaic Cert.Reference2Ideal.Gen Cert.Dense

/-- The latent tokens' values and the context tokens' values stacked into rows: a row's entry is `e` if it is so of the group and the place the row comes from. -/
theorem stack_at {n : Nat} (A : (⟨3, ![8, 4096, n]⟩ : Shape).Idx → EReal) (B : (⟨3, ![8, 256, n]⟩ : Shape).Idx → EReal) (hA : (⟨3, ![8, 4096, n]⟩ : Shape).ShapeCasts ⟨2, ![32768, n]⟩) (hB : (⟨3, ![8, 256, n]⟩ : Shape).ShapeCasts ⟨2, ![2048, n]⟩)
    (hc : Shape.Concatenates [(⟨2, ![32768, n]⟩ : Shape), ⟨2, ![2048, n]⟩] ⟨2, ![34816, n]⟩ 0) (r : Fin 34816) (j : Fin n) (e : EReal)
    (hl : ∀ (q : Fin 8) (l : Fin 4096), r.val = q.val * 4096 + l.val → A (ix3 q l j) = e) (hr : ∀ (q : Fin 8) (l : Fin 256), r.val = 32768 + (q.val * 256 + l.val) → B (ix3 q l j) = e) :
    concatenate (⟨2, ![34816, n]⟩ : Shape) 0 [⟨⟨2, ![32768, n]⟩, shapeCast ⟨2, ![32768, n]⟩ A hA⟩, ⟨⟨2, ![2048, n]⟩, shapeCast ⟨2, ![2048, n]⟩ B hB⟩] hc (ix2 r j) = e := by
  have h' := r.isLt
  by_cases h : r.val < 32768
  · refine (concatenate_pair_apply_left (t := ⟨2, ![34816, n]⟩) (s₁ := ⟨2, ![32768, n]⟩) (s₂ := ⟨2, ![2048, n]⟩) 0 _ _ hc (ix2 r j) rfl (ix2 (⟨r.val, h⟩ : Fin 32768) j) (fun a => by match a with | ⟨0, _⟩ => rfl | ⟨1, _⟩ => rfl)).trans ?_
    refine (shapeCast_apply _ _ _ (ix3 (⟨r.val / 4096, by omega⟩ : Fin 8) (⟨r.val % 4096, by omega⟩ : Fin 4096) j) (by
      rw [Shape.rowMajor_val_three, Shape.rowMajor_val_two]; show (r.val / 4096 * 4096 + r.val % 4096) * n + j.val = r.val * n + j.val; rw [show r.val / 4096 * 4096 + r.val % 4096 = r.val by omega])).trans ?_
    exact hl _ _ (by show r.val = r.val / 4096 * 4096 + r.val % 4096; omega)
  · refine (concatenate_pair_apply_right (t := ⟨2, ![34816, n]⟩) (s₁ := ⟨2, ![32768, n]⟩) (s₂ := ⟨2, ![2048, n]⟩) 0 _ _ hc (ix2 r j) rfl rfl (ix2 (⟨r.val - 32768, by omega⟩ : Fin 2048) j)
      (fun a ha => by match a with | ⟨0, _⟩ => exact absurd rfl ha | ⟨1, _⟩ => rfl) (by show r.val - 32768 + 32768 = r.val; omega)).trans ?_
    refine (shapeCast_apply _ _ _ (ix3 (⟨(r.val - 32768) / 256, by omega⟩ : Fin 8) (⟨(r.val - 32768) % 256, by omega⟩ : Fin 256) j) (by
      rw [Shape.rowMajor_val_three, Shape.rowMajor_val_two]; show ((r.val - 32768) / 256 * 256 + (r.val - 32768) % 256) * n + j.val = (r.val - 32768) * n + j.val; rw [show (r.val - 32768) / 256 * 256 + (r.val - 32768) % 256 = r.val - 32768 by omega])).trans ?_
    exact hr _ _ (by show r.val = 32768 + ((r.val - 32768) / 256 * 256 + (r.val - 32768) % 256); omega)

/-- The latent tokens' rows, by group. -/
def latRows (x : FVec Ideal S34816x1024 .f32) : FVec Ideal S8x4096x1024 .f32 :=
  shapeCast _ (extractStridedSlice S32768x1024 ![0, 0] x slices_S34816x1024_S32768x1024_0_0) shapeCasts_S32768x1024_S8x4096x1024

/-- The context tokens' rows, by group. -/
def ctxRows (x : FVec Ideal S34816x1024 .f32) : FVec Ideal S8x256x1024 .f32 :=
  shapeCast _ (extractStridedSlice S2048x1024 ![32768, 0] x slices_S34816x1024_S2048x1024_32768_0) shapeCasts_S2048x1024_S8x256x1024

/-- A group's place in such a cut of rows of any length is a row. -/
theorem latCut_at {n : Nat} (x : (⟨2, ![34816, n]⟩ : Shape).Idx → EReal) (h : (⟨2, ![34816, n]⟩ : Shape).Slices ![0, 0] ⟨2, ![32768, n]⟩) (h' : (⟨2, ![32768, n]⟩ : Shape).ShapeCasts ⟨3, ![8, 4096, n]⟩)
    (b : Fin 8) (l : Fin 4096) (k : Fin n) (r : Fin 34816) (hr : r.val = b.val * 4096 + l.val) :
    shapeCast ⟨3, ![8, 4096, n]⟩ (extractStridedSlice ⟨2, ![32768, n]⟩ ![0, 0] x h) h' (ix3 b l k) = x (ix2 r k) := by
  refine (shapeCast_apply _ _ (ix3 b l k) (ix2 (⟨b.val * 4096 + l.val, by omega⟩ : Fin 32768) k) (by
    rw [Shape.rowMajor_val_three, Shape.rowMajor_val_two]; show (b.val * 4096 + l.val) * n + k.val = (b.val * 4096 + l.val) * n + k.val; rfl)).trans ?_
  refine congrArg x (funext fun a => Fin.ext ?_)
  match a with
  | ⟨0, _⟩ => show 0 + (b.val * 4096 + l.val) = r.val; omega
  | ⟨1, _⟩ => show 0 + k.val = k.val; omega

theorem ctxCut_at {n : Nat} (x : (⟨2, ![34816, n]⟩ : Shape).Idx → EReal) (h : (⟨2, ![34816, n]⟩ : Shape).Slices ![32768, 0] ⟨2, ![2048, n]⟩) (h' : (⟨2, ![2048, n]⟩ : Shape).ShapeCasts ⟨3, ![8, 256, n]⟩)
    (b : Fin 8) (l : Fin 256) (k : Fin n) (r : Fin 34816) (hr : r.val = 32768 + (b.val * 256 + l.val)) :
    shapeCast ⟨3, ![8, 256, n]⟩ (extractStridedSlice ⟨2, ![2048, n]⟩ ![32768, 0] x h) h' (ix3 b l k) = x (ix2 r k) := by
  refine (shapeCast_apply _ _ (ix3 b l k) (ix2 (⟨b.val * 256 + l.val, by omega⟩ : Fin 2048) k) (by
    rw [Shape.rowMajor_val_three, Shape.rowMajor_val_two]; show (b.val * 256 + l.val) * n + k.val = (b.val * 256 + l.val) * n + k.val; rfl)).trans ?_
  refine congrArg x (funext fun a => Fin.ext ?_)
  match a with
  | ⟨0, _⟩ => show 32768 + (b.val * 256 + l.val) = r.val; omega
  | ⟨1, _⟩ => show 0 + k.val = k.val; omega

theorem latRows_at (x : FVec Ideal S34816x1024 .f32) (b : Fin 8) (l : Fin 4096) (k : Fin 1024) (r : Fin 34816) (hr : r.val = b.val * 4096 + l.val) : latRows x (ix3 b l k) = x (ix2 r k) :=
  latCut_at x _ _ b l k r hr
theorem ctxRows_at (x : FVec Ideal S34816x1024 .f32) (b : Fin 8) (l : Fin 256) (k : Fin 1024) (r : Fin 34816) (hr : r.val = 32768 + (b.val * 256 + l.val)) : ctxRows x (ix3 b l k) = x (ix2 r k) :=
  ctxCut_at x _ _ b l k r hr

/-- The groups' modulation rows, and the context's one. -/
def latVals (v : FVec Ideal S16x6144 .f32) : FVec Ideal S8x1x6144 .f32 :=
  broadcastInDim S8x1x6144 ![0, 2] bcast_S8x6144_S8x1x6144_0_2 (extractStridedSlice S8x6144 ![0, 0] v slices_S16x6144_S8x6144_0_0)
def ctxVals (v : FVec Ideal S16x6144 .f32) : FVec Ideal S1x1x6144 .f32 :=
  broadcastInDim S1x1x6144 ![0, 2] bcast_S1x6144_S1x1x6144_0_2 (extractStridedSlice S1x6144 ![8, 0] v slices_S16x6144_S1x6144_8_0)

theorem latVals_at (v : FVec Ideal S16x6144 .f32) (b : Fin 8) (k : Fin 6144) : latVals v (ix3 b (0 : Fin 1) k) = v (ix2 (⟨b.val, by omega⟩ : Fin 16) k) := by
  pointwise [latVals]
theorem ctxVals_at (v : FVec Ideal S16x6144 .f32) (k : Fin 6144) : ctxVals v (ix3 (0 : Fin 1) (0 : Fin 1) k) = v (ix2 (8 : Fin 16) k) := by
  pointwise [ctxVals]

/-- The latent tokens after the pre-norm and their modulation. -/
def lat (x : FVec Ideal S8x4096x1024 .f32) (g : FVec Ideal S1024 .f32) (v : FVec Ideal S8x1x6144 .f32) : FVec Ideal S8x4096x1024 .f32 :=
  addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1
    (Host.reduceAdd (mulf x x) (constant S_ .f32 0x00000000#32) reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S8x1x1024_S8x4096x1024_0_1_2 (addf (broadcastInDim S8x1x1024 ![] bcast_S_S8x1x1024 (constant S_ .f32 0x3F800000#32))
      (extractStridedSlice S8x1x1024 ![0, 0, 1024] v slices_S8x1x6144_S8x1x1024_0_0_1024))))
    (broadcastInDim S8x4096x1024 ![0, 1, 2] bcast_S8x1x1024_S8x4096x1024_0_1_2 (extractStridedSlice S8x1x1024 ![0, 0, 0] v slices_S8x1x6144_S8x1x1024_0_0_0))

/-- The context tokens after the pre-norm and their modulation. -/
def ctx (x : FVec Ideal S8x256x1024 .f32) (g : FVec Ideal S1024 .f32) (v : FVec Ideal S1x1x6144 .f32) : FVec Ideal S8x256x1024 .f32 :=
  addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1
    (Host.reduceAdd (mulf x x) (constant S_ .f32 0x00000000#32) reducesTo_S8x256x1024_S8x256_d2 h_S_)) (broadcastInDim S8x256x1 ![] bcast_S_S8x256x1 (constant S_ .f32 0x44800000#32)))
    (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 g)))
    (broadcastInDim S8x256x1024 ![0, 1, 2] bcast_S1x1x1024_S8x256x1024_0_1_2 (addf (broadcastInDim S1x1x1024 ![] bcast_S_S1x1x1024 (constant S_ .f32 0x3F800000#32))
      (extractStridedSlice S1x1x1024 ![0, 0, 1024] v slices_S1x1x6144_S1x1x1024_0_0_1024))))
    (broadcastInDim S8x256x1024 ![0, 1, 2] bcast_S1x1x1024_S8x256x1024_0_1_2 (extractStridedSlice S1x1x1024 ![0, 0, 0] v slices_S1x1x6144_S1x1x1024_0_0_0))

/-- The shift's and the scale's columns of a modulation row. -/
abbrev colSh (i : Fin 1024) : Fin 6144 := ⟨i.val, by omega⟩
abbrev colSc (i : Fin 1024) : Fin 6144 := ⟨1024 + i.val, by omega⟩

theorem lat_entry (x : FVec Ideal S8x4096x1024 .f32) (g : FVec Ideal S1024 .f32) (v : FVec Ideal S8x1x6144 .f32) (b : Fin 8) (l : Fin 4096) (i : Fin 1024) :
    lat x g v (ix3 b l i) = modRow (fun k => x (ix3 b l k)) (fun k => g (ix1 k)) (fun k => v (ix3 b 0 (colSc k))) (fun k => v (ix3 b 0 (colSh k))) i := by
  pointwise [lat, modRow, unitRow, colSc, colSh]

theorem ctx_entry (x : FVec Ideal S8x256x1024 .f32) (g : FVec Ideal S1024 .f32) (v : FVec Ideal S1x1x6144 .f32) (b : Fin 8) (l : Fin 256) (i : Fin 1024) :
    ctx x g v (ix3 b l i) = modRow (fun k => x (ix3 b l k)) (fun k => g (ix1 k)) (fun k => v (ix3 0 0 (colSc k))) (fun k => v (ix3 0 0 (colSh k))) i := by
  pointwise [ctx, modRow, unitRow, colSc, colSh]

/-- The modulation row a token's row takes: its group's, and the ninth for the context. -/
abbrev grp (r : Fin 34816) : Fin 16 := ⟨r.val / 4096, by omega⟩

/-- A token's row after the pre-norm and its modulation, at a column. -/
def tok (x : FVec Ideal S34816x1024 .f32) (g : FVec Ideal S1024 .f32) (v : FVec Ideal S16x6144 .f32) (r : Fin 34816) (i : Fin 1024) : EReal :=
  modRow (fun k => x (ix2 r k)) (fun k => g (ix1 k)) (fun k => v (ix2 (grp r) (colSc k))) (fun k => v (ix2 (grp r) (colSh k))) i

theorem lat_tok (x : FVec Ideal S34816x1024 .f32) (g : FVec Ideal S1024 .f32) (v : FVec Ideal S16x6144 .f32) (b : Fin 8) (l : Fin 4096) (i : Fin 1024) (r : Fin 34816) (hr : r.val = b.val * 4096 + l.val) :
    lat (latRows x) g (latVals v) (ix3 b l i) = tok x g v r i := by
  have hg : (⟨b.val, by omega⟩ : Fin 16) = grp r := Fin.ext (by show b.val = r.val / 4096; omega)
  simp only [lat_entry, latVals_at, tok, latRows_at x b l _ r hr, hg]

theorem ctx_tok (x : FVec Ideal S34816x1024 .f32) (g : FVec Ideal S1024 .f32) (v : FVec Ideal S16x6144 .f32) (b : Fin 8) (l : Fin 256) (i : Fin 1024) (r : Fin 34816) (hr : r.val = 32768 + (b.val * 256 + l.val)) :
    ctx (ctxRows x) g (ctxVals v) (ix3 b l i) = tok x g v r i := by
  have hg : (8 : Fin 16) = grp r := Fin.ext (by show 8 = r.val / 4096; omega)
  simp only [ctx_entry, ctxVals_at, tok, ctxRows_at x b l _ r hr, hg]

end Cert.Reference2Ideal.Dense
end
-- ==== Proof.Dense.Qkv.lean ====
module

public import proofs.«01_k».proof.Proof.Gen.Kernel2Ideal.Value
public import proofs.«01_k».proof.Proof.Gen.Reference2Ideal.Run
public import proofs.«01_k».proof.Proof.Dense.Modulated

@[expose] public section

set_option maxRecDepth 16384

noncomputable section

namespace Cert.Reference2Ideal.Dense

open Idealize.ShloMosaic Idealize.ShloMosaic.TcCoe Cert.Reference2Ideal.Gen Cert.Dense

/-- An entry of the result: the token's modulated row times the matrix's column, plus the bias. -/
def proj (x : FVec Ideal S34816x1024 .f32) (g : FVec Ideal S1024 .f32) (v : FVec Ideal S16x6144 .f32) (w : FVec Ideal S1024x3072 .f32) (b : FVec Ideal S3072 .f32) (r : Fin 34816) (j : Fin 3072) : EReal :=
  (∑ i : Fin 1024, tok x g v r i * w (ix2 i j)) + b (ix1 j)

/-- The latent tokens' product and bias, and the context tokens'. -/
def latProj (h : FVec Ideal S8x4096x1024 .f32) (w : FVec Ideal S1024x3072 .f32) (b : FVec Ideal S3072 .f32) : FVec Ideal S8x4096x3072 .f32 :=
  addf (Host.dotGeneral dot_S8x4096x1024_S1024x3072_S8x4096x3072_2_0_01_1_n_n none h w)
    (broadcastInDim S8x4096x3072 ![0, 1, 2] bcast_S1x1x3072_S8x4096x3072_0_1_2 (broadcastInDim S1x1x3072 ![2] bcast_S3072_S1x1x3072_2 b))
def ctxProj (h : FVec Ideal S8x256x1024 .f32) (w : FVec Ideal S1024x3072 .f32) (b : FVec Ideal S3072 .f32) : FVec Ideal S8x256x3072 .f32 :=
  addf (Host.dotGeneral dot_S8x256x1024_S1024x3072_S8x256x3072_2_0_01_1_n_n none h w)
    (broadcastInDim S8x256x3072 ![0, 1, 2] bcast_S1x1x3072_S8x256x3072_0_1_2 (broadcastInDim S1x1x3072 ![2] bcast_S3072_S1x1x3072_2 b))

theorem latProj_entry (h : FVec Ideal S8x4096x1024 .f32) (w : FVec Ideal S1024x3072 .f32) (b : FVec Ideal S3072 .f32) (q : Fin 8) (l : Fin 4096) (j : Fin 3072) :
    latProj h w b (ix3 q l j) = (∑ i : Fin 1024, h (ix3 q l i) * w (ix2 i j)) + b (ix1 j) := by
  pointwise [latProj]
theorem ctxProj_entry (h : FVec Ideal S8x256x1024 .f32) (w : FVec Ideal S1024x3072 .f32) (b : FVec Ideal S3072 .f32) (q : Fin 8) (l : Fin 256) (j : Fin 3072) :
    ctxProj h w b (ix3 q l j) = (∑ i : Fin 1024, h (ix3 q l i) * w (ix2 i j)) + b (ix1 j) := by
  pointwise [ctxProj]

/-- An entry of the reference's result. -/
theorem res_entry (m : (ℓ : Loc nD τ sig) → Buf (Elt Ideal) ℓ) (c : Dev nD) (x : FVec Ideal S34816x1024 .f32) (g : FVec Ideal S1024 .f32) (v : FVec Ideal S16x6144 .f32) (w : FVec Ideal S1024x3072 .f32)
    (b : FVec Ideal S3072 .f32) (hx : m ((c : Thread nD τ).loc main_arg0) = x) (hg : m ((c : Thread nD τ).loc main_arg1) = g) (hv : m ((c : Thread nD τ).loc main_arg2) = v)
    (hw : m ((c : Thread nD τ).loc main_arg3) = w) (hb : m ((c : Thread nD τ).loc main_arg4) = b) (r : Fin 34816) (j : Fin 3072) :
    (Value.res_main_v61 m c : FVec Ideal S34816x3072 .bf16) (ix2 r j) = proj x g v w b r j := by
  have e : (Value.res_main_v61 m c : FVec Ideal S34816x3072 .bf16) = concatenate S34816x3072 0
      [⟨S32768x3072, shapeCast S32768x3072 (latProj (lat (latRows x) g (latVals v)) w b) shapeCasts_S8x4096x3072_S32768x3072⟩,
       ⟨S2048x3072, shapeCast S2048x3072 (ctxProj (ctx (ctxRows x) g (ctxVals v)) w b) shapeCasts_S8x256x3072_S2048x3072⟩] concatenates_S32768x3072_S2048x3072_S34816x3072_d0 := by
    unfold Value.res_main_v61
    rw [hx, hg, hv, hw, hb]
    rfl
  rw [e]
  refine stack_at (n := 3072) _ _ _ _ _ r j _ (fun q l hr => ?_) (fun q l hr => ?_)
  · rw [latProj_entry]
    exact congrArg (· + b (ix1 j)) (Finset.sum_congr rfl fun i _ => congrArg (· * w (ix2 i j)) (lat_tok x g v q l i r hr))
  · rw [ctxProj_entry]
    exact congrArg (· + b (ix1 j)) (Finset.sum_congr rfl fun i _ => congrArg (· * w (ix2 i j)) (ctx_tok x g v q l i r hr))

end Cert.Reference2Ideal.Dense

namespace Cert.Kernel2Ideal.Dense

open Idealize.ShloMosaic Idealize.ShloMosaic.TcCoe Cert.Kernel2Ideal.Gen Cert.Dense
open Cert.Reference2Ideal.Dense (tok proj grp colSh colSc)

variable (m : (ℓ : Loc nD τ sig) → Buf (Elt Ideal) ℓ)

/-- An entry of the block the body computes. -/
theorem pay_entry (x : Vec Ideal S512x1024 .f32) (g : Vec Ideal S1x1024 .f32) (sh sc : Vec Ideal S1x1x1024 .f32) (w : Vec Ideal S1024x1024 .bf16) (b : Vec Ideal S1x1024 .f32) (p : Fin 512) (j : Fin 1024) :
    k0_pay1 x g sh sc w b (ix2 p j)
      = (∑ i : Fin 1024, modRow (fun k => x (ix2 p k)) (fun k => g (ix2 0 k)) (fun k => sc (ix3 0 0 k)) (fun k => sh (ix3 0 0 k)) i * w (ix2 i j)) + b (ix2 0 j) := by
  pointwise [k0_pay1, modRow, unitRow]

/-- The same, the operands' entries named. -/
theorem pay_at (x : Vec Ideal S512x1024 .f32) (g : Vec Ideal S1x1024 .f32) (sh sc : Vec Ideal S1x1x1024 .f32) (w : Vec Ideal S1024x1024 .bf16) (b : Vec Ideal S1x1024 .f32) (p : Fin 512) (j : Fin 1024)
    (X G C H W : Fin 1024 → EReal) (B : EReal) (hx : ∀ k, x (ix2 p k) = X k) (hg : ∀ k, g (ix2 0 k) = G k) (hc : ∀ k, sc (ix3 0 0 k) = C k) (hh : ∀ k, sh (ix3 0 0 k) = H k) (hw : ∀ k, w (ix2 k j) = W k)
    (hb : b (ix2 0 j) = B) : k0_pay1 x g sh sc w b (ix2 p j) = (∑ i : Fin 1024, modRow X G C H i * W i) + B := by
  obtain rfl := funext hx; obtain rfl := funext hg; obtain rfl := funext hc; obtain rfl := funext hh; obtain rfl := funext hw; subst hb
  exact pay_entry x g sh sc w b p j

/-- The block the body leaves is what it computes from the input blocks. -/
theorem out_eq (x : Vec Ideal S512x1024 .f32) (g : Vec Ideal S1x1024 .f32) (sh sc : Vec Ideal S1x1x1024 .f32) (w : Vec Ideal S1024x1024 .bf16) (b : Vec Ideal S1x1024 .f32) :
    out0_6 x g sh sc w b = k0_pay1 x g sh sc w b := by
  unfold out0_6
  rw [View.canon_cons_unit_lit _ _ _ (by decide), View.ld_unit_lit _ x (by decide), View.ld_unit_lit _ g (by decide), View.ld_unit_lit _ sh (by decide), View.ld_unit_lit _ sc (by decide),
    View.ld_unit_lit _ w (by decide), View.ld_unit_lit _ b (by decide)]

/-- The index maps at a point, the columns' block outermost: 68 blocks of rows under each of the 3 blocks of columns; a block's rows lie in one group. -/
theorem maps : ∀ t : Fin grid0.N,
    cc0_transform_0 (grid0.coords t) = ![t.val % 68, 0] ∧ cc0_transform_2 (grid0.coords t) = ![t.val % 68 / 8 * 6, 0, 0] ∧ cc0_transform_3 (grid0.coords t) = ![t.val % 68 / 8 * 6 + 1, 0, 0]
    ∧ cc0_transform_4 (grid0.coords t) = ![0, t.val / 68] ∧ cc0_transform_5 (grid0.coords t) = ![0, t.val / 68] ∧ cc0_transform_6 (grid0.coords t) = ![t.val % 68, t.val / 68] := by
  decide +kernel

/-- The arrays as the call finds them. -/
theorem V_mod (c : Dev nD) : V m c main_v0 = shapeCast S96x1x1024 (m ((c : Thread nD τ).loc main_arg2)) shapeCasts_S16x6144_S96x1x1024 := by
  unfold V hostOps0; after_results; rfl
theorem V_mat (c : Dev nD) : V m c main_v1 = m ((c : Thread nD τ).loc main_arg3) := by
  unfold V hostOps0; after_results; rfl
theorem V_gain (c : Dev nD) : V m c main_v2 = shapeCast S1x1024 (m ((c : Thread nD τ).loc main_arg1)) shapeCasts_S1024_S1x1024 := by
  unfold V hostOps0; after_results; rfl
theorem V_bias (c : Dev nD) : V m c main_v3 = shapeCast S1x3072 (m ((c : Thread nD τ).loc main_arg4)) shapeCasts_S3072_S1x3072 := by
  unfold V hostOps0; after_results; rfl

/-- The blocks a point reads: its rows, the gain, its group's shift and scale, its columns of the matrix and of the bias. -/
theorem rows_at (c : Dev nD) (t : Fin cfg0.N) (p : Fin 512) (k : Fin 1024) (r : Fin 34816) (hr : r.val = t.val % 68 * 512 + p.val) :
    iblk m c 0 t (ix2 p k) = m ((c : Thread nD τ).loc main_arg0) (ix2 r k) := by
  show V m c main_arg0 _ = _
  rw [V_main_arg0]
  refine congrArg _ (funext fun a => Fin.ext ?_)
  match a with
  | ⟨0, _⟩ => show cc0_transform_0 (grid0.coords t) 0 * 512 + 1 * p.val = r.val; rw [(maps t).1, hr]; show t.val % 68 * 512 + 1 * p.val = _; omega
  | ⟨1, _⟩ => show cc0_transform_0 (grid0.coords t) 1 * 1024 + 1 * k.val = k.val; rw [(maps t).1]; show 0 * 1024 + 1 * k.val = _; omega

theorem gain_at (c : Dev nD) (t : Fin cfg0.N) (k : Fin 1024) : iblk m c 1 t (ix2 (0 : Fin 1) k) = m ((c : Thread nD τ).loc main_arg1) (ix1 k) := by
  show V m c main_v2 _ = _
  rw [V_gain]
  refine Eq.trans (congrArg _ (funext fun a => Fin.ext ?_)) (row_at _ _ k)
  match a with
  | ⟨0, _⟩ => rfl
  | ⟨1, _⟩ => show (0#32 : BitVec 32).toNat * 1024 + 1 * k.val = k.val; simp

theorem shift_at (c : Dev nD) (t : Fin cfg0.N) (k : Fin 1024) (g : Fin 16) (hg : g.val = t.val % 68 / 8) :
    iblk m c 2 t (ix3 (0 : Fin 1) (0 : Fin 1) k) = m ((c : Thread nD τ).loc main_arg2) (ix2 g (colSh k)) := by
  show V m c main_v0 _ = _
  rw [V_mod]
  refine Eq.trans (congrArg _ (funext fun a => Fin.ext ?_)) (piece_at _ _ (⟨g.val * 6, by omega⟩ : Fin 96) k g (colSh k) (by show g.val * 6144 + k.val = g.val * 6 * 1024 + k.val; omega))
  match a with
  | ⟨0, _⟩ => show cc0_transform_2 (grid0.coords t) 0 * 1 + 1 * 0 = g.val * 6; rw [(maps t).2.1, hg]; show t.val % 68 / 8 * 6 * 1 + 1 * 0 = _; omega
  | ⟨1, _⟩ => show cc0_transform_2 (grid0.coords t) 1 * 1 + 1 * 0 = 0; rw [(maps t).2.1]; rfl
  | ⟨2, _⟩ => show cc0_transform_2 (grid0.coords t) 2 * 1024 + 1 * k.val = k.val; rw [(maps t).2.1]; show 0 * 1024 + 1 * k.val = _; omega

theorem scale_at (c : Dev nD) (t : Fin cfg0.N) (k : Fin 1024) (g : Fin 16) (hg : g.val = t.val % 68 / 8) :
    iblk m c 3 t (ix3 (0 : Fin 1) (0 : Fin 1) k) = m ((c : Thread nD τ).loc main_arg2) (ix2 g (colSc k)) := by
  show V m c main_v0 _ = _
  rw [V_mod]
  refine Eq.trans (congrArg _ (funext fun a => Fin.ext ?_)) (piece_at _ _ (⟨g.val * 6 + 1, by omega⟩ : Fin 96) k g (colSc k) (by show g.val * 6144 + (1024 + k.val) = (g.val * 6 + 1) * 1024 + k.val; omega))
  match a with
  | ⟨0, _⟩ => show cc0_transform_3 (grid0.coords t) 0 * 1 + 1 * 0 = g.val * 6 + 1; rw [(maps t).2.2.1, hg]; show (t.val % 68 / 8 * 6 + 1) * 1 + 1 * 0 = _; omega
  | ⟨1, _⟩ => show cc0_transform_3 (grid0.coords t) 1 * 1 + 1 * 0 = 0; rw [(maps t).2.2.1]; rfl
  | ⟨2, _⟩ => show cc0_transform_3 (grid0.coords t) 2 * 1024 + 1 * k.val = k.val; rw [(maps t).2.2.1]; show 0 * 1024 + 1 * k.val = _; omega

theorem mat_at (c : Dev nD) (t : Fin cfg0.N) (i j : Fin 1024) (l : Fin 3072) (hl : l.val = t.val / 68 * 1024 + j.val) :
    iblk m c 4 t (ix2 i j) = m ((c : Thread nD τ).loc main_arg3) (ix2 i l) := by
  show V m c main_v1 _ = _
  rw [V_mat]
  refine congrArg _ (funext fun a => Fin.ext ?_)
  match a with
  | ⟨0, _⟩ => show cc0_transform_4 (grid0.coords t) 0 * 1024 + 1 * i.val = i.val; rw [(maps t).2.2.2.1]; show 0 * 1024 + 1 * i.val = _; omega
  | ⟨1, _⟩ => show cc0_transform_4 (grid0.coords t) 1 * 1024 + 1 * j.val = l.val; rw [(maps t).2.2.2.1, hl]; show t.val / 68 * 1024 + 1 * j.val = _; omega

theorem bias_at (c : Dev nD) (t : Fin cfg0.N) (j : Fin 1024) (l : Fin 3072) (hl : l.val = t.val / 68 * 1024 + j.val) :
    iblk m c 5 t (ix2 (0 : Fin 1) j) = m ((c : Thread nD τ).loc main_arg4) (ix1 l) := by
  show V m c main_v3 _ = _
  rw [V_bias]
  refine Eq.trans (congrArg _ (funext fun a => Fin.ext ?_)) (row_at _ _ l)
  match a with
  | ⟨0, _⟩ => show cc0_transform_5 (grid0.coords t) 0 * 1 + 1 * 0 = 0; rw [(maps t).2.2.2.2.1]; rfl
  | ⟨1, _⟩ => show cc0_transform_5 (grid0.coords t) 1 * 1024 + 1 * j.val = l.val; rw [(maps t).2.2.2.2.1, hl]; show t.val / 68 * 1024 + 1 * j.val = _; omega

/-- The result array. -/
def total (c : Dev nD) : FVec Ideal S34816x3072 .bf16 := fun i =>
  proj (m ((c : Thread nD τ).loc main_arg0)) (m ((c : Thread nD τ).loc main_arg1)) (m ((c : Thread nD τ).loc main_arg2)) (m ((c : Thread nD τ).loc main_arg3)) (m ((c : Thread nD τ).loc main_arg4))
    (i 0 : Fin 34816) (i 1 : Fin 3072)

/-- What a point writes back is its block of the result. -/
theorem flushed_eq (c : Dev nD) (t : Fin cfg0.N) : (dats m 0 c).flushed 6 t = ((cfg0.win 6).blk t).view.read (Elt Ideal) (total m c) := by
  rw [Value.flushed6, out_eq]
  have hl := lt_of_lt_of_eq t.isLt N_0
  funext y
  obtain ⟨p, j, rfl⟩ : ∃ (p : Fin 512) (j : Fin 1024), y = ix2 p j := ⟨_, _, eq_ix2 (n0 := 512) (n1 := 1024) y⟩
  generalize hr : (⟨t.val % 68 * 512 + p.val, by omega⟩ : Fin 34816) = r
  generalize hk : (⟨t.val / 68 * 1024 + j.val, by omega⟩ : Fin 3072) = l
  have hr' : r.val = t.val % 68 * 512 + p.val := by rw [← hr]
  have hk' : l.val = t.val / 68 * 1024 + j.val := by rw [← hk]
  have hg : (grp r).val = t.val % 68 / 8 := by show r.val / 4096 = _; omega
  have hi : ((cfg0.win 6).blk t).view.emb (ix2 p j) = ix2 r l := funext fun a => Fin.ext (by
    match a with
    | ⟨0, _⟩ => show cc0_transform_6 (grid0.coords t) 0 * 512 + 1 * p.val = r.val; rw [(maps t).2.2.2.2.2, hr']; show t.val % 68 * 512 + 1 * p.val = _; omega
    | ⟨1, _⟩ => show cc0_transform_6 (grid0.coords t) 1 * 1024 + 1 * j.val = l.val; rw [(maps t).2.2.2.2.2, hk']; show t.val / 68 * 1024 + 1 * j.val = _; omega)
  show k0_pay1 _ _ _ _ _ _ (ix2 p j) = total m c (((cfg0.win 6).blk t).view.emb (ix2 p j))
  rw [hi]
  exact pay_at _ _ _ _ _ _ p j _ _ _ _ _ _ (fun k => rows_at m c t p k r hr') (fun k => gain_at m c t k) (fun k => scale_at m c t k (grp r) hg) (fun k => shift_at m c t k (grp r) hg)
    (fun k => mat_at m c t k j l hk') (bias_at m c t j l hk')

/-- Every entry lies in a point's block. -/
theorem cover (i : S34816x3072.Idx) : ∃ t : Fin cfg0.N, (cfg0.win 6).flush t = true ∧ i ∈ ((cfg0.win 6).blk t).view.set := by
  have h0 : (i 0 : Nat) < 34816 := (i 0).isLt
  have h1 : (i 1 : Nat) < 3072 := (i 1).isLt
  refine ⟨⟨(i 1 : Nat) / 1024 * 68 + (i 0 : Nat) / 512, lt_of_lt_of_eq (by omega) N_0.symm⟩, flush0_6 _, ?_⟩
  generalize ht : (⟨(i 1 : Nat) / 1024 * 68 + (i 0 : Nat) / 512, _⟩ : Fin cfg0.N) = t
  have hv : t.val = (i 1 : Nat) / 1024 * 68 + (i 0 : Nat) / 512 := by rw [← ht]
  have hs : ((cfg0.win 6).blk t).view.set = ((cfg0.win 6).rect t).set := View.set_slice_whole _ _
  rw [hs]
  refine Rect.mem_set_unit.mpr ?_
  intro a
  match a with
  | ⟨0, _⟩ =>
    show cc0_transform_6 (grid0.coords t) 0 * 512 ≤ (i 0 : Nat) ∧ (i 0 : Nat) < cc0_transform_6 (grid0.coords t) 0 * 512 + 512
    rw [(maps t).2.2.2.2.2]; show t.val % 68 * 512 ≤ (i 0 : Nat) ∧ (i 0 : Nat) < t.val % 68 * 512 + 512; omega
  | ⟨1, _⟩ =>
    show cc0_transform_6 (grid0.coords t) 1 * 1024 ≤ (i 1 : Nat) ∧ (i 1 : Nat) < cc0_transform_6 (grid0.coords t) 1 * 1024 + 1024
    rw [(maps t).2.2.2.2.2]; show t.val / 68 * 1024 ≤ (i 1 : Nat) ∧ (i 1 : Nat) < t.val / 68 * 1024 + 1024; omega

/-- So the result array ends as that. -/
theorem final (c : Dev nD) : (dats m 0 c).arrAt 6 cfg0.N = total m c :=
  (dats m 0 c).arrAt_eq_of_cover 6 (total m c) (fun t _ => flushed_eq m c t) cover

/-- And the reference's is the same array. -/
theorem reference_eq (m' : (ℓ : Loc Cert.Reference2Ideal.nD Cert.Reference2Ideal.τ Cert.Reference2Ideal.sig) → Buf (Elt Ideal) ℓ) (c : Dev nD)
    (h0 : m' ((c.tc : Thread Cert.Reference2Ideal.nD Cert.Reference2Ideal.τ).loc Cert.Reference2Ideal.main_arg0) = m ((c : Thread nD τ).loc main_arg0))
    (h1 : m' ((c.tc : Thread Cert.Reference2Ideal.nD Cert.Reference2Ideal.τ).loc Cert.Reference2Ideal.main_arg1) = m ((c : Thread nD τ).loc main_arg1))
    (h2 : m' ((c.tc : Thread Cert.Reference2Ideal.nD Cert.Reference2Ideal.τ).loc Cert.Reference2Ideal.main_arg2) = m ((c : Thread nD τ).loc main_arg2))
    (h3 : m' ((c.tc : Thread Cert.Reference2Ideal.nD Cert.Reference2Ideal.τ).loc Cert.Reference2Ideal.main_arg3) = m ((c : Thread nD τ).loc main_arg3))
    (h4 : m' ((c.tc : Thread Cert.Reference2Ideal.nD Cert.Reference2Ideal.τ).loc Cert.Reference2Ideal.main_arg4) = m ((c : Thread nD τ).loc main_arg4)) :
    Cert.Reference2Ideal.Value.res_main_v61 m' c = total m c := by
  funext i
  obtain ⟨r, j, rfl⟩ : ∃ (r : Fin 34816) (j : Fin 3072), i = ix2 r j := ⟨_, _, eq_ix2 (n0 := 34816) (n1 := 3072) i⟩
  exact Cert.Reference2Ideal.Dense.res_entry m' c _ _ _ _ _ h0 h1 h2 h3 h4 r j

end Cert.Kernel2Ideal.Dense
end
-- ==== Proof.Dense.GmlpRef.lean ====
module

public import proofs.«01_k».proof.Proof.Gen.Kernel3Ideal.Value
public import proofs.«01_k».proof.Proof.Gen.Reference3Ideal.Run
public import proofs.«01_k».proof.Proof.Dense.Modulated
public import Idealize.ShloMosaic.PureOps.Ideal.Laws

@[expose] public section

set_option maxRecDepth 16384

noncomputable section

namespace Cert.Dense

open Idealize.ShloMosaic

/-- The exact Gaussian error linear unit, by the error function. -/
def gelu (z : EReal) : EReal := Ideal.ofBits .f32 0x3F000000#32 * z * (1 + Ideal.erf (z * Ideal.ofBits .f32 0x3F3504F3#32))

/-- The mean of a row of length 3072. -/
def mean (z : Fin 3072 → EReal) : EReal := Ideal.div (∑ k : Fin 3072, z k) (Ideal.ofBits .f32 0x45400000#32)

/-- An entry of the layer norm of such a row, with gain `g` and bias `b`. -/
def lnRow (z g b : Fin 3072 → EReal) (j : Fin 3072) : EReal :=
  (z j - mean z) * Ideal.rsqrt (Ideal.div (∑ k : Fin 3072, (z k - mean z) * (z k - mean z)) (Ideal.ofBits .f32 0x45400000#32) + Ideal.ofBits .f32 0x358637BD#32) * g j + b j

/-- The columns of the first half, and of the second. -/
abbrev lowCol (j : Fin 3072) : Fin 6144 := ⟨j.val, by omega⟩
abbrev highCol (j : Fin 3072) : Fin 6144 := ⟨3072 + j.val, by omega⟩

/-- An entry of the gated unit's row: the first half of the activated columns as they are, the second half layer-normed. -/
def uvRow (z : Fin 6144 → EReal) (g b : Fin 3072 → EReal) (l : Fin 6144) : EReal :=
  if l.val < 3072 then gelu (z l) else lnRow (fun k => gelu (z (highCol k))) g b ⟨l.val - 3072, by omega⟩

theorem uvRow_low (z : Fin 6144 → EReal) (g b : Fin 3072 → EReal) (j : Fin 3072) : uvRow z g b (lowCol j) = gelu (z (lowCol j)) := if_pos j.isLt
theorem uvRow_high (z : Fin 6144 → EReal) (g b : Fin 3072 → EReal) (j : Fin 3072) : uvRow z g b (highCol j) = lnRow (fun k => gelu (z (highCol k))) g b j :=
  (if_neg (by show ¬(3072 + j.val < 3072); omega)).trans (congrArg _ (Fin.ext (by show 3072 + j.val - 3072 = j.val; omega)))

/-- Every column is of the first half or of the second. -/
theorem halves (l : Fin 6144) : (∃ j, l = lowCol j) ∨ ∃ j, l = highCol j := by
  by_cases h : l.val < 3072
  · exact .inl ⟨⟨l.val, h⟩, rfl⟩
  · exact .inr ⟨⟨l.val - 3072, by omega⟩, Fin.ext (by show l.val = 3072 + (l.val - 3072); omega)⟩

/-- Two arrays side by side along the last axis: a column of the first half is the left one's, a column of the second the right one's. -/
theorem pair_low {n : Nat} (A B : (⟨3, ![8, n, 3072]⟩ : Shape).Idx → EReal) (hc : Shape.Concatenates [(⟨3, ![8, n, 3072]⟩ : Shape), ⟨3, ![8, n, 3072]⟩] ⟨3, ![8, n, 6144]⟩ 2) (q : Fin 8) (l : Fin n) (j : Fin 3072) :
    concatenate (⟨3, ![8, n, 6144]⟩ : Shape) 2 [⟨⟨3, ![8, n, 3072]⟩, A⟩, ⟨⟨3, ![8, n, 3072]⟩, B⟩] hc (ix3 q l (lowCol j)) = A (ix3 q l j) :=
  concatenate_pair_apply_left (t := ⟨3, ![8, n, 6144]⟩) (s₁ := ⟨3, ![8, n, 3072]⟩) (s₂ := ⟨3, ![8, n, 3072]⟩) 2 _ _ hc (ix3 q l (lowCol j)) rfl (ix3 q l j)
    (fun a => by match a with | ⟨0, _⟩ => rfl | ⟨1, _⟩ => rfl | ⟨2, _⟩ => rfl)
theorem pair_high {n : Nat} (A B : (⟨3, ![8, n, 3072]⟩ : Shape).Idx → EReal) (hc : Shape.Concatenates [(⟨3, ![8, n, 3072]⟩ : Shape), ⟨3, ![8, n, 3072]⟩] ⟨3, ![8, n, 6144]⟩ 2) (q : Fin 8) (l : Fin n) (j : Fin 3072) :
    concatenate (⟨3, ![8, n, 6144]⟩ : Shape) 2 [⟨⟨3, ![8, n, 3072]⟩, A⟩, ⟨⟨3, ![8, n, 3072]⟩, B⟩] hc (ix3 q l (highCol j)) = B (ix3 q l j) :=
  concatenate_pair_apply_right (t := ⟨3, ![8, n, 6144]⟩) (s₁ := ⟨3, ![8, n, 3072]⟩) (s₂ := ⟨3, ![8, n, 3072]⟩) 2 _ _ hc (ix3 q l (highCol j)) rfl rfl (ix3 q l j)
    (fun a ha => by match a with | ⟨0, _⟩ => rfl | ⟨1, _⟩ => rfl | ⟨2, _⟩ => exact absurd rfl ha) (by show j.val + 3072 = 3072 + j.val; omega)

end Cert.Dense

namespace Cert.Reference3Ideal.Dense

open Idealize.ShloMosaic Idealize.ShloMosaic.TcCoe Cert.Reference3Ideal.Gen Cert.Dense
open Cert.Reference2Ideal.Dense (stack_at lat ctx latRows ctxRows latVals ctxVals lat_tok ctx_tok tok)

/-- A token's row before the activation, at a column. -/
def pre (x : FVec Ideal S34816x1024 .f32) (g : FVec Ideal S1024 .f32) (v : FVec Ideal S16x6144 .f32) (w : FVec Ideal S1024x6144 .f32) (b : FVec Ideal S6144 .f32) (r : Fin 34816) (l : Fin 6144) : EReal :=
  (∑ i : Fin 1024, tok x g v r i * w (ix2 i l)) + b (ix1 l)

/-- An entry of the result. -/
def uv (x : FVec Ideal S34816x1024 .f32) (g : FVec Ideal S1024 .f32) (v : FVec Ideal S16x6144 .f32) (w : FVec Ideal S1024x6144 .f32) (b : FVec Ideal S6144 .f32) (lg lb : FVec Ideal S3072 .f32) (r : Fin 34816)
    (l : Fin 6144) : EReal := uvRow (pre x g v w b r) (fun k => lg (ix1 k)) (fun k => lb (ix1 k)) l

/-- The latent tokens' product and bias. -/
def latPre (h : FVec Ideal S8x4096x1024 .f32) (w : FVec Ideal S1024x6144 .f32) (b : FVec Ideal S6144 .f32) : FVec Ideal S8x4096x6144 .f32 :=
  addf (Host.dotGeneral dot_S8x4096x1024_S1024x6144_S8x4096x6144_2_0_01_1_n_n none h w)
    (broadcastInDim S8x4096x6144 ![0, 1, 2] bcast_S1x1x6144_S8x4096x6144_0_1_2 (broadcastInDim S1x1x6144 ![2] bcast_S6144_S1x1x6144_2 b))

/-- Their activation. -/
def latGelu (z : FVec Ideal S8x4096x6144 .f32) : FVec Ideal S8x4096x6144 .f32 :=
  mulf (mulf (broadcastInDim S8x4096x6144 ![] bcast_S_S8x4096x6144 (constant S_ .f32 0x3F000000#32)) z)
    (Host.erfc (mulf (Host.negf z) (broadcastInDim S8x4096x6144 ![] bcast_S_S8x4096x6144 (constant S_ .f32 0x3F3504F3#32))))

/-- Their layer norm. -/
def latMean (z : FVec Ideal S8x4096x3072 .f32) : FVec Ideal S8x4096x1 .f32 :=
  Host.divf (broadcastInDim S8x4096x1 ![0, 1] bcast_S8x4096_S8x4096x1_0_1 (Host.reduceAdd z (constant S_ .f32 0x00000000#32) reducesTo_S8x4096x3072_S8x4096_d2 h_S_))
    (broadcastInDim S8x4096x1 ![] bcast_S_S8x4096x1 (constant S_ .f32 0x45400000#32))
def latDev (z : FVec Ideal S8x4096x3072 .f32) : FVec Ideal S8x4096x3072 .f32 :=
  subf z (broadcastInDim S8x4096x3072 ![0, 1, 2] bcast_S8x4096x1_S8x4096x3072_0_1_2 (latMean z))
def latNorm (z : FVec Ideal S8x4096x3072 .f32) (g b : FVec Ideal S3072 .f32) : FVec Ideal S8x4096x3072 .f32 :=
  addf (mulf (mulf (latDev z) (broadcastInDim S8x4096x3072 ![0, 1, 2] bcast_S8x4096x1_S8x4096x3072_0_1_2
      (Host.rsqrt (addf (latMean (mulf (latDev z) (latDev z))) (broadcastInDim S8x4096x1 ![] bcast_S_S8x4096x1 (constant S_ .f32 0x358637BD#32))))))
    (broadcastInDim S8x4096x3072 ![0, 1, 2] bcast_S1x1x3072_S8x4096x3072_0_1_2 (broadcastInDim S1x1x3072 ![2] bcast_S3072_S1x1x3072_2 g)))
    (broadcastInDim S8x4096x3072 ![0, 1, 2] bcast_S1x1x3072_S8x4096x3072_0_1_2 (broadcastInDim S1x1x3072 ![2] bcast_S3072_S1x1x3072_2 b))

/-- The two halves side by side. -/
def latUv (z : FVec Ideal S8x4096x6144 .f32) (g b : FVec Ideal S3072 .f32) : FVec Ideal S8x4096x6144 .f32 :=
  concatenate S8x4096x6144 2 [⟨S8x4096x3072, extractStridedSlice S8x4096x3072 ![0, 0, 0] z slices_S8x4096x6144_S8x4096x3072_0_0_0⟩,
    ⟨S8x4096x3072, latNorm (extractStridedSlice S8x4096x3072 ![0, 0, 3072] z slices_S8x4096x6144_S8x4096x3072_0_0_3072) g b⟩] concatenates_S8x4096x3072_S8x4096x3072_S8x4096x6144_d2

theorem latPre_entry (h : FVec Ideal S8x4096x1024 .f32) (w : FVec Ideal S1024x6144 .f32) (b : FVec Ideal S6144 .f32) (q : Fin 8) (l : Fin 4096) (j : Fin 6144) :
    latPre h w b (ix3 q l j) = (∑ i : Fin 1024, h (ix3 q l i) * w (ix2 i j)) + b (ix1 j) := by
  pointwise [latPre]
theorem latGelu_entry (z : FVec Ideal S8x4096x6144 .f32) (q : Fin 8) (l : Fin 4096) (j : Fin 6144) : latGelu z (ix3 q l j) = gelu (z (ix3 q l j)) := by
  pointwise [latGelu, gelu]
  rw [neg_mul, Ideal.erfc_neg]
theorem latNorm_entry (z : FVec Ideal S8x4096x3072 .f32) (g b : FVec Ideal S3072 .f32) (q : Fin 8) (l : Fin 4096) (j : Fin 3072) :
    latNorm z g b (ix3 q l j) = lnRow (fun k => z (ix3 q l k)) (fun k => g (ix1 k)) (fun k => b (ix1 k)) j := by
  pointwise [latNorm, latDev, latMean, lnRow, mean]

theorem latUv_entry (z : FVec Ideal S8x4096x6144 .f32) (g b : FVec Ideal S3072 .f32) (q : Fin 8) (l : Fin 4096) (Z : Fin 6144 → EReal) (hz : ∀ i, z (ix3 q l i) = gelu (Z i)) (j : Fin 6144) :
    latUv z g b (ix3 q l j) = uvRow Z (fun k => g (ix1 k)) (fun k => b (ix1 k)) j := by
  rcases halves j with ⟨i, rfl⟩ | ⟨i, rfl⟩
  · refine Eq.trans (pair_low _ _ _ q l i) ?_
    rw [uvRow_low, ← hz]
    pointwise [lowCol]
  · refine Eq.trans (pair_high _ _ _ q l i) ?_
    rw [latNorm_entry, uvRow_high]
    refine congrArg (fun f => lnRow f _ _ i) (funext fun k => Eq.trans ?_ (hz (highCol k)))
    pointwise [highCol]

/-- The context tokens' product and bias. -/
def ctxPre (h : FVec Ideal S8x256x1024 .f32) (w : FVec Ideal S1024x6144 .f32) (b : FVec Ideal S6144 .f32) : FVec Ideal S8x256x6144 .f32 :=
  addf (Host.dotGeneral dot_S8x256x1024_S1024x6144_S8x256x6144_2_0_01_1_n_n none h w)
    (broadcastInDim S8x256x6144 ![0, 1, 2] bcast_S1x1x6144_S8x256x6144_0_1_2 (broadcastInDim S1x1x6144 ![2] bcast_S6144_S1x1x6144_2 b))

/-- Their activation. -/
def ctxGelu (z : FVec Ideal S8x256x6144 .f32) : FVec Ideal S8x256x6144 .f32 :=
  mulf (mulf (broadcastInDim S8x256x6144 ![] bcast_S_S8x256x6144 (constant S_ .f32 0x3F000000#32)) z)
    (Host.erfc (mulf (Host.negf z) (broadcastInDim S8x256x6144 ![] bcast_S_S8x256x6144 (constant S_ .f32 0x3F3504F3#32))))

/-- Their layer norm. -/
def ctxMean (z : FVec Ideal S8x256x3072 .f32) : FVec Ideal S8x256x1 .f32 :=
  Host.divf (broadcastInDim S8x256x1 ![0, 1] bcast_S8x256_S8x256x1_0_1 (Host.reduceAdd z (constant S_ .f32 0x00000000#32) reducesTo_S8x256x3072_S8x256_d2 h_S_))
    (broadcastInDim S8x256x1 ![] bcast_S_S8x256x1 (constant S_ .f32 0x45400000#32))
def ctxDev (z : FVec Ideal S8x256x3072 .f32) : FVec Ideal S8x256x3072 .f32 :=
  subf z (broadcastInDim S8x256x3072 ![0, 1, 2] bcast_S8x256x1_S8x256x3072_0_1_2 (ctxMean z))
def ctxNorm (z : FVec Ideal S8x256x3072 .f32) (g b : FVec Ideal S3072 .f32) : FVec Ideal S8x256x3072 .f32 :=
  addf (mulf (mulf (ctxDev z) (broadcastInDim S8x256x3072 ![0, 1, 2] bcast_S8x256x1_S8x256x3072_0_1_2
      (Host.rsqrt (addf (ctxMean (mulf (ctxDev z) (ctxDev z))) (broadcastInDim S8x256x1 ![] bcast_S_S8x256x1 (constant S_ .f32 0x358637BD#32))))))
    (broadcastInDim S8x256x3072 ![0, 1, 2] bcast_S1x1x3072_S8x256x3072_0_1_2 (broadcastInDim S1x1x3072 ![2] bcast_S3072_S1x1x3072_2 g)))
    (broadcastInDim S8x256x3072 ![0, 1, 2] bcast_S1x1x3072_S8x256x3072_0_1_2 (broadcastInDim S1x1x3072 ![2] bcast_S3072_S1x1x3072_2 b))

/-- The two halves side by side. -/
def ctxUv (z : FVec Ideal S8x256x6144 .f32) (g b : FVec Ideal S3072 .f32) : FVec Ideal S8x256x6144 .f32 :=
  concatenate S8x256x6144 2 [⟨S8x256x3072, extractStridedSlice S8x256x3072 ![0, 0, 0] z slices_S8x256x6144_S8x256x3072_0_0_0⟩,
    ⟨S8x256x3072, ctxNorm (extractStridedSlice S8x256x3072 ![0, 0, 3072] z slices_S8x256x6144_S8x256x3072_0_0_3072) g b⟩] concatenates_S8x256x3072_S8x256x3072_S8x256x6144_d2

theorem ctxPre_entry (h : FVec Ideal S8x256x1024 .f32) (w : FVec Ideal S1024x6144 .f32) (b : FVec Ideal S6144 .f32) (q : Fin 8) (l : Fin 256) (j : Fin 6144) :
    ctxPre h w b (ix3 q l j) = (∑ i : Fin 1024, h (ix3 q l i) * w (ix2 i j)) + b (ix1 j) := by
  pointwise [ctxPre]
theorem ctxGelu_entry (z : FVec Ideal S8x256x6144 .f32) (q : Fin 8) (l : Fin 256) (j : Fin 6144) : ctxGelu z (ix3 q l j) = gelu (z (ix3 q l j)) := by
  pointwise [ctxGelu, gelu]
  rw [neg_mul, Ideal.erfc_neg]
theorem ctxNorm_entry (z : FVec Ideal S8x256x3072 .f32) (g b : FVec Ideal S3072 .f32) (q : Fin 8) (l : Fin 256) (j : Fin 3072) :
    ctxNorm z g b (ix3 q l j) = lnRow (fun k => z (ix3 q l k)) (fun k => g (ix1 k)) (fun k => b (ix1 k)) j := by
  pointwise [ctxNorm, ctxDev, ctxMean, lnRow, mean]

theorem ctxUv_entry (z : FVec Ideal S8x256x6144 .f32) (g b : FVec Ideal S3072 .f32) (q : Fin 8) (l : Fin 256) (Z : Fin 6144 → EReal) (hz : ∀ i, z (ix3 q l i) = gelu (Z i)) (j : Fin 6144) :
    ctxUv z g b (ix3 q l j) = uvRow Z (fun k => g (ix1 k)) (fun k => b (ix1 k)) j := by
  rcases halves j with ⟨i, rfl⟩ | ⟨i, rfl⟩
  · refine Eq.trans (pair_low _ _ _ q l i) ?_
    rw [uvRow_low, ← hz]
    pointwise [lowCol]
  · refine Eq.trans (pair_high _ _ _ q l i) ?_
    rw [ctxNorm_entry, uvRow_high]
    refine congrArg (fun f => lnRow f _ _ i) (funext fun k => Eq.trans ?_ (hz (highCol k)))
    pointwise [highCol]

/-- An entry of the reference's result. -/
theorem res_entry (m : (ℓ : Loc nD τ sig) → Buf (Elt Ideal) ℓ) (c : Dev nD) (x : FVec Ideal S34816x1024 .f32) (g : FVec Ideal S1024 .f32) (v : FVec Ideal S16x6144 .f32) (w : FVec Ideal S1024x6144 .f32)
    (b : FVec Ideal S6144 .f32) (lg lb : FVec Ideal S3072 .f32) (hx : m ((c : Thread nD τ).loc main_arg0) = x) (hg : m ((c : Thread nD τ).loc main_arg1) = g) (hv : m ((c : Thread nD τ).loc main_arg2) = v)
    (hw : m ((c : Thread nD τ).loc main_arg3) = w) (hb : m ((c : Thread nD τ).loc main_arg4) = b) (hlg : m ((c : Thread nD τ).loc main_arg5) = lg) (hlb : m ((c : Thread nD τ).loc main_arg6) = lb)
    (r : Fin 34816) (j : Fin 6144) : (Value.res_main_v129 m c : FVec Ideal S34816x6144 .bf16) (ix2 r j) = uv x g v w b lg lb r j := by
  have e : (Value.res_main_v129 m c : FVec Ideal S34816x6144 .bf16) = concatenate S34816x6144 0
      [⟨S32768x6144, shapeCast S32768x6144 (latUv (latGelu (latPre (lat (latRows x) g (latVals v)) w b)) lg lb) shapeCasts_S8x4096x6144_S32768x6144⟩,
       ⟨S2048x6144, shapeCast S2048x6144 (ctxUv (ctxGelu (ctxPre (ctx (ctxRows x) g (ctxVals v)) w b)) lg lb) shapeCasts_S8x256x6144_S2048x6144⟩] concatenates_S32768x6144_S2048x6144_S34816x6144_d0 := by
    unfold Value.res_main_v129
    rw [hx, hg, hv, hw, hb, hlg, hlb]
    rfl
  rw [e]
  refine stack_at (n := 6144) _ _ _ _ _ r j _ (fun q l hr => latUv_entry _ _ _ q l _ (fun i => ?_) j) (fun q l hr => ctxUv_entry _ _ _ q l _ (fun i => ?_) j)
  · rw [latGelu_entry, latPre_entry]
    exact congrArg (fun s => gelu (s + b (ix1 i))) (Finset.sum_congr rfl fun k _ => congrArg (· * w (ix2 k i)) (lat_tok x g v q l k r hr))
  · rw [ctxGelu_entry, ctxPre_entry]
    exact congrArg (fun s => gelu (s + b (ix1 i))) (Finset.sum_congr rfl fun k _ => congrArg (· * w (ix2 k i)) (ctx_tok x g v q l k r hr))

end Cert.Reference3Ideal.Dense

end
-- ==== Proof.Dense.Gmlp.lean ====
module

public import proofs.«01_k».proof.Proof.Gen.Kernel3Ideal.Value
public import proofs.«01_k».proof.Proof.Dense.GmlpRef

@[expose] public section

set_option maxRecDepth 16384

noncomputable section

namespace Cert.Kernel3Ideal.Dense

open Idealize.ShloMosaic Idealize.ShloMosaic.TcCoe Cert.Kernel3Ideal.Gen Cert.Dense
open Cert.Reference2Ideal.Dense (tok grp colSh colSc)
open Cert.Reference3Ideal.Dense (pre uv)

variable (m : (ℓ : Loc nD τ sig) → Buf (Elt Ideal) ℓ)

/-- An entry of the product and bias of a block, the operands' entries named. -/
def blkPre (x : Vec Ideal S256x1024 .f32) (g : Vec Ideal S1x1024 .f32) (sh sc : Vec Ideal S1x1x1024 .f32) (w : Vec Ideal S1024x3072 .bf16) (b : Vec Ideal S1x3072 .f32) (p : Fin 256) (j : Fin 3072) : EReal :=
  (∑ i : Fin 1024, modRow (fun k => x (ix2 p k)) (fun k => g (ix2 0 k)) (fun k => sc (ix3 0 0 k)) (fun k => sh (ix3 0 0 k)) i * w (ix2 i j)) + b (ix2 0 j)

theorem pre_entry (x : Vec Ideal S256x1024 .f32) (g : Vec Ideal S1x1024 .f32) (sh sc : Vec Ideal S1x1x1024 .f32) (w : Vec Ideal S1024x3072 .bf16) (b : Vec Ideal S1x3072 .f32) (p : Fin 256) (j : Fin 3072) :
    k0_pay4 x g sh sc w b (ix2 p j) = blkPre x g sh sc w b p j := by
  pointwise [k0_pay4, blkPre, modRow, unitRow]

/-- And of its activation. -/
theorem act_entry (x : Vec Ideal S256x1024 .f32) (g : Vec Ideal S1x1024 .f32) (sh sc : Vec Ideal S1x1x1024 .f32) (w : Vec Ideal S1024x3072 .bf16) (b : Vec Ideal S1x3072 .f32) (p : Fin 256) (j : Fin 3072) :
    k0_pay1 (k0_pay5 x g sh sc w b) (k0_pay6 x g sh sc w b) (ix2 p j) = gelu (blkPre x g sh sc w b p j) := by
  rw [← pre_entry]
  pointwise [k0_pay1, k0_pay5, k0_pay6, gelu]
  rfl

/-- The block's layer norm reads the activated row. -/
theorem norm_entry (u v : FVec Ideal S256x3072 .f32) (lg lb : Vec Ideal S1x3072 .f32) (p : Fin 256) (j : Fin 3072) :
    k0_pay3 u v lg lb (ix2 p j) = lnRow (fun k => k0_pay1 u v (ix2 p k)) (fun k => lg (ix2 0 k)) (fun k => lb (ix2 0 k)) j := by
  pointwise [k0_pay3, lnRow, mean]

/-- The product and bias, each entry read given. -/
theorem blkPre_at (x : Vec Ideal S256x1024 .f32) (g : Vec Ideal S1x1024 .f32) (sh sc : Vec Ideal S1x1x1024 .f32) (w : Vec Ideal S1024x3072 .bf16) (b : Vec Ideal S1x3072 .f32) (p : Fin 256) (j : Fin 3072)
    (X G C H W : Fin 1024 → EReal) (B : EReal) (hx : ∀ k, x (ix2 p k) = X k) (hg : ∀ k, g (ix2 0 k) = G k) (hc : ∀ k, sc (ix3 0 0 k) = C k) (hh : ∀ k, sh (ix3 0 0 k) = H k) (hw : ∀ k, w (ix2 k j) = W k)
    (hb : b (ix2 0 j) = B) : blkPre x g sh sc w b p j = (∑ i : Fin 1024, modRow X G C H i * W i) + B := by
  obtain rfl := funext hx; obtain rfl := funext hg; obtain rfl := funext hc; obtain rfl := funext hh; obtain rfl := funext hw; subst hb
  rfl

/-- In the first half of the columns the body leaves the activation. -/
theorem out_A (c : Dev nD) (i : grid0.Coords) (a0 : Memref sig .tc .vmem S256x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S1024x3072 .bf16) (h4 : a4.IsWhole) (a5 : Memref sig .tc .vmem S1x3072 .f32) (h5 : a5.IsWhole) (a6 : Memref sig .tc .vmem S1x3072 .f32) (h6 : a6.IsWhole) (a7 : Memref sig .tc .vmem S1x3072 .f32) (h7 : a7.IsWhole) (a8 : Memref sig .tc .vmem S256x3072 .bf16) (h8 : a8.IsWhole) (e0 : cond0_0 i) (e1 : ¬cond0_1 i)
    (x : Vec Ideal S256x1024 .f32) (g : Vec Ideal S1x1024 .f32) (sh sc : Vec Ideal S1x1x1024 .f32) (w : Vec Ideal S1024x3072 .bf16) (b : Vec Ideal S1x3072 .f32) (lg lb : Vec Ideal S1x3072 .f32) :
    out0_A_8 c i a0 h0 a1 h1 a2 h2 a3 h3 a4 h4 a5 h5 a6 h6 a7 h7 a8 h8 e0 e1 x g sh sc w b lg lb = k0_pay2 (k0_pay5 x g sh sc w b) (k0_pay6 x g sh sc w b) := by
  unfold out0_A_8
  rw [View.read_writes_eq_canon _ _ _ (cover0_A_8 c i a0 h0 a1 h1 a2 h2 a3 h3 a4 h4 a5 h5 a6 h6 a7 h7 a8 h8 e0 e1 x g sh sc w b lg lb)]
  unfold kernelRun0_A
  dsimp only
  sl_unfold_words
  rw [View.canon_cons_unit_lit _ _ _ (by decide)]
  simp only [View.readAt_eq_ld, h0.read_unread, h1.read_unread, h2.read_unread, h3.read_unread, h4.read_unread, h5.read_unread]
  rw [View.ld_unit_lit _ x (by decide), View.ld_unit_lit _ g (by decide), View.ld_unit_lit _ sh (by decide), View.ld_unit_lit _ sc (by decide), View.ld_unit_lit _ w (by decide), View.ld_unit_lit _ b (by decide)]

/-- In the second half it leaves the activated rows' layer norm. -/
theorem out_B (c : Dev nD) (i : grid0.Coords) (a0 : Memref sig .tc .vmem S256x1024 .f32) (h0 : a0.IsWhole) (a1 : Memref sig .tc .vmem S1x1024 .f32) (h1 : a1.IsWhole) (a2 : Memref sig .tc .vmem S1x1x1024 .f32) (h2 : a2.IsWhole) (a3 : Memref sig .tc .vmem S1x1x1024 .f32) (h3 : a3.IsWhole) (a4 : Memref sig .tc .vmem S1024x3072 .bf16) (h4 : a4.IsWhole) (a5 : Memref sig .tc .vmem S1x3072 .f32) (h5 : a5.IsWhole) (a6 : Memref sig .tc .vmem S1x3072 .f32) (h6 : a6.IsWhole) (a7 : Memref sig .tc .vmem S1x3072 .f32) (h7 : a7.IsWhole) (a8 : Memref sig .tc .vmem S256x3072 .bf16) (h8 : a8.IsWhole) (e0 : ¬cond0_0 i) (e1 : cond0_1 i)
    (x : Vec Ideal S256x1024 .f32) (g : Vec Ideal S1x1024 .f32) (sh sc : Vec Ideal S1x1x1024 .f32) (w : Vec Ideal S1024x3072 .bf16) (b : Vec Ideal S1x3072 .f32) (lg lb : Vec Ideal S1x3072 .f32) :
    out0_B_8 c i a0 h0 a1 h1 a2 h2 a3 h3 a4 h4 a5 h5 a6 h6 a7 h7 a8 h8 e0 e1 x g sh sc w b lg lb = k0_pay3 (k0_pay5 x g sh sc w b) (k0_pay6 x g sh sc w b) lg lb := by
  unfold out0_B_8
  rw [View.read_writes_eq_canon _ _ _ (cover0_B_8 c i a0 h0 a1 h1 a2 h2 a3 h3 a4 h4 a5 h5 a6 h6 a7 h7 a8 h8 e0 e1 x g sh sc w b lg lb)]
  unfold kernelRun0_B
  dsimp only
  sl_unfold_words
  rw [View.canon_cons_unit_lit _ _ _ (by decide)]
  simp only [View.readAt_eq_ld, h0.read_unread, h1.read_unread, h2.read_unread, h3.read_unread, h4.read_unread, h5.read_unread, h6.read_unread, h7.read_unread]
  rw [View.ld_unit_lit _ x (by decide), View.ld_unit_lit _ g (by decide), View.ld_unit_lit _ sh (by decide), View.ld_unit_lit _ sc (by decide), View.ld_unit_lit _ w (by decide), View.ld_unit_lit _ b (by decide), View.ld_unit_lit _ lg (by decide), View.ld_unit_lit _ lb (by decide)]

/-- The index maps at a point, the columns' half outermost: 136 blocks of rows under each; a block's rows lie in one group. -/
theorem maps : ∀ t : Fin grid0.N,
    cc0_transform_0 (grid0.coords t) = ![t.val % 136, 0] ∧ cc0_transform_2 (grid0.coords t) = ![t.val % 136 / 16 * 6, 0, 0] ∧ cc0_transform_3 (grid0.coords t) = ![t.val % 136 / 16 * 6 + 1, 0, 0]
    ∧ cc0_transform_4 (grid0.coords t) = ![0, t.val / 136] ∧ cc0_transform_5 (grid0.coords t) = ![0, t.val / 136] ∧ cc0_transform_8 (grid0.coords t) = ![t.val % 136, t.val / 136] := by
  decide +kernel

/-- The arrays as the call finds them. -/
theorem V_mod (c : Dev nD) : V m c main_v0 = shapeCast S96x1x1024 (m ((c : Thread nD τ).loc main_arg2)) shapeCasts_S16x6144_S96x1x1024 := by
  unfold V hostOps0; after_results; rfl
theorem V_mat (c : Dev nD) : V m c main_v1 = m ((c : Thread nD τ).loc main_arg3) := by
  unfold V hostOps0; after_results; rfl
theorem V_gain (c : Dev nD) : V m c main_v2 = shapeCast S1x1024 (m ((c : Thread nD τ).loc main_arg1)) shapeCasts_S1024_S1x1024 := by
  unfold V hostOps0; after_results; rfl
theorem V_bias (c : Dev nD) : V m c main_v3 = shapeCast S1x6144 (m ((c : Thread nD τ).loc main_arg4)) shapeCasts_S6144_S1x6144 := by
  unfold V hostOps0; after_results; rfl

/-- The blocks a point reads: its rows, the gain, its group's shift and scale, its columns of the matrix and of the bias. -/
theorem rows_at (c : Dev nD) (t : Fin cfg0.N) (p : Fin 256) (k : Fin 1024) (r : Fin 34816) (hr : r.val = t.val % 136 * 256 + p.val) :
    iblk m c 0 t (ix2 p k) = m ((c : Thread nD τ).loc main_arg0) (ix2 r k) := by
  show V m c main_arg0 _ = _
  rw [V_main_arg0]
  refine congrArg _ (funext fun a => Fin.ext ?_)
  match a with
  | ⟨0, _⟩ => show cc0_transform_0 (grid0.coords t) 0 * 256 + 1 * p.val = r.val; rw [(maps t).1, hr]; show t.val % 136 * 256 + 1 * p.val = _; omega
  | ⟨1, _⟩ => show cc0_transform_0 (grid0.coords t) 1 * 1024 + 1 * k.val = k.val; rw [(maps t).1]; show 0 * 1024 + 1 * k.val = _; omega

theorem gain_at (c : Dev nD) (t : Fin cfg0.N) (k : Fin 1024) : iblk m c 1 t (ix2 (0 : Fin 1) k) = m ((c : Thread nD τ).loc main_arg1) (ix1 k) := by
  show V m c main_v2 _ = _
  rw [V_gain]
  refine Eq.trans (congrArg _ (funext fun a => Fin.ext ?_)) (row_at _ _ k)
  match a with
  | ⟨0, _⟩ => rfl
  | ⟨1, _⟩ => show (0#32 : BitVec 32).toNat * 1024 + 1 * k.val = k.val; simp

theorem shift_at (c : Dev nD) (t : Fin cfg0.N) (k : Fin 1024) (g : Fin 16) (hg : g.val = t.val % 136 / 16) :
    iblk m c 2 t (ix3 (0 : Fin 1) (0 : Fin 1) k) = m ((c : Thread nD τ).loc main_arg2) (ix2 g (colSh k)) := by
  show V m c main_v0 _ = _
  rw [V_mod]
  refine Eq.trans (congrArg _ (funext fun a => Fin.ext ?_)) (piece_at _ _ (⟨g.val * 6, by omega⟩ : Fin 96) k g (colSh k) (by show g.val * 6144 + k.val = g.val * 6 * 1024 + k.val; omega))
  match a with
  | ⟨0, _⟩ => show cc0_transform_2 (grid0.coords t) 0 * 1 + 1 * 0 = g.val * 6; rw [(maps t).2.1, hg]; show t.val % 136 / 16 * 6 * 1 + 1 * 0 = _; omega
  | ⟨1, _⟩ => show cc0_transform_2 (grid0.coords t) 1 * 1 + 1 * 0 = 0; rw [(maps t).2.1]; rfl
  | ⟨2, _⟩ => show cc0_transform_2 (grid0.coords t) 2 * 1024 + 1 * k.val = k.val; rw [(maps t).2.1]; show 0 * 1024 + 1 * k.val = _; omega

theorem scale_at (c : Dev nD) (t : Fin cfg0.N) (k : Fin 1024) (g : Fin 16) (hg : g.val = t.val % 136 / 16) :
    iblk m c 3 t (ix3 (0 : Fin 1) (0 : Fin 1) k) = m ((c : Thread nD τ).loc main_arg2) (ix2 g (colSc k)) := by
  show V m c main_v0 _ = _
  rw [V_mod]
  refine Eq.trans (congrArg _ (funext fun a => Fin.ext ?_)) (piece_at _ _ (⟨g.val * 6 + 1, by omega⟩ : Fin 96) k g (colSc k) (by show g.val * 6144 + (1024 + k.val) = (g.val * 6 + 1) * 1024 + k.val; omega))
  match a with
  | ⟨0, _⟩ => show cc0_transform_3 (grid0.coords t) 0 * 1 + 1 * 0 = g.val * 6 + 1; rw [(maps t).2.2.1, hg]; show (t.val % 136 / 16 * 6 + 1) * 1 + 1 * 0 = _; omega
  | ⟨1, _⟩ => show cc0_transform_3 (grid0.coords t) 1 * 1 + 1 * 0 = 0; rw [(maps t).2.2.1]; rfl
  | ⟨2, _⟩ => show cc0_transform_3 (grid0.coords t) 2 * 1024 + 1 * k.val = k.val; rw [(maps t).2.2.1]; show 0 * 1024 + 1 * k.val = _; omega

theorem V_lg (c : Dev nD) : V m c main_v4 = shapeCast S1x3072 (m ((c : Thread nD τ).loc main_arg5)) shapeCasts_S3072_S1x3072 := by
  unfold V hostOps0; after_results; rfl
theorem V_lb (c : Dev nD) : V m c main_v5 = shapeCast S1x3072 (m ((c : Thread nD τ).loc main_arg6)) shapeCasts_S3072_S1x3072 := by
  unfold V hostOps0; after_results; rfl

theorem mat_at (c : Dev nD) (t : Fin cfg0.N) (i : Fin 1024) (j : Fin 3072) (l : Fin 6144) (hl : l.val = t.val / 136 * 3072 + j.val) :
    iblk m c 4 t (ix2 i j) = m ((c : Thread nD τ).loc main_arg3) (ix2 i l) := by
  show V m c main_v1 _ = _
  rw [V_mat]
  refine congrArg _ (funext fun a => Fin.ext ?_)
  match a with
  | ⟨0, _⟩ => show cc0_transform_4 (grid0.coords t) 0 * 1024 + 1 * i.val = i.val; rw [(maps t).2.2.2.1]; show 0 * 1024 + 1 * i.val = _; omega
  | ⟨1, _⟩ => show cc0_transform_4 (grid0.coords t) 1 * 3072 + 1 * j.val = l.val; rw [(maps t).2.2.2.1, hl]; show t.val / 136 * 3072 + 1 * j.val = _; omega

theorem bias_at (c : Dev nD) (t : Fin cfg0.N) (j : Fin 3072) (l : Fin 6144) (hl : l.val = t.val / 136 * 3072 + j.val) :
    iblk m c 5 t (ix2 (0 : Fin 1) j) = m ((c : Thread nD τ).loc main_arg4) (ix1 l) := by
  show V m c main_v3 _ = _
  rw [V_bias]
  refine Eq.trans (congrArg _ (funext fun a => Fin.ext ?_)) (row_at _ _ l)
  match a with
  | ⟨0, _⟩ => show cc0_transform_5 (grid0.coords t) 0 * 1 + 1 * 0 = 0; rw [(maps t).2.2.2.2.1]; rfl
  | ⟨1, _⟩ => show cc0_transform_5 (grid0.coords t) 1 * 3072 + 1 * j.val = l.val; rw [(maps t).2.2.2.2.1, hl]; show t.val / 136 * 3072 + 1 * j.val = _; omega

theorem lg_at (c : Dev nD) (t : Fin cfg0.N) (k : Fin 3072) : iblk m c 6 t (ix2 (0 : Fin 1) k) = m ((c : Thread nD τ).loc main_arg5) (ix1 k) := by
  show V m c main_v4 _ = _
  rw [V_lg]
  refine Eq.trans (congrArg _ (funext fun a => Fin.ext ?_)) (row_at _ _ k)
  match a with
  | ⟨0, _⟩ => rfl
  | ⟨1, _⟩ => show (0#32 : BitVec 32).toNat * 3072 + 1 * k.val = k.val; simp
theorem lb_at (c : Dev nD) (t : Fin cfg0.N) (k : Fin 3072) : iblk m c 7 t (ix2 (0 : Fin 1) k) = m ((c : Thread nD τ).loc main_arg6) (ix1 k) := by
  show V m c main_v5 _ = _
  rw [V_lb]
  refine Eq.trans (congrArg _ (funext fun a => Fin.ext ?_)) (row_at _ _ k)
  match a with
  | ⟨0, _⟩ => rfl
  | ⟨1, _⟩ => show (0#32 : BitVec 32).toNat * 3072 + 1 * k.val = k.val; simp

/-- So an entry of a point's product and bias is the token's, at its column. -/
theorem blk_pre (c : Dev nD) (t : Fin cfg0.N) (p : Fin 256) (j : Fin 3072) (r : Fin 34816) (l : Fin 6144) (hr : r.val = t.val % 136 * 256 + p.val) (hl : l.val = t.val / 136 * 3072 + j.val) :
    blkPre (iblk m c 0 t) (iblk m c 1 t) (iblk m c 2 t) (iblk m c 3 t) (iblk m c 4 t) (iblk m c 5 t) p j
      = pre (m ((c : Thread nD τ).loc main_arg0)) (m ((c : Thread nD τ).loc main_arg1)) (m ((c : Thread nD τ).loc main_arg2)) (m ((c : Thread nD τ).loc main_arg3)) (m ((c : Thread nD τ).loc main_arg4)) r l := by
  have hg : (grp r).val = t.val % 136 / 16 := by show r.val / 4096 = _; omega
  exact blkPre_at _ _ _ _ _ _ p j _ _ _ _ _ _ (fun k => rows_at m c t p k r hr) (fun k => gain_at m c t k) (fun k => scale_at m c t k (grp r) hg) (fun k => shift_at m c t k (grp r) hg)
    (fun k => mat_at m c t k j l hl) (bias_at m c t j l hl)

/-- The result array. -/
def total (c : Dev nD) : FVec Ideal S34816x6144 .bf16 := fun i =>
  uv (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (i 0 : Fin 34816) (i 1 : Fin 6144)

/-- A point's block of the result, entry by entry. -/
theorem emb_eq (t : Fin cfg0.N) (p : Fin 256) (j : Fin 3072) (r : Fin 34816) (l : Fin 6144) (hr : r.val = t.val % 136 * 256 + p.val) (hl : l.val = t.val / 136 * 3072 + j.val) :
    ((cfg0.win 8).blk t).view.emb (ix2 p j) = ix2 r l := funext fun a => Fin.ext (by
  match a with
  | ⟨0, _⟩ => show cc0_transform_8 (grid0.coords t) 0 * 256 + 1 * p.val = r.val; rw [(maps t).2.2.2.2.2, hr]; show t.val % 136 * 256 + 1 * p.val = _; omega
  | ⟨1, _⟩ => show cc0_transform_8 (grid0.coords t) 1 * 3072 + 1 * j.val = l.val; rw [(maps t).2.2.2.2.2, hl]; show t.val / 136 * 3072 + 1 * j.val = _; omega)

/-- What a point writes back is its block of the result: the activation in the first half of the columns, its layer norm in the second. -/
theorem flushed_eq (c : Dev nD) (t : Fin cfg0.N) : (dats m 0 c).flushed 8 t = ((cfg0.win 8).blk t).view.read (Elt Ideal) (total m c) := by
  have hN : t.val < 272 := lt_of_lt_of_eq t.isLt N_0
  by_cases ht : t.val < 136
  · rw [Value.flushed8_A m c t ht (by omega), out_A]
    funext y
    obtain ⟨p, j, rfl⟩ : ∃ (p : Fin 256) (j : Fin 3072), y = ix2 p j := ⟨_, _, eq_ix2 (n0 := 256) (n1 := 3072) y⟩
    generalize hr : (⟨t.val % 136 * 256 + p.val, by omega⟩ : Fin 34816) = r
    have hr' : r.val = t.val % 136 * 256 + p.val := by rw [← hr]
    have hl' : (lowCol j).val = t.val / 136 * 3072 + j.val := by show j.val = _; omega
    refine Eq.trans (act_entry _ _ _ _ _ _ p j) ?_
    show _ = total m c (((cfg0.win 8).blk t).view.emb (ix2 p j))
    rw [emb_eq t p j r (lowCol j) hr' hl', blk_pre m c t p j r (lowCol j) hr' hl']
    exact (uvRow_low _ _ _ j).symm
  · rw [Value.flushed8_B m c t ht (by omega), out_B]
    funext y
    obtain ⟨p, j, rfl⟩ : ∃ (p : Fin 256) (j : Fin 3072), y = ix2 p j := ⟨_, _, eq_ix2 (n0 := 256) (n1 := 3072) y⟩
    generalize hr : (⟨t.val % 136 * 256 + p.val, by omega⟩ : Fin 34816) = r
    have hr' : r.val = t.val % 136 * 256 + p.val := by rw [← hr]
    have hl' : ∀ k : Fin 3072, (highCol k).val = t.val / 136 * 3072 + k.val := fun k => by show 3072 + k.val = _; omega
    show k0_pay3 _ _ _ _ (ix2 p j) = total m c (((cfg0.win 8).blk t).view.emb (ix2 p j))
    rw [emb_eq t p j r (highCol j) hr' (hl' j), norm_entry]
    refine Eq.trans ?_ (uvRow_high _ _ _ j).symm
    have hz : (fun k => k0_pay1 (k0_pay5 (iblk m c 0 t) (iblk m c 1 t) (iblk m c 2 t) (iblk m c 3 t) (iblk m c 4 t) (iblk m c 5 t))
          (k0_pay6 (iblk m c 0 t) (iblk m c 1 t) (iblk m c 2 t) (iblk m c 3 t) (iblk m c 4 t) (iblk m c 5 t)) (ix2 p k))
        = fun k => gelu (pre (m ((c : Thread nD τ).loc main_arg0)) (m ((c : Thread nD τ).loc main_arg1)) (m ((c : Thread nD τ).loc main_arg2)) (m ((c : Thread nD τ).loc main_arg3)) (m ((c : Thread nD τ).loc main_arg4)) r (highCol k)) :=
      funext fun k => by rw [act_entry, blk_pre m c t p k r (highCol k) hr' (hl' k)]
    have hg : (fun k : Fin 3072 => iblk m c 6 t (ix2 (0 : Fin 1) k)) = fun k => m ((c : Thread nD τ).loc main_arg5) (ix1 k) := funext fun k => lg_at m c t k
    have hb : (fun k : Fin 3072 => iblk m c 7 t (ix2 (0 : Fin 1) k)) = fun k => m ((c : Thread nD τ).loc main_arg6) (ix1 k) := funext fun k => lb_at m c t k
    rw [hz]
    exact congrArg₂ (fun u v => lnRow _ u v j) hg hb

/-- Every entry lies in a point's block. -/
theorem cover (i : S34816x6144.Idx) : ∃ t : Fin cfg0.N, (cfg0.win 8).flush t = true ∧ i ∈ ((cfg0.win 8).blk t).view.set := by
  have h0 : (i 0 : Nat) < 34816 := (i 0).isLt
  have h1 : (i 1 : Nat) < 6144 := (i 1).isLt
  refine ⟨⟨(i 1 : Nat) / 3072 * 136 + (i 0 : Nat) / 256, lt_of_lt_of_eq (by omega) N_0.symm⟩, flush0_8 _, ?_⟩
  generalize ht : (⟨(i 1 : Nat) / 3072 * 136 + (i 0 : Nat) / 256, _⟩ : Fin cfg0.N) = t
  have hv : t.val = (i 1 : Nat) / 3072 * 136 + (i 0 : Nat) / 256 := by rw [← ht]
  have hs : ((cfg0.win 8).blk t).view.set = ((cfg0.win 8).rect t).set := View.set_slice_whole _ _
  rw [hs]
  refine Rect.mem_set_unit.mpr ?_
  intro a
  match a with
  | ⟨0, _⟩ =>
    show cc0_transform_8 (grid0.coords t) 0 * 256 ≤ (i 0 : Nat) ∧ (i 0 : Nat) < cc0_transform_8 (grid0.coords t) 0 * 256 + 256
    rw [(maps t).2.2.2.2.2]; show t.val % 136 * 256 ≤ (i 0 : Nat) ∧ (i 0 : Nat) < t.val % 136 * 256 + 256; omega
  | ⟨1, _⟩ =>
    show cc0_transform_8 (grid0.coords t) 1 * 3072 ≤ (i 1 : Nat) ∧ (i 1 : Nat) < cc0_transform_8 (grid0.coords t) 1 * 3072 + 3072
    rw [(maps t).2.2.2.2.2]; show t.val / 136 * 3072 ≤ (i 1 : Nat) ∧ (i 1 : Nat) < t.val / 136 * 3072 + 3072; omega

/-- So the result array ends as that. -/
theorem final (c : Dev nD) : (dats m 0 c).arrAt 8 cfg0.N = total m c :=
  (dats m 0 c).arrAt_eq_of_cover 8 (total m c) (fun t _ => flushed_eq m c t) cover

/-- And the reference's is the same array. -/
theorem reference_eq (m' : (ℓ : Loc Cert.Reference3Ideal.nD Cert.Reference3Ideal.τ Cert.Reference3Ideal.sig) → Buf (Elt Ideal) ℓ) (c : Dev nD)
    (h0 : m' ((c.tc : Thread Cert.Reference3Ideal.nD Cert.Reference3Ideal.τ).loc Cert.Reference3Ideal.main_arg0) = m ((c : Thread nD τ).loc main_arg0))
    (h1 : m' ((c.tc : Thread Cert.Reference3Ideal.nD Cert.Reference3Ideal.τ).loc Cert.Reference3Ideal.main_arg1) = m ((c : Thread nD τ).loc main_arg1))
    (h2 : m' ((c.tc : Thread Cert.Reference3Ideal.nD Cert.Reference3Ideal.τ).loc Cert.Reference3Ideal.main_arg2) = m ((c : Thread nD τ).loc main_arg2))
    (h3 : m' ((c.tc : Thread Cert.Reference3Ideal.nD Cert.Reference3Ideal.τ).loc Cert.Reference3Ideal.main_arg3) = m ((c : Thread nD τ).loc main_arg3))
    (h4 : m' ((c.tc : Thread Cert.Reference3Ideal.nD Cert.Reference3Ideal.τ).loc Cert.Reference3Ideal.main_arg4) = m ((c : Thread nD τ).loc main_arg4))
    (h5 : m' ((c.tc : Thread Cert.Reference3Ideal.nD Cert.Reference3Ideal.τ).loc Cert.Reference3Ideal.main_arg5) = m ((c : Thread nD τ).loc main_arg5))
    (h6 : m' ((c.tc : Thread Cert.Reference3Ideal.nD Cert.Reference3Ideal.τ).loc Cert.Reference3Ideal.main_arg6) = m ((c : Thread nD τ).loc main_arg6)) :
    Cert.Reference3Ideal.Value.res_main_v129 m' c = total m c := by
  funext i
  obtain ⟨r, j, rfl⟩ : ∃ (r : Fin 34816) (j : Fin 6144), i = ix2 r j := ⟨_, _, eq_ix2 (n0 := 34816) (n1 := 6144) i⟩
  exact Cert.Reference3Ideal.Dense.res_entry m' c _ _ _ _ _ _ _ h0 h1 h2 h3 h4 h5 h6 r j

end Cert.Kernel3Ideal.Dense
end
-- ==== Proof.Dense.Gate.lean ====
module

public import proofs.«01_k».proof.Proof.Gen.Kernel4Ideal.Value
public import proofs.«01_k».proof.Proof.Gen.Reference4Ideal.Run
public import proofs.«01_k».proof.Proof.Dense.Spec

@[expose] public section

set_option maxRecDepth 16384

noncomputable section

namespace Cert.Kernel4Ideal.Dense

open Idealize.ShloMosaic Idealize.ShloMosaic.TcCoe Cert.Kernel4Ideal.Gen Cert.Dense

variable (m : (ℓ : Loc nD τ sig) → Buf (Elt Ideal) ℓ)

/-- The mask of a pair's first group: its first 192 lanes. -/
theorem mask_at (l : Fin 384) : k0_pay1 (ix2 (0 : Fin 1) l) = if l.val < 192 then 1#1 else 0#1 := by
  revert l; decide +kernel

/-- An entry of the part that the body computes for a chunk and a pair of groups. -/
theorem pay_entry (v : Vec Ideal S128x384 .bf16) (a : Vec Ideal S1x128x128 .bf16) (b : Vec Ideal S1x128x128 .bf16) (c : Vec Ideal S128x384 .f32) (u : Vec Ideal S128x384 .bf16) (p : Fin 128) (l : Fin 384) :
    k0_pay2 v a b c u (ix2 p l) = u (ix2 p l) * ((if l.val < 192 then ∑ k : Fin 128, a (ix3 0 p k) * v (ix2 k l) else ∑ k : Fin 128, b (ix3 0 p k) * v (ix2 k l)) + c (ix2 p l)) := by
  pointwise [k0_pay2]
  rw [mask_at]
  by_cases h : l.val < 192
  · rw [if_pos h, if_pos h]; rfl
  · rw [if_neg h, if_neg h]; rfl

theorem pay_at (v : Vec Ideal S128x384 .bf16) (a : Vec Ideal S1x128x128 .bf16) (b : Vec Ideal S1x128x128 .bf16) (c : Vec Ideal S128x384 .f32) (u : Vec Ideal S128x384 .bf16) (p : Fin 128) (l : Fin 384)
    (V W : Fin 128 → EReal) (C U : EReal) (hv : ∀ k, v (ix2 k l) = V k) (ha : l.val < 192 → ∀ k, a (ix3 0 p k) = W k) (hb : ¬ l.val < 192 → ∀ k, b (ix3 0 p k) = W k) (hc : c (ix2 p l) = C) (hu : u (ix2 p l) = U) :
    k0_pay2 v a b c u (ix2 p l) = U * ((∑ k : Fin 128, W k * V k) + C) := by
  rw [pay_entry, hc, hu]
  by_cases h : l.val < 192
  · rw [if_pos h, Finset.sum_congr rfl fun k _ => congr (congrArg (· * ·) (ha h k)) (hv k)]
  · rw [if_neg h, Finset.sum_congr rfl fun k _ => congr (congrArg (· * ·) (hb h k)) (hv k)]

/-- The part for the chunk `n / 8` and the pair of groups `n % 8`: where it is stored, and its values. -/
def part (u : Vec Ideal S512x3072 .bf16) (v : Vec Ideal S512x3072 .bf16) (w : Vec Ideal S16x128x128 .bf16) (b : Vec Ideal S128x3072 .f32) (n : Fin 32) : View.Piece (Elt Ideal) S512x3072 .bf16 :=
  have h0 : ∀ a : Fin 2, (![n.val / 8 * 128, n.val % 8 * 384] : Fin 2 → Nat) a + S128x384.size a ≤ S512x3072.size a := fun a => by
    match a with
    | ⟨0, _⟩ => show n.val / 8 * 128 + 128 ≤ 512; omega
    | ⟨1, _⟩ => show n.val % 8 * 384 + 384 ≤ 3072; omega
  have h1 : ∀ s : Nat, s < 2 → ∀ a : Fin 3, (![n.val % 8 * 2 + s, 0, 0] : Fin 3 → Nat) a + S1x128x128.size a ≤ S16x128x128.size a := fun s hs a => by
    match a with
    | ⟨0, _⟩ => show n.val % 8 * 2 + s + 1 ≤ 16; omega
    | ⟨1, _⟩ => show 0 + 128 ≤ 128; omega
    | ⟨2, _⟩ => show 0 + 128 ≤ 128; omega
  have h2 : ∀ a : Fin 2, (![0, n.val % 8 * 384] : Fin 2 → Nat) a + S128x384.size a ≤ S128x3072.size a := fun a => by
    match a with
    | ⟨0, _⟩ => show 0 + 128 ≤ 128; omega
    | ⟨1, _⟩ => show n.val % 8 * 384 + 384 ≤ 3072; omega
  ⟨Rect.unit (s := S512x3072) ![n.val / 8 * 128, n.val % 8 * 384] S128x384.size h0,
   k0_pay2 (View.ld v (Rect.unit (s := S512x3072) ![n.val / 8 * 128, n.val % 8 * 384] S128x384.size h0))
    (View.ld w (Rect.unit (s := S16x128x128) ![n.val % 8 * 2 + 0, 0, 0] S1x128x128.size (h1 0 (by omega)))) (View.ld w (Rect.unit (s := S16x128x128) ![n.val % 8 * 2 + 1, 0, 0] S1x128x128.size (h1 1 (by omega))))
    (View.ld b (Rect.unit (s := S128x3072) ![0, n.val % 8 * 384] S128x384.size h2)) (View.ld u (Rect.unit (s := S512x3072) ![n.val / 8 * 128, n.val % 8 * 384] S128x384.size h0))⟩

/-- What the body leaves is its 32 parts. -/
theorem out_eq (u : Vec Ideal S512x3072 .bf16) (v : Vec Ideal S512x3072 .bf16) (w : Vec Ideal S16x128x128 .bf16) (b : Vec Ideal S128x3072 .f32) :
    out0_4 u v w b = View.canon (List.ofFn fun n : Fin 32 => part u v w b n.rev) := rfl

/-- An entry of the block, the operands' entries by their rows and columns. -/
def gated (u : Vec Ideal S512x3072 .bf16) (v : Vec Ideal S512x3072 .bf16) (w : Vec Ideal S16x128x128 .bf16) (b : Vec Ideal S128x3072 .f32) (r : Fin 512) (j : Fin 3072) : EReal :=
  u (ix2 r j) * ((∑ k : Fin 128, w (ix3 (⟨j.val / 192, by omega⟩ : Fin 16) (⟨r.val % 128, by omega⟩ : Fin 128) k) * v (ix2 (⟨r.val / 128 * 128 + k.val, by omega⟩ : Fin 512) j)) + b (ix2 (⟨r.val % 128, by omega⟩ : Fin 128) j))

theorem gated_of (u : Vec Ideal S512x3072 .bf16) (v : Vec Ideal S512x3072 .bf16) (w : Vec Ideal S16x128x128 .bf16) (b : Vec Ideal S128x3072 .f32) (r : Fin 512) (j : Fin 3072) (U C : EReal) (W V : Fin 128 → EReal)
    (hu : u (ix2 r j) = U) (hw : ∀ k, w (ix3 (⟨j.val / 192, by omega⟩ : Fin 16) (⟨r.val % 128, by omega⟩ : Fin 128) k) = W k) (hv : ∀ k, v (ix2 (⟨r.val / 128 * 128 + k.val, by omega⟩ : Fin 512) j) = V k) (hb : b (ix2 (⟨r.val % 128, by omega⟩ : Fin 128) j) = C) :
    gated u v w b r j = U * ((∑ k : Fin 128, W k * V k) + C) := by
  obtain rfl := funext hw; obtain rfl := funext hv; subst hu; subst hb; rfl

/-- A part's value is that entry, at its place in the block. -/
theorem part_at (u : Vec Ideal S512x3072 .bf16) (v : Vec Ideal S512x3072 .bf16) (w : Vec Ideal S16x128x128 .bf16) (b : Vec Ideal S128x3072 .f32) (n : Fin 32) (p : Fin 128) (l : Fin 384) (r : Fin 512) (j : Fin 3072)
    (hr : r.val = n.val / 8 * 128 + p.val) (hj : j.val = n.val % 8 * 384 + l.val) : (part u v w b n).2 (ix2 p l) = gated u v w b r j := by
  refine pay_at _ _ _ _ _ p l _ _ _ _ (fun k => congrArg v (funext fun a => Fin.ext ?_)) (fun h k => congrArg w (funext fun a => Fin.ext ?_)) (fun h k => congrArg w (funext fun a => Fin.ext ?_))
    (congrArg b (funext fun a => Fin.ext ?_)) (congrArg u (funext fun a => Fin.ext ?_))
  · match a with
    | ⟨0, _⟩ => show n.val / 8 * 128 + 1 * k.val = r.val / 128 * 128 + k.val; omega
    | ⟨1, _⟩ => show n.val % 8 * 384 + 1 * l.val = j.val; omega
  · match a with
    | ⟨0, _⟩ => show n.val % 8 * 2 + 0 + 1 * 0 = j.val / 192; omega
    | ⟨1, _⟩ => show 0 + 1 * p.val = r.val % 128; omega
    | ⟨2, _⟩ => show 0 + 1 * k.val = k.val; omega
  · match a with
    | ⟨0, _⟩ => show n.val % 8 * 2 + 1 + 1 * 0 = j.val / 192; omega
    | ⟨1, _⟩ => show 0 + 1 * p.val = r.val % 128; omega
    | ⟨2, _⟩ => show 0 + 1 * k.val = k.val; omega
  · match a with
    | ⟨0, _⟩ => show 0 + 1 * p.val = r.val % 128; omega
    | ⟨1, _⟩ => show n.val % 8 * 384 + 1 * l.val = j.val; omega
  · match a with
    | ⟨0, _⟩ => show n.val / 8 * 128 + 1 * p.val = r.val; omega
    | ⟨1, _⟩ => show n.val % 8 * 384 + 1 * l.val = j.val; omega

/-- So the block the body leaves has that entry everywhere. -/
theorem out_entry (u : Vec Ideal S512x3072 .bf16) (v : Vec Ideal S512x3072 .bf16) (w : Vec Ideal S16x128x128 .bf16) (b : Vec Ideal S128x3072 .f32) (r : Fin 512) (j : Fin 3072) : out0_4 u v w b (ix2 r j) = gated u v w b r j := by
  rw [out_eq]
  refine View.canon_apply_of_pieces (Val := Elt Ideal) (S := S512x3072) (e := .bf16) (fun i => gated u v w b (i 0 : Fin 512) (i 1 : Fin 3072)) _ (fun q hq => ?_) (ix2 r j) ?_
  · obtain ⟨n, rfl⟩ := List.mem_ofFn.mp hq
    generalize n.rev = n'
    intro x
    obtain ⟨p, l, rfl⟩ : ∃ (p : Fin 128) (l : Fin 384), x = ix2 p l := ⟨_, _, eq_ix2 (n0 := 128) (n1 := 384) x⟩
    exact part_at u v w b n' p l _ _ (by show n'.val / 8 * 128 + 1 * p.val = _; omega) (by show n'.val % 8 * 384 + 1 * l.val = _; omega)
  · refine ⟨part u v w b (⟨r.val / 128 * 8 + j.val / 384, by omega⟩ : Fin 32), List.mem_ofFn.mpr ⟨Fin.rev _, congrArg (part u v w b) (Fin.rev_rev _)⟩, ?_⟩
    dsimp only [part]
    refine Rect.mem_set_unit.mpr ?_
    intro a
    match a with
    | ⟨0, _⟩ => show (r.val / 128 * 8 + j.val / 384) / 8 * 128 ≤ r.val ∧ r.val < (r.val / 128 * 8 + j.val / 384) / 8 * 128 + 128; omega
    | ⟨1, _⟩ => show (r.val / 128 * 8 + j.val / 384) % 8 * 384 ≤ j.val ∧ j.val < (r.val / 128 * 8 + j.val / 384) % 8 * 384 + 384; omega

/-- The index maps at a point. -/
theorem maps : ∀ t : Fin grid0.N,
    cc0_transform_0 (grid0.coords t) = ![t.val, 0] ∧ cc0_transform_1 (grid0.coords t) = ![t.val, 1] ∧ cc0_transform_4 (grid0.coords t) = ![t.val, 0] := by
  decide +kernel

/-- The arrays as the call finds them. -/
theorem V_mat (c : Dev nD) : V m c main_v3 = m ((c : Thread nD τ).loc main_arg1) := by
  unfold V hostOps0; after_results; rfl

/-- The bias, repeated along the columns of its group. -/
def repeated (b : FVec Ideal S16x128 .f32) : FVec Ideal S128x3072 .f32 :=
  shapeCast _ (broadcastInDim S128x16x192 ![0, 1] bcast_S128x16_S128x16x192_0_1 (transpose S128x16 [1, 0] b transposes_S16x128_S128x16_1_0)) shapeCasts_S128x16x192_S128x3072

theorem V_bias (c : Dev nD) : V m c main_v2 = repeated (m ((c : Thread nD τ).loc main_arg2)) := by
  unfold V hostOps0; after_results; rfl

theorem repeated_at (b : FVec Ideal S16x128 .f32) (p : Fin 128) (j : Fin 3072) : repeated b (ix2 p j) = b (ix2 (⟨j.val / 192, by omega⟩ : Fin 16) p) := by
  refine (shapeCast_apply _ _ (ix2 p j) (ix3 p (⟨j.val / 192, by omega⟩ : Fin 16) (⟨j.val % 192, by omega⟩ : Fin 192)) (by
    rw [Shape.rowMajor_val_three, Shape.rowMajor_val_two]; show (p.val * 16 + j.val / 192) * 192 + j.val % 192 = p.val * 3072 + j.val; omega)).trans ?_
  pointwise []

/-- The blocks a point reads. -/
theorem left_at (c : Dev nD) (t : Fin cfg0.N) (p : Fin 512) (k : Fin 3072) (r : Fin 34816) (k' : Fin 6144) (hr : r.val = t.val * 512 + p.val) (hk : k'.val = k.val) : iblk m c 0 t (ix2 p k) = m ((c : Thread nD τ).loc main_arg0) (ix2 r k') := by
  show V m c main_arg0 _ = _
  rw [V_main_arg0]
  refine congrArg _ (funext fun a => Fin.ext ?_)
  match a with
  | ⟨0, _⟩ => show cc0_transform_0 (grid0.coords t) 0 * 512 + 1 * p.val = r.val; rw [(maps t).1, hr]; show t.val * 512 + 1 * p.val = _; omega
  | ⟨1, _⟩ => show cc0_transform_0 (grid0.coords t) 1 * 3072 + 1 * k.val = k'.val; rw [(maps t).1]; show 0 * 3072 + 1 * k.val = _; omega

theorem right_at (c : Dev nD) (t : Fin cfg0.N) (p : Fin 512) (k : Fin 3072) (r : Fin 34816) (k' : Fin 6144) (hr : r.val = t.val * 512 + p.val) (hk : k'.val = 3072 + k.val) : iblk m c 1 t (ix2 p k) = m ((c : Thread nD τ).loc main_arg0) (ix2 r k') := by
  show V m c main_arg0 _ = _
  rw [V_main_arg0]
  refine congrArg _ (funext fun a => Fin.ext ?_)
  match a with
  | ⟨0, _⟩ => show cc0_transform_1 (grid0.coords t) 0 * 512 + 1 * p.val = r.val; rw [(maps t).2.1, hr]; show t.val * 512 + 1 * p.val = _; omega
  | ⟨1, _⟩ => show cc0_transform_1 (grid0.coords t) 1 * 3072 + 1 * k.val = k'.val; rw [(maps t).2.1]; show 1 * 3072 + 1 * k.val = _; omega

theorem mat_at (c : Dev nD) (t : Fin cfg0.N) (g : Fin 16) (p k : Fin 128) : iblk m c 2 t (ix3 g p k) = m ((c : Thread nD τ).loc main_arg1) (ix3 g p k) := by
  show V m c main_v3 _ = _
  rw [V_mat]
  refine congrArg _ (funext fun a => Fin.ext ?_)
  match a with
  | ⟨0, _⟩ => show 0 * 16 + 1 * g.val = g.val; omega
  | ⟨1, _⟩ => show 0 * 128 + 1 * p.val = p.val; omega
  | ⟨2, _⟩ => show 0 * 128 + 1 * k.val = k.val; omega

theorem bias_at (c : Dev nD) (t : Fin cfg0.N) (p : Fin 128) (j : Fin 3072) : iblk m c 3 t (ix2 p j) = m ((c : Thread nD τ).loc main_arg2) (ix2 (⟨j.val / 192, by omega⟩ : Fin 16) p) := by
  show V m c main_v2 _ = _
  rw [V_bias]
  refine Eq.trans (congrArg _ (funext fun a => Fin.ext ?_)) (repeated_at _ p j)
  match a with
  | ⟨0, _⟩ => show 0 * 128 + 1 * p.val = p.val; omega
  | ⟨1, _⟩ => show 0 * 3072 + 1 * j.val = j.val; omega

/-- An entry of the result: the left half's own entry times the mixed right half's, its bias added. A row's chunk is 128 rows, a column's group 192 columns. -/
def mixed (z : FVec Ideal S34816x6144 .bf16) (w : FVec Ideal S16x128x128 .f32) (b : FVec Ideal S16x128 .f32) (r : Fin 34816) (j : Fin 3072) : EReal :=
  z (ix2 r (⟨j.val, by omega⟩ : Fin 6144)) * ((∑ k : Fin 128, w (ix3 (⟨j.val / 192, by omega⟩ : Fin 16) (⟨r.val % 128, by omega⟩ : Fin 128) k) * z (ix2 (⟨r.val / 128 * 128 + k.val, by omega⟩ : Fin 34816) (⟨3072 + j.val, by omega⟩ : Fin 6144)))
    + b (ix2 (⟨j.val / 192, by omega⟩ : Fin 16) (⟨r.val % 128, by omega⟩ : Fin 128)))

/-- The result array. -/
def total (c : Dev nD) : FVec Ideal S34816x3072 .bf16 := fun i =>
  mixed (m ((c : Thread nD τ).loc main_arg0)) (m ((c : Thread nD τ).loc main_arg1)) (m ((c : Thread nD τ).loc main_arg2)) (i 0 : Fin 34816) (i 1 : Fin 3072)

/-- What a point writes back is its block of the result. -/
theorem flushed_eq (c : Dev nD) (t : Fin cfg0.N) : (dats m 0 c).flushed 4 t = ((cfg0.win 4).blk t).view.read (Elt Ideal) (total m c) := by
  rw [Value.flushed4]
  have hl := lt_of_lt_of_eq t.isLt N_0
  funext y
  obtain ⟨p, j, rfl⟩ : ∃ (p : Fin 512) (j : Fin 3072), y = ix2 p j := ⟨_, _, eq_ix2 (n0 := 512) (n1 := 3072) y⟩
  generalize hr : (⟨t.val * 512 + p.val, by omega⟩ : Fin 34816) = r
  have hr' : r.val = t.val * 512 + p.val := by rw [← hr]
  have hi : ((cfg0.win 4).blk t).view.emb (ix2 p j) = ix2 r j := funext fun a => Fin.ext (by
    match a with
    | ⟨0, _⟩ => show cc0_transform_4 (grid0.coords t) 0 * 512 + 1 * p.val = r.val; rw [(maps t).2.2, hr']; show t.val * 512 + 1 * p.val = _; omega
    | ⟨1, _⟩ => show cc0_transform_4 (grid0.coords t) 1 * 3072 + 1 * j.val = j.val; rw [(maps t).2.2]; show 0 * 3072 + 1 * j.val = _; omega)
  show out0_4 (F := Ideal) _ _ _ _ (ix2 p j) = total m c (((cfg0.win 4).blk t).view.emb (ix2 p j))
  rw [hi]
  refine (out_entry _ _ _ _ p j).trans ?_
  show _ = mixed _ _ _ r j
  have hp : (⟨p.val % 128, by omega⟩ : Fin 128) = ⟨r.val % 128, by omega⟩ := Fin.ext (by show p.val % 128 = r.val % 128; omega)
  refine gated_of _ _ _ _ p j _ _ _ _ (left_at m c t p j r _ hr' rfl) (fun k => ?_) (fun k => right_at m c t _ j (⟨r.val / 128 * 128 + k.val, by omega⟩ : Fin 34816) _ (by show r.val / 128 * 128 + k.val = t.val * 512 + (p.val / 128 * 128 + k.val); omega) rfl) ?_
  · rw [hp]; exact mat_at m c t _ _ k
  · rw [hp]; exact bias_at m c t _ j

/-- Every entry lies in a point's block. -/
theorem cover (i : S34816x3072.Idx) : ∃ t : Fin cfg0.N, (cfg0.win 4).flush t = true ∧ i ∈ ((cfg0.win 4).blk t).view.set := by
  have h0 : (i 0 : Nat) < 34816 := (i 0).isLt
  have h1 : (i 1 : Nat) < 3072 := (i 1).isLt
  refine ⟨⟨(i 0 : Nat) / 512, lt_of_lt_of_eq (by omega) N_0.symm⟩, flush0_4 _, ?_⟩
  generalize ht : (⟨(i 0 : Nat) / 512, _⟩ : Fin cfg0.N) = t
  have hv : t.val = (i 0 : Nat) / 512 := by rw [← ht]
  have hs : ((cfg0.win 4).blk t).view.set = ((cfg0.win 4).rect t).set := View.set_slice_whole _ _
  rw [hs]
  refine Rect.mem_set_unit.mpr ?_
  intro a
  match a with
  | ⟨0, _⟩ =>
    show cc0_transform_4 (grid0.coords t) 0 * 512 ≤ (i 0 : Nat) ∧ (i 0 : Nat) < cc0_transform_4 (grid0.coords t) 0 * 512 + 512
    rw [(maps t).2.2]; show t.val * 512 ≤ (i 0 : Nat) ∧ (i 0 : Nat) < t.val * 512 + 512; omega
  | ⟨1, _⟩ =>
    show cc0_transform_4 (grid0.coords t) 1 * 3072 ≤ (i 1 : Nat) ∧ (i 1 : Nat) < cc0_transform_4 (grid0.coords t) 1 * 3072 + 3072
    rw [(maps t).2.2]; show 0 * 3072 ≤ (i 1 : Nat) ∧ (i 1 : Nat) < 0 * 3072 + 3072; omega

/-- So the result array ends as that. -/
theorem final (c : Dev nD) : (dats m 0 c).arrAt 4 cfg0.N = total m c :=
  (dats m 0 c).arrAt_eq_of_cover 4 (total m c) (fun t _ => flushed_eq m c t) cover

end Cert.Kernel4Ideal.Dense

namespace Cert.Reference4Ideal.Dense

open Idealize.ShloMosaic Idealize.ShloMosaic.TcCoe Cert.Reference4Ideal.Gen Cert.Dense

/-- The right half by chunks and groups. -/
def chunks (z : FVec Ideal S34816x6144 .bf16) : FVec Ideal S272x128x16x192 .f32 :=
  shapeCast _ (extractStridedSlice S34816x3072 ![0, 3072] (extf (F := Ideal) .f32 z bitsLt_bf16_f32) slices_S34816x6144_S34816x3072_0_3072) shapeCasts_S34816x3072_S272x128x16x192

/-- Mixed within each chunk by its group's matrix, the bias added. -/
def mix (z : FVec Ideal S272x128x16x192 .f32) (w : FVec Ideal S16x128x128 .f32) (b : FVec Ideal S16x128 .f32) : FVec Ideal S272x128x16x192 .f32 :=
  addf (transpose S272x128x16x192 [1, 3, 0, 2] (Host.dotGeneral dot_S272x128x16x192_S16x128x128_S16x272x192x128_1_2_03_1_2_0 none z w) transposes_S16x272x192x128_S272x128x16x192_1_3_0_2)
    (broadcastInDim S272x128x16x192 ![0, 1, 2, 3] bcast_S1x128x16x1_S272x128x16x192_0_1_2_3 (broadcastInDim S1x128x16x1 ![1, 2] bcast_S128x16_S1x128x16x1_1_2 (transpose S128x16 [1, 0] b transposes_S16x128_S128x16_1_0)))

/-- The reference's term. -/
def term (z : FVec Ideal S34816x6144 .bf16) (w : FVec Ideal S16x128x128 .f32) (b : FVec Ideal S16x128 .f32) : FVec Ideal S34816x3072 .bf16 :=
  truncf .bf16 (mulf (extractStridedSlice S34816x3072 ![0, 0] (extf (F := Ideal) .f32 z bitsLt_bf16_f32) slices_S34816x6144_S34816x3072_0_0) (shapeCast _ (mix (chunks z) w b) shapeCasts_S272x128x16x192_S34816x3072)) bitsLt_bf16_f32

theorem chunks_at (z : FVec Ideal S34816x6144 .bf16) (n : Fin 272) (k : Fin 128) (g : Fin 16) (q : Fin 192) (r : Fin 34816) (j : Fin 6144) (hr : r.val = n.val * 128 + k.val) (hj : j.val = 3072 + (g.val * 192 + q.val)) :
    chunks z (ix4 n k g q) = z (ix2 r j) := by
  refine (shapeCast_apply _ _ (ix4 n k g q) (ix2 r (⟨g.val * 192 + q.val, by omega⟩ : Fin 3072)) (by
    rw [Shape.rowMajor_val_two, Shape.rowMajor_val_four]; show r.val * 3072 + (g.val * 192 + q.val) = ((n.val * 128 + k.val) * 16 + g.val) * 192 + q.val; omega)).trans ?_
  refine congrArg z (funext fun a => Fin.ext ?_)
  match a with
  | ⟨0, _⟩ => show 0 + r.val = r.val; omega
  | ⟨1, _⟩ => show 3072 + (g.val * 192 + q.val) = j.val; omega

theorem mix_entry (z : FVec Ideal S272x128x16x192 .f32) (w : FVec Ideal S16x128x128 .f32) (b : FVec Ideal S16x128 .f32) (n : Fin 272) (p : Fin 128) (g : Fin 16) (q : Fin 192) :
    mix z w b (ix4 n p g q) = (∑ k : Fin 128, z (ix4 n k g q) * w (ix3 g p k)) + b (ix2 g p) := by
  pointwise [mix]

theorem term_entry (z : FVec Ideal S34816x6144 .bf16) (w : FVec Ideal S16x128x128 .f32) (b : FVec Ideal S16x128 .f32) (r : Fin 34816) (j : Fin 3072) : term z w b (ix2 r j) = Cert.Kernel4Ideal.Dense.mixed z w b r j := by
  refine congr (congrArg (· * ·) (congrArg z (funext fun a => Fin.ext ?_))) ((shapeCast_apply _ _ (ix2 r j) (ix4 (⟨r.val / 128, by omega⟩ : Fin 272) (⟨r.val % 128, by omega⟩ : Fin 128) (⟨j.val / 192, by omega⟩ : Fin 16) (⟨j.val % 192, by omega⟩ : Fin 192)) (by
    rw [Shape.rowMajor_val_two, Shape.rowMajor_val_four]; show ((r.val / 128 * 128 + r.val % 128) * 16 + j.val / 192) * 192 + j.val % 192 = r.val * 3072 + j.val; omega)).trans ?_)
  · match a with
    | ⟨0, _⟩ => show 0 + r.val = r.val; omega
    | ⟨1, _⟩ => show 0 + j.val = j.val; omega
  · rw [mix_entry]
    refine congrArg (· + _) (Finset.sum_congr rfl fun k _ => ?_)
    rw [mul_comm]
    exact congrArg (_ * ·) (chunks_at z _ k _ _ _ _ rfl (by show 3072 + j.val = 3072 + (j.val / 192 * 192 + j.val % 192); omega))

end Cert.Reference4Ideal.Dense

namespace Cert.Kernel4Ideal.Dense

open Idealize.ShloMosaic Idealize.ShloMosaic.TcCoe

/-- And the reference's is the same array. -/
theorem reference_eq (m : (ℓ : Loc nD τ sig) → Buf (Elt Ideal) ℓ) (c : Dev nD) :
    Cert.Reference4Ideal.Dense.term (m ((c : Thread nD τ).loc main_arg0)) (m ((c : Thread nD τ).loc main_arg1)) (m ((c : Thread nD τ).loc main_arg2)) = total m c := by
  funext i
  obtain ⟨r, j, rfl⟩ : ∃ (r : Fin 34816) (j : Fin 3072), i = ix2 r j := ⟨_, _, eq_ix2 (n0 := 34816) (n1 := 3072) i⟩
  exact Cert.Reference4Ideal.Dense.term_entry _ _ _ r j

end Cert.Kernel4Ideal.Dense
end
-- ==== Proof.Dense.Residual.lean ====
module

public import proofs.«01_k».proof.Proof.Gen.Kernel5Ideal.Value
public import proofs.«01_k».proof.Proof.Gen.Reference5Ideal.Run
public import proofs.«01_k».proof.Proof.Dense.Modulated

@[expose] public section

set_option maxRecDepth 16384

noncomputable section

namespace Cert.Reference5Ideal.Dense

open Idealize.ShloMosaic Idealize.ShloMosaic.TcCoe Cert.Reference5Ideal.Gen Cert.Dense
open Cert.Reference2Ideal.Dense (stack_at latCut_at ctxCut_at latRows ctxRows latRows_at ctxRows_at grp)

/-- The gate's columns of a modulation row. -/
abbrev colGate (i : Fin 1024) : Fin 6144 := ⟨2048 + i.val, by omega⟩

/-- An entry of the result: the row's own entry plus its gate times the product and the bias. -/
def resid {n : Nat} (y : (⟨2, ![34816, n]⟩ : Shape).Idx → EReal) (w : (⟨2, ![n, 1024]⟩ : Shape).Idx → EReal) (b : FVec Ideal S1024 .f32) (x : FVec Ideal S34816x1024 .f32) (v : FVec Ideal S16x6144 .f32) (r : Fin 34816) (j : Fin 1024) : EReal :=
  x (ix2 r j) + v (ix2 (grp r) (colGate j)) * ((∑ i : Fin n, y (ix2 r i) * w (ix2 i j)) + b (ix1 j))

/-- The latent tokens' values, and the context tokens'. -/
def latRes (y : FVec Ideal S8x4096x3072 .bf16) (w : FVec Ideal S3072x1024 .f32) (b : FVec Ideal S1024 .f32) (x : FVec Ideal S8x4096x1024 .f32) (v : FVec Ideal S16x6144 .f32) : FVec Ideal S8x4096x1024 .f32 :=
  addf x (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] v slices_S16x6144_S8x1024_0_2048)))
    (addf (Host.dotGeneral dot_S8x4096x3072_S3072x1024_S8x4096x1024_2_0_01_1_n_n none (extf .f32 y bitsLt_bf16_f32) w)
      (broadcastInDim S8x4096x1024 ![0, 1, 2] bcast_S1x1x1024_S8x4096x1024_0_1_2 (broadcastInDim S1x1x1024 ![2] bcast_S1024_S1x1x1024_2 b))))
def ctxRes (y : FVec Ideal S8x256x3072 .bf16) (w : FVec Ideal S3072x1024 .f32) (b : FVec Ideal S1024 .f32) (x : FVec Ideal S8x256x1024 .f32) (v : FVec Ideal S16x6144 .f32) : FVec Ideal S8x256x1024 .f32 :=
  addf x (mulf (broadcastInDim S8x256x1024 ![0, 1, 2] bcast_S1x1x1024_S8x256x1024_0_1_2 (broadcastInDim S1x1x1024 ![0, 2] bcast_S1x1024_S1x1x1024_0_2 (extractStridedSlice S1x1024 ![8, 2048] v slices_S16x6144_S1x1024_8_2048)))
    (addf (Host.dotGeneral dot_S8x256x3072_S3072x1024_S8x256x1024_2_0_01_1_n_n none (extf .f32 y bitsLt_bf16_f32) w)
      (broadcastInDim S8x256x1024 ![0, 1, 2] bcast_S1x1x1024_S8x256x1024_0_1_2 (broadcastInDim S1x1x1024 ![2] bcast_S1024_S1x1x1024_2 b))))

theorem latRes_entry (y : FVec Ideal S8x4096x3072 .bf16) (w : FVec Ideal S3072x1024 .f32) (b : FVec Ideal S1024 .f32) (x : FVec Ideal S8x4096x1024 .f32) (v : FVec Ideal S16x6144 .f32) (q : Fin 8) (l : Fin 4096) (j : Fin 1024) :
    latRes y w b x v (ix3 q l j) = x (ix3 q l j) + v (ix2 (⟨q.val, by omega⟩ : Fin 16) (colGate j)) * ((∑ i : Fin 3072, y (ix3 q l i) * w (ix2 i j)) + b (ix1 j)) := by
  pointwise [latRes, colGate]
theorem ctxRes_entry (y : FVec Ideal S8x256x3072 .bf16) (w : FVec Ideal S3072x1024 .f32) (b : FVec Ideal S1024 .f32) (x : FVec Ideal S8x256x1024 .f32) (v : FVec Ideal S16x6144 .f32) (q : Fin 8) (l : Fin 256) (j : Fin 1024) :
    ctxRes y w b x v (ix3 q l j) = x (ix3 q l j) + v (ix2 (8 : Fin 16) (colGate j)) * ((∑ i : Fin 3072, y (ix3 q l i) * w (ix2 i j)) + b (ix1 j)) := by
  pointwise [ctxRes, colGate]

/-- The reference's term: the two stacked. -/
def term (y : FVec Ideal S34816x3072 .bf16) (w : FVec Ideal S3072x1024 .f32) (b : FVec Ideal S1024 .f32) (x : FVec Ideal S34816x1024 .f32) (v : FVec Ideal S16x6144 .f32) : FVec Ideal S34816x1024 .f32 :=
  concatenate S34816x1024 0
    [⟨S32768x1024, shapeCast S32768x1024 (latRes (shapeCast S8x4096x3072 (extractStridedSlice S32768x3072 ![0, 0] y slices_S34816x3072_S32768x3072_0_0) shapeCasts_S32768x3072_S8x4096x3072) w b (latRows x) v) shapeCasts_S8x4096x1024_S32768x1024⟩,
     ⟨S2048x1024, shapeCast S2048x1024 (ctxRes (shapeCast S8x256x3072 (extractStridedSlice S2048x3072 ![32768, 0] y slices_S34816x3072_S2048x3072_32768_0) shapeCasts_S2048x3072_S8x256x3072) w b (ctxRows x) v) shapeCasts_S8x256x1024_S2048x1024⟩]
    concatenates_S32768x1024_S2048x1024_S34816x1024_d0

theorem term_entry (y : FVec Ideal S34816x3072 .bf16) (w : FVec Ideal S3072x1024 .f32) (b : FVec Ideal S1024 .f32) (x : FVec Ideal S34816x1024 .f32) (v : FVec Ideal S16x6144 .f32) (r : Fin 34816) (j : Fin 1024) :
    term y w b x v (ix2 r j) = resid y w b x v r j := by
  refine stack_at (n := 1024) _ _ _ _ _ r j _ (fun q l hr => ?_) (fun q l hr => ?_)
  · have hg : (⟨q.val, by omega⟩ : Fin 16) = grp r := Fin.ext (by show q.val = r.val / 4096; omega)
    rw [latRes_entry, resid, hg, latRows_at x q l j r hr]
    exact congrArg (fun s => x (ix2 r j) + v (ix2 (grp r) (colGate j)) * (s + b (ix1 j))) (Finset.sum_congr rfl fun i _ => congrArg (· * w (ix2 i j)) (latCut_at y _ _ q l i r hr))
  · have hg : (8 : Fin 16) = grp r := Fin.ext (by show 8 = r.val / 4096; omega)
    rw [ctxRes_entry, resid, hg, ctxRows_at x q l j r hr]
    exact congrArg (fun s => x (ix2 r j) + v (ix2 (grp r) (colGate j)) * (s + b (ix1 j))) (Finset.sum_congr rfl fun i _ => congrArg (· * w (ix2 i j)) (ctxCut_at y _ _ q l i r hr))

end Cert.Reference5Ideal.Dense

namespace Cert.Kernel5Ideal.Dense

open Idealize.ShloMosaic Idealize.ShloMosaic.TcCoe Cert.Kernel5Ideal.Gen Cert.Dense
open Cert.Reference2Ideal.Dense (grp)
open Cert.Reference5Ideal.Dense (resid colGate)

variable (m : (ℓ : Loc nD τ sig) → Buf (Elt Ideal) ℓ)

/-- An entry of the block the body computes, the operands' entries named. -/
theorem pay_entry (y : Vec Ideal S512x3072 .bf16) (w : Vec Ideal S3072x1024 .bf16) (b : Vec Ideal S1x1024 .f32) (x : Vec Ideal S512x1024 .f32) (v : Vec Ideal S1x1x1024 .f32) (p : Fin 512) (j : Fin 1024) :
    k0_pay1 y w b x v (ix2 p j) = x (ix2 p j) + v (ix3 0 0 j) * ((∑ i : Fin 3072, y (ix2 p i) * w (ix2 i j)) + b (ix2 0 j)) := by
  pointwise [k0_pay1]

theorem pay_at (y : Vec Ideal S512x3072 .bf16) (w : Vec Ideal S3072x1024 .bf16) (b : Vec Ideal S1x1024 .f32) (x : Vec Ideal S512x1024 .f32) (v : Vec Ideal S1x1x1024 .f32) (p : Fin 512) (j : Fin 1024)
    (Y W : Fin 3072 → EReal) (B X G : EReal) (hy : ∀ k, y (ix2 p k) = Y k) (hw : ∀ k, w (ix2 k j) = W k) (hb : b (ix2 0 j) = B) (hx : x (ix2 p j) = X) (hv : v (ix3 0 0 j) = G) :
    k0_pay1 y w b x v (ix2 p j) = X + G * ((∑ i : Fin 3072, Y i * W i) + B) := by
  obtain rfl := funext hy; obtain rfl := funext hw; subst hb; subst hx; subst hv
  exact pay_entry y w b x v p j

/-- The block the body leaves is what it computes from the input blocks. -/
theorem out_eq (y : Vec Ideal S512x3072 .bf16) (w : Vec Ideal S3072x1024 .bf16) (b : Vec Ideal S1x1024 .f32) (x : Vec Ideal S512x1024 .f32) (v : Vec Ideal S1x1x1024 .f32) : out0_5 y w b x v = k0_pay1 y w b x v := by
  unfold out0_5
  rw [View.canon_cons_unit_lit _ _ _ (by decide), View.ld_unit_lit _ y (by decide), View.ld_unit_lit _ w (by decide), View.ld_unit_lit _ b (by decide), View.ld_unit_lit _ x (by decide), View.ld_unit_lit _ v (by decide)]

/-- The index maps at a point: its block of rows, and its group's gate. -/
theorem maps : ∀ t : Fin grid0.N,
    cc0_transform_0 (grid0.coords t) = ![t.val, 0] ∧ cc0_transform_3 (grid0.coords t) = ![t.val, 0] ∧ cc0_transform_4 (grid0.coords t) = ![t.val / 8 * 6 + 2, 0, 0] ∧ cc0_transform_5 (grid0.coords t) = ![t.val, 0] := by
  decide +kernel

/-- The arrays as the call finds them. -/
theorem V_mat (c : Dev nD) : V m c main_v0 = m ((c : Thread nD τ).loc main_arg1) := by
  unfold V hostOps0; after_results; rfl
theorem V_mod (c : Dev nD) : V m c main_v1 = shapeCast S96x1x1024 (m ((c : Thread nD τ).loc main_arg4)) shapeCasts_S16x6144_S96x1x1024 := by
  unfold V hostOps0; after_results; rfl
theorem V_bias (c : Dev nD) : V m c main_v2 = shapeCast S1x1024 (m ((c : Thread nD τ).loc main_arg2)) shapeCasts_S1024_S1x1024 := by
  unfold V hostOps0; after_results; rfl

/-- The blocks a point reads. -/
theorem acts_at (c : Dev nD) (t : Fin cfg0.N) (p : Fin 512) (k : Fin 3072) (r : Fin 34816) (hr : r.val = t.val * 512 + p.val) : iblk m c 0 t (ix2 p k) = m ((c : Thread nD τ).loc main_arg0) (ix2 r k) := by
  show V m c main_arg0 _ = _
  rw [V_main_arg0]
  refine congrArg _ (funext fun a => Fin.ext ?_)
  match a with
  | ⟨0, _⟩ => show cc0_transform_0 (grid0.coords t) 0 * 512 + 1 * p.val = r.val; rw [(maps t).1, hr]; show t.val * 512 + 1 * p.val = _; omega
  | ⟨1, _⟩ => show cc0_transform_0 (grid0.coords t) 1 * 3072 + 1 * k.val = k.val; rw [(maps t).1]; show 0 * 3072 + 1 * k.val = _; omega

theorem mat_at (c : Dev nD) (t : Fin cfg0.N) (i : Fin 3072) (j : Fin 1024) : iblk m c 1 t (ix2 i j) = m ((c : Thread nD τ).loc main_arg1) (ix2 i j) := by
  show V m c main_v0 _ = _
  rw [V_mat]
  refine congrArg _ (funext fun a => Fin.ext ?_)
  match a with
  | ⟨0, _⟩ => show 0 * 3072 + 1 * i.val = i.val; omega
  | ⟨1, _⟩ => show 0 * 1024 + 1 * j.val = j.val; omega

theorem bias_at (c : Dev nD) (t : Fin cfg0.N) (j : Fin 1024) : iblk m c 2 t (ix2 (0 : Fin 1) j) = m ((c : Thread nD τ).loc main_arg2) (ix1 j) := by
  show V m c main_v2 _ = _
  rw [V_bias]
  refine Eq.trans (congrArg _ (funext fun a => Fin.ext ?_)) (row_at _ _ j)
  match a with
  | ⟨0, _⟩ => rfl
  | ⟨1, _⟩ => show 0 * 1024 + 1 * j.val = j.val; omega

theorem rows_at (c : Dev nD) (t : Fin cfg0.N) (p : Fin 512) (k : Fin 1024) (r : Fin 34816) (hr : r.val = t.val * 512 + p.val) : iblk m c 3 t (ix2 p k) = m ((c : Thread nD τ).loc main_arg3) (ix2 r k) := by
  show V m c main_arg3 _ = _
  rw [V_main_arg3]
  refine congrArg _ (funext fun a => Fin.ext ?_)
  match a with
  | ⟨0, _⟩ => show cc0_transform_3 (grid0.coords t) 0 * 512 + 1 * p.val = r.val; rw [(maps t).2.1, hr]; show t.val * 512 + 1 * p.val = _; omega
  | ⟨1, _⟩ => show cc0_transform_3 (grid0.coords t) 1 * 1024 + 1 * k.val = k.val; rw [(maps t).2.1]; show 0 * 1024 + 1 * k.val = _; omega

theorem gate_at (c : Dev nD) (t : Fin cfg0.N) (k : Fin 1024) (g : Fin 16) (hg : g.val = t.val / 8) : iblk m c 4 t (ix3 (0 : Fin 1) (0 : Fin 1) k) = m ((c : Thread nD τ).loc main_arg4) (ix2 g (colGate k)) := by
  show V m c main_v1 _ = _
  rw [V_mod]
  refine Eq.trans (congrArg _ (funext fun a => Fin.ext ?_)) (piece_at _ _ (⟨g.val * 6 + 2, by omega⟩ : Fin 96) k g (colGate k) (by show g.val * 6144 + (2048 + k.val) = (g.val * 6 + 2) * 1024 + k.val; omega))
  match a with
  | ⟨0, _⟩ => show cc0_transform_4 (grid0.coords t) 0 * 1 + 1 * 0 = g.val * 6 + 2; rw [(maps t).2.2.1, hg]; show (t.val / 8 * 6 + 2) * 1 + 1 * 0 = _; omega
  | ⟨1, _⟩ => show cc0_transform_4 (grid0.coords t) 1 * 1 + 1 * 0 = 0; rw [(maps t).2.2.1]; rfl
  | ⟨2, _⟩ => show cc0_transform_4 (grid0.coords t) 2 * 1024 + 1 * k.val = k.val; rw [(maps t).2.2.1]; show 0 * 1024 + 1 * k.val = _; omega

/-- The result array. -/
def total (c : Dev nD) : FVec Ideal S34816x1024 .f32 := fun i =>
  resid (m ((c : Thread nD τ).loc main_arg0)) (m ((c : Thread nD τ).loc main_arg1)) (m ((c : Thread nD τ).loc main_arg2)) (m ((c : Thread nD τ).loc main_arg3)) (m ((c : Thread nD τ).loc main_arg4))
    (i 0 : Fin 34816) (i 1 : Fin 1024)

/-- What a point writes back is its block of the result. -/
theorem flushed_eq (c : Dev nD) (t : Fin cfg0.N) : (dats m 0 c).flushed 5 t = ((cfg0.win 5).blk t).view.read (Elt Ideal) (total m c) := by
  rw [Value.flushed5, out_eq]
  have hl := lt_of_lt_of_eq t.isLt N_0
  funext y
  obtain ⟨p, j, rfl⟩ : ∃ (p : Fin 512) (j : Fin 1024), y = ix2 p j := ⟨_, _, eq_ix2 (n0 := 512) (n1 := 1024) y⟩
  generalize hr : (⟨t.val * 512 + p.val, by omega⟩ : Fin 34816) = r
  have hr' : r.val = t.val * 512 + p.val := by rw [← hr]
  have hg : (grp r).val = t.val / 8 := by show r.val / 4096 = _; omega
  have hi : ((cfg0.win 5).blk t).view.emb (ix2 p j) = ix2 r j := funext fun a => Fin.ext (by
    match a with
    | ⟨0, _⟩ => show cc0_transform_5 (grid0.coords t) 0 * 512 + 1 * p.val = r.val; rw [(maps t).2.2.2, hr']; show t.val * 512 + 1 * p.val = _; omega
    | ⟨1, _⟩ => show cc0_transform_5 (grid0.coords t) 1 * 1024 + 1 * j.val = j.val; rw [(maps t).2.2.2]; show 0 * 1024 + 1 * j.val = _; omega)
  show k0_pay1 _ _ _ _ _ (ix2 p j) = total m c (((cfg0.win 5).blk t).view.emb (ix2 p j))
  rw [hi]
  exact pay_at _ _ _ _ _ p j _ _ _ _ _ (fun k => acts_at m c t p k r hr') (fun k => mat_at m c t k j) (bias_at m c t j) (rows_at m c t p j r hr') (gate_at m c t j (grp r) hg)

/-- Every entry lies in a point's block. -/
theorem cover (i : S34816x1024.Idx) : ∃ t : Fin cfg0.N, (cfg0.win 5).flush t = true ∧ i ∈ ((cfg0.win 5).blk t).view.set := by
  have h0 : (i 0 : Nat) < 34816 := (i 0).isLt
  have h1 : (i 1 : Nat) < 1024 := (i 1).isLt
  refine ⟨⟨(i 0 : Nat) / 512, lt_of_lt_of_eq (by omega) N_0.symm⟩, flush0_5 _, ?_⟩
  generalize ht : (⟨(i 0 : Nat) / 512, _⟩ : Fin cfg0.N) = t
  have hv : t.val = (i 0 : Nat) / 512 := by rw [← ht]
  have hs : ((cfg0.win 5).blk t).view.set = ((cfg0.win 5).rect t).set := View.set_slice_whole _ _
  rw [hs]
  refine Rect.mem_set_unit.mpr ?_
  intro a
  match a with
  | ⟨0, _⟩ =>
    show cc0_transform_5 (grid0.coords t) 0 * 512 ≤ (i 0 : Nat) ∧ (i 0 : Nat) < cc0_transform_5 (grid0.coords t) 0 * 512 + 512
    rw [(maps t).2.2.2]; show t.val * 512 ≤ (i 0 : Nat) ∧ (i 0 : Nat) < t.val * 512 + 512; omega
  | ⟨1, _⟩ =>
    show cc0_transform_5 (grid0.coords t) 1 * 1024 ≤ (i 1 : Nat) ∧ (i 1 : Nat) < cc0_transform_5 (grid0.coords t) 1 * 1024 + 1024
    rw [(maps t).2.2.2]; show 0 * 1024 ≤ (i 1 : Nat) ∧ (i 1 : Nat) < 0 * 1024 + 1024; omega

/-- So the result array ends as that. -/
theorem final (c : Dev nD) : (dats m 0 c).arrAt 5 cfg0.N = total m c :=
  (dats m 0 c).arrAt_eq_of_cover 5 (total m c) (fun t _ => flushed_eq m c t) cover

/-- And the reference's is the same array. -/
theorem reference_eq (c : Dev nD) : Cert.Reference5Ideal.Dense.term (m ((c : Thread nD τ).loc main_arg0)) (m ((c : Thread nD τ).loc main_arg1)) (m ((c : Thread nD τ).loc main_arg2)) (m ((c : Thread nD τ).loc main_arg3))
    (m ((c : Thread nD τ).loc main_arg4)) = total m c := by
  funext i
  obtain ⟨r, j, rfl⟩ : ∃ (r : Fin 34816) (j : Fin 1024), i = ix2 r j := ⟨_, _, eq_ix2 (n0 := 34816) (n1 := 1024) i⟩
  exact Cert.Reference5Ideal.Dense.term_entry _ _ _ _ _ r j

end Cert.Kernel5Ideal.Dense
end
-- ==== Proof.Dense.Last.lean ====
module

public import proofs.«01_k».proof.Proof.Gen.Kernel6Ideal.Value
public import proofs.«01_k».proof.Proof.Gen.Reference6Ideal.Run
public import proofs.«01_k».proof.Proof.Dense.Spec

@[expose] public section

set_option maxRecDepth 16384

noncomputable section

namespace Cert.Kernel6Ideal.Dense

open Idealize.ShloMosaic Idealize.ShloMosaic.TcCoe Cert.Kernel6Ideal.Gen Cert.Dense

variable (m : (ℓ : Loc nD τ sig) → Buf (Elt Ideal) ℓ)

/-- An entry of the block the body computes. -/
theorem pay_entry (x : Vec Ideal S512x1024 .f32) (g : Vec Ideal S1x1024 .f32) (p : Fin 512) (j : Fin 1024) :
    k0_pay1 x g (ix2 p j) = unitRow (fun i => x (ix2 p i)) j * g (ix2 0 j) := by
  pointwise [k0_pay1, unitRow]

/-- The block the body leaves is what it computes from the input blocks. -/
theorem out_eq (x : Vec Ideal S512x1024 .f32) (g : Vec Ideal S1x1024 .f32) : out0_2 x g = k0_pay1 x g := by
  unfold out0_2
  rw [View.canon_cons_unit_lit _ _ _ (by decide), View.ld_unit_lit _ x (by decide), View.ld_unit_lit _ g (by decide)]

/-- The grid's one coordinate. -/
theorem coord (t : Fin cfg0.N) : (cfg0.grid.coords t 0).val = t.val := by
  have h := lt_of_lt_of_eq t.isLt N_0
  rw [Pipeline.Grid.coords_val (S := 1) (B := 64) t 0 (by show grid0.stride 0 = 1; decide) rfl]
  omega

/-- The gain's row as the call finds it. -/
theorem V_gain (c : Dev nD) : V m c main_v0 = shapeCast S1x1024 (m ((c : Thread nD τ).loc main_arg1)) shapeCasts_S1024_S1x1024 := by
  unfold V hostOps0; after_results; rfl

/-- The rows' block at a point. -/
theorem rows_at (c : Dev nD) (t : Fin cfg0.N) (p : Fin 512) (k : Fin 1024) (r : Fin 32768) (hr : r.val = t.val * 512 + p.val) :
    iblk m c 0 t (ix2 p k) = m ((c : Thread nD τ).loc main_arg0) (ix2 r k) := by
  show V m c main_arg0 _ = _
  rw [V_main_arg0]
  refine congrArg _ (funext fun a => Fin.ext ?_)
  have h := coord t
  have hl := lt_of_lt_of_eq t.isLt N_0
  match a with
  | ⟨0, _⟩ =>
    show (BitVec.ofNat 32 (cfg0.grid.coords t 0).val).toNat * 512 + 1 * p.val = r.val
    rw [h]; simp only [BitVec.toNat_ofNat]; omega
  | ⟨1, _⟩ => show (0#32 : BitVec 32).toNat * 1024 + 1 * k.val = k.val; simp

/-- The gain's block. -/
theorem gains_at (c : Dev nD) (t : Fin cfg0.N) (k : Fin 1024) : iblk m c 1 t (ix2 (0 : Fin 1) k) = m ((c : Thread nD τ).loc main_arg1) (ix1 k) := by
  show V m c main_v0 _ = _
  rw [V_gain]
  refine Eq.trans (congrArg _ (funext fun a => Fin.ext ?_)) (row_at _ _ k)
  match a with
  | ⟨0, _⟩ => rfl
  | ⟨1, _⟩ => show (0#32 : BitVec 32).toNat * 1024 + 1 * k.val = k.val; simp

/-- The result array: every row at unit mean square, times the gain. -/
def total (c : Dev nD) : FVec Ideal S32768x1024 .f32 := fun i =>
  unitRow (fun k => m ((c : Thread nD τ).loc main_arg0) (ix2 (i 0 : Fin 32768) k)) (i 1 : Fin 1024) * m ((c : Thread nD τ).loc main_arg1) (ix1 (i 1 : Fin 1024))

/-- What a point writes back is its block of the result. -/
theorem flushed_eq (c : Dev nD) (t : Fin cfg0.N) : (dats m 0 c).flushed 2 t = ((cfg0.win 2).blk t).view.read (Elt Ideal) (total m c) := by
  rw [Value.flushed2, out_eq]
  have h := coord t
  have hl := lt_of_lt_of_eq t.isLt N_0
  funext y
  obtain ⟨p, j, rfl⟩ : ∃ (p : Fin 512) (j : Fin 1024), y = ix2 p j := ⟨_, _, eq_ix2 (n0 := 512) (n1 := 1024) y⟩
  have hi : ((cfg0.win 2).blk t).view.emb (ix2 p j) = ix2 (⟨t.val * 512 + p.val, by omega⟩ : Fin 32768) j := funext fun a => Fin.ext (by
    match a with
    | ⟨0, _⟩ =>
      show (BitVec.ofNat 32 (cfg0.grid.coords t 0).val).toNat * 512 + 1 * p.val = t.val * 512 + p.val
      rw [h]; simp only [BitVec.toNat_ofNat]; omega
    | ⟨1, _⟩ => show (0#32 : BitVec 32).toNat * 1024 + 1 * j.val = j.val; simp)
  show k0_pay1 _ _ (ix2 p j) = total m c (((cfg0.win 2).blk t).view.emb (ix2 p j))
  rw [hi]
  refine (pay_entry _ _ p j).trans ?_
  exact congr (congrArg HMul.hMul (congrArg (fun f => unitRow f j) (funext fun k => rows_at m c t p k _ rfl))) (gains_at m c t j)

/-- Every row lies in a point's block. -/
theorem cover (i : S32768x1024.Idx) : ∃ t : Fin cfg0.N, (cfg0.win 2).flush t = true ∧ i ∈ ((cfg0.win 2).blk t).view.set := by
  have h0 : (i 0 : Nat) < 32768 := (i 0).isLt
  have h1 : (i 1 : Nat) < 1024 := (i 1).isLt
  refine ⟨⟨(i 0 : Nat) / 512, lt_of_lt_of_eq (by omega) N_0.symm⟩, flush0_2 _, ?_⟩
  generalize ht : (⟨(i 0 : Nat) / 512, _⟩ : Fin cfg0.N) = t
  have hv : t.val = (i 0 : Nat) / 512 := by rw [← ht]
  have h := coord t
  have hs : ((cfg0.win 2).blk t).view.set = ((cfg0.win 2).rect t).set := View.set_slice_whole _ _
  rw [hs]
  refine Rect.mem_set_unit.mpr ?_
  intro a
  match a with
  | ⟨0, _⟩ =>
    show (BitVec.ofNat 32 (cfg0.grid.coords t 0).val).toNat * 512 ≤ (i 0 : Nat) ∧ (i 0 : Nat) < (BitVec.ofNat 32 (cfg0.grid.coords t 0).val).toNat * 512 + 512
    rw [h, hv]; simp only [BitVec.toNat_ofNat]; omega
  | ⟨1, _⟩ =>
    show (0#32 : BitVec 32).toNat * 1024 ≤ (i 1 : Nat) ∧ (i 1 : Nat) < (0#32 : BitVec 32).toNat * 1024 + 1024
    simp only [BitVec.toNat_ofNat]; omega

/-- So the result array ends as that. -/
theorem final (c : Dev nD) : (dats m 0 c).arrAt 2 cfg0.N = total m c :=
  (dats m 0 c).arrAt_eq_of_cover 2 (total m c) (fun t _ => flushed_eq m c t) cover

end Cert.Kernel6Ideal.Dense

namespace Cert.Reference6Ideal.Dense

open Idealize.ShloMosaic Cert.Reference6Ideal.Gen Cert.Dense

/-- An entry of the reference's term. -/
theorem term_entry (x : FVec Ideal S32768x1024 .f32) (g : FVec Ideal S1024 .f32) (r : Fin 32768) (j : Fin 1024) :
    mulf (mulf x (broadcastInDim S32768x1024 ![0, 1] bcast_S32768x1_S32768x1024_0_1 (Host.rsqrt (addf (Host.divf (broadcastInDim S32768x1 ![0] bcast_S32768_S32768x1_0
        (Host.reduceAdd (mulf x x) (constant S_ .f32 0x00000000#32) reducesTo_S32768x1024_S32768_d1 h_S_)) (broadcastInDim S32768x1 ![] bcast_S_S32768x1 (constant S_ .f32 0x44800000#32)))
        (broadcastInDim S32768x1 ![] bcast_S_S32768x1 (constant S_ .f32 0x358637BD#32))))))
      (broadcastInDim S32768x1024 ![0, 1] bcast_S1x1024_S32768x1024_0_1 (broadcastInDim S1x1024 ![1] bcast_S1024_S1x1024_1 g)) (ix2 r j)
      = unitRow (fun k => x (ix2 r k)) j * g (ix1 j) := by
  pointwise [unitRow]

/-- So the reference's array is the kernel's. -/
theorem term_eq (m : (ℓ : Loc Cert.Kernel6Ideal.nD Cert.Kernel6Ideal.τ Cert.Kernel6Ideal.sig) → Buf (Elt Ideal) ℓ) (c : Dev Cert.Kernel6Ideal.nD) (x : FVec Ideal S32768x1024 .f32) (g : FVec Ideal S1024 .f32)
    (hx : x = m ((c.tc : Thread Cert.Kernel6Ideal.nD Cert.Kernel6Ideal.τ).loc Cert.Kernel6Ideal.main_arg0)) (hg : g = m ((c.tc : Thread Cert.Kernel6Ideal.nD Cert.Kernel6Ideal.τ).loc Cert.Kernel6Ideal.main_arg1)) :
    mulf (mulf x (broadcastInDim S32768x1024 ![0, 1] bcast_S32768x1_S32768x1024_0_1 (Host.rsqrt (addf (Host.divf (broadcastInDim S32768x1 ![0] bcast_S32768_S32768x1_0
        (Host.reduceAdd (mulf x x) (constant S_ .f32 0x00000000#32) reducesTo_S32768x1024_S32768_d1 h_S_)) (broadcastInDim S32768x1 ![] bcast_S_S32768x1 (constant S_ .f32 0x44800000#32)))
        (broadcastInDim S32768x1 ![] bcast_S_S32768x1 (constant S_ .f32 0x358637BD#32))))))
      (broadcastInDim S32768x1024 ![0, 1] bcast_S1x1024_S32768x1024_0_1 (broadcastInDim S1x1024 ![1] bcast_S1024_S1x1024_1 g))
      = Cert.Kernel6Ideal.Dense.total m c := by
  funext i
  obtain ⟨r, j, rfl⟩ : ∃ (r : Fin 32768) (j : Fin 1024), i = ix2 r j := ⟨_, _, eq_ix2 (n0 := 32768) (n1 := 1024) i⟩
  rw [term_entry, hx, hg]
  rfl

end Cert.Reference6Ideal.Dense
end
-- ==== Proof.Dense.Square.lean ====
module

public import proofs.«01_k».proof.Proof.Gen.Kernel7Ideal.Value
public import proofs.«01_k».proof.Proof.Gen.Reference7Ideal.Run
public import proofs.«01_k».proof.Proof.Dense.Residual

@[expose] public section

set_option maxRecDepth 16384

noncomputable section

namespace Cert.Reference7Ideal.Dense

open Idealize.ShloMosaic Idealize.ShloMosaic.TcCoe Cert.Reference7Ideal.Gen Cert.Dense
open Cert.Reference2Ideal.Dense (stack_at latCut_at ctxCut_at latRows ctxRows latRows_at ctxRows_at grp)
open Cert.Reference5Ideal.Dense (resid colGate)

/-- The latent tokens' values, and the context tokens'. -/
def latRes (y : FVec Ideal S8x4096x1024 .bf16) (w : FVec Ideal S1024x1024 .f32) (b : FVec Ideal S1024 .f32) (x : FVec Ideal S8x4096x1024 .f32) (v : FVec Ideal S16x6144 .f32) : FVec Ideal S8x4096x1024 .f32 :=
  addf x (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] v slices_S16x6144_S8x1024_0_2048)))
    (addf (Host.dotGeneral dot_S8x4096x1024_S1024x1024_S8x4096x1024_2_0_01_1_n_n none (extf .f32 y bitsLt_bf16_f32) w)
      (broadcastInDim S8x4096x1024 ![0, 1, 2] bcast_S1x1x1024_S8x4096x1024_0_1_2 (broadcastInDim S1x1x1024 ![2] bcast_S1024_S1x1x1024_2 b))))
def ctxRes (y : FVec Ideal S8x256x1024 .bf16) (w : FVec Ideal S1024x1024 .f32) (b : FVec Ideal S1024 .f32) (x : FVec Ideal S8x256x1024 .f32) (v : FVec Ideal S16x6144 .f32) : FVec Ideal S8x256x1024 .f32 :=
  addf x (mulf (broadcastInDim S8x256x1024 ![0, 1, 2] bcast_S1x1x1024_S8x256x1024_0_1_2 (broadcastInDim S1x1x1024 ![0, 2] bcast_S1x1024_S1x1x1024_0_2 (extractStridedSlice S1x1024 ![8, 2048] v slices_S16x6144_S1x1024_8_2048)))
    (addf (Host.dotGeneral dot_S8x256x1024_S1024x1024_S8x256x1024_2_0_01_1_n_n none (extf .f32 y bitsLt_bf16_f32) w)
      (broadcastInDim S8x256x1024 ![0, 1, 2] bcast_S1x1x1024_S8x256x1024_0_1_2 (broadcastInDim S1x1x1024 ![2] bcast_S1024_S1x1x1024_2 b))))

theorem latRes_entry (y : FVec Ideal S8x4096x1024 .bf16) (w : FVec Ideal S1024x1024 .f32) (b : FVec Ideal S1024 .f32) (x : FVec Ideal S8x4096x1024 .f32) (v : FVec Ideal S16x6144 .f32) (q : Fin 8) (l : Fin 4096) (j : Fin 1024) :
    latRes y w b x v (ix3 q l j) = x (ix3 q l j) + v (ix2 (⟨q.val, by omega⟩ : Fin 16) (colGate j)) * ((∑ i : Fin 1024, y (ix3 q l i) * w (ix2 i j)) + b (ix1 j)) := by
  pointwise [latRes, colGate]
theorem ctxRes_entry (y : FVec Ideal S8x256x1024 .bf16) (w : FVec Ideal S1024x1024 .f32) (b : FVec Ideal S1024 .f32) (x : FVec Ideal S8x256x1024 .f32) (v : FVec Ideal S16x6144 .f32) (q : Fin 8) (l : Fin 256) (j : Fin 1024) :
    ctxRes y w b x v (ix3 q l j) = x (ix3 q l j) + v (ix2 (8 : Fin 16) (colGate j)) * ((∑ i : Fin 1024, y (ix3 q l i) * w (ix2 i j)) + b (ix1 j)) := by
  pointwise [ctxRes, colGate]

/-- The reference's term: the two stacked. -/
def term (y : FVec Ideal S34816x1024 .bf16) (w : FVec Ideal S1024x1024 .f32) (b : FVec Ideal S1024 .f32) (x : FVec Ideal S34816x1024 .f32) (v : FVec Ideal S16x6144 .f32) : FVec Ideal S34816x1024 .f32 :=
  concatenate S34816x1024 0
    [⟨S32768x1024, shapeCast S32768x1024 (latRes (shapeCast S8x4096x1024 (extractStridedSlice S32768x1024 ![0, 0] y slices_S34816x1024_S32768x1024_0_0) shapeCasts_S32768x1024_S8x4096x1024) w b (latRows x) v) shapeCasts_S8x4096x1024_S32768x1024⟩,
     ⟨S2048x1024, shapeCast S2048x1024 (ctxRes (shapeCast S8x256x1024 (extractStridedSlice S2048x1024 ![32768, 0] y slices_S34816x1024_S2048x1024_32768_0) shapeCasts_S2048x1024_S8x256x1024) w b (ctxRows x) v) shapeCasts_S8x256x1024_S2048x1024⟩]
    concatenates_S32768x1024_S2048x1024_S34816x1024_d0

theorem term_entry (y : FVec Ideal S34816x1024 .bf16) (w : FVec Ideal S1024x1024 .f32) (b : FVec Ideal S1024 .f32) (x : FVec Ideal S34816x1024 .f32) (v : FVec Ideal S16x6144 .f32) (r : Fin 34816) (j : Fin 1024) :
    term y w b x v (ix2 r j) = resid y w b x v r j := by
  refine stack_at (n := 1024) _ _ _ _ _ r j _ (fun q l hr => ?_) (fun q l hr => ?_)
  · have hg : (⟨q.val, by omega⟩ : Fin 16) = grp r := Fin.ext (by show q.val = r.val / 4096; omega)
    rw [latRes_entry, resid, hg, latRows_at x q l j r hr]
    exact congrArg (fun s => x (ix2 r j) + v (ix2 (grp r) (colGate j)) * (s + b (ix1 j))) (Finset.sum_congr rfl fun i _ => congrArg (· * w (ix2 i j)) (latCut_at y _ _ q l i r hr))
  · have hg : (8 : Fin 16) = grp r := Fin.ext (by show 8 = r.val / 4096; omega)
    rw [ctxRes_entry, resid, hg, ctxRows_at x q l j r hr]
    exact congrArg (fun s => x (ix2 r j) + v (ix2 (grp r) (colGate j)) * (s + b (ix1 j))) (Finset.sum_congr rfl fun i _ => congrArg (· * w (ix2 i j)) (ctxCut_at y _ _ q l i r hr))

end Cert.Reference7Ideal.Dense

namespace Cert.Kernel7Ideal.Dense

open Idealize.ShloMosaic Idealize.ShloMosaic.TcCoe Cert.Kernel7Ideal.Gen Cert.Dense
open Cert.Reference2Ideal.Dense (grp)
open Cert.Reference5Ideal.Dense (resid colGate)

variable (m : (ℓ : Loc nD τ sig) → Buf (Elt Ideal) ℓ)

/-- An entry of the block the body computes, the operands' entries named. -/
theorem pay_entry (y : Vec Ideal S512x1024 .bf16) (w : Vec Ideal S1024x1024 .bf16) (b : Vec Ideal S1x1024 .f32) (x : Vec Ideal S512x1024 .f32) (v : Vec Ideal S1x1x1024 .f32) (p : Fin 512) (j : Fin 1024) :
    k0_pay1 y w b x v (ix2 p j) = x (ix2 p j) + v (ix3 0 0 j) * ((∑ i : Fin 1024, y (ix2 p i) * w (ix2 i j)) + b (ix2 0 j)) := by
  pointwise [k0_pay1]

theorem pay_at (y : Vec Ideal S512x1024 .bf16) (w : Vec Ideal S1024x1024 .bf16) (b : Vec Ideal S1x1024 .f32) (x : Vec Ideal S512x1024 .f32) (v : Vec Ideal S1x1x1024 .f32) (p : Fin 512) (j : Fin 1024)
    (Y W : Fin 1024 → EReal) (B X G : EReal) (hy : ∀ k, y (ix2 p k) = Y k) (hw : ∀ k, w (ix2 k j) = W k) (hb : b (ix2 0 j) = B) (hx : x (ix2 p j) = X) (hv : v (ix3 0 0 j) = G) :
    k0_pay1 y w b x v (ix2 p j) = X + G * ((∑ i : Fin 1024, Y i * W i) + B) := by
  obtain rfl := funext hy; obtain rfl := funext hw; subst hb; subst hx; subst hv
  exact pay_entry y w b x v p j

/-- The block the body leaves is what it computes from the input blocks. -/
theorem out_eq (y : Vec Ideal S512x1024 .bf16) (w : Vec Ideal S1024x1024 .bf16) (b : Vec Ideal S1x1024 .f32) (x : Vec Ideal S512x1024 .f32) (v : Vec Ideal S1x1x1024 .f32) : out0_5 y w b x v = k0_pay1 y w b x v := by
  unfold out0_5
  rw [View.canon_cons_unit_lit _ _ _ (by decide), View.ld_unit_lit _ y (by decide), View.ld_unit_lit _ w (by decide), View.ld_unit_lit _ b (by decide), View.ld_unit_lit _ x (by decide), View.ld_unit_lit _ v (by decide)]

/-- The index maps at a point: its block of rows, and its group's gate. -/
theorem maps : ∀ t : Fin grid0.N,
    cc0_transform_0 (grid0.coords t) = ![t.val, 0] ∧ cc0_transform_3 (grid0.coords t) = ![t.val, 0] ∧ cc0_transform_4 (grid0.coords t) = ![t.val / 8 * 6 + 2, 0, 0] ∧ cc0_transform_5 (grid0.coords t) = ![t.val, 0] := by
  decide +kernel

/-- The arrays as the call finds them. -/
theorem V_mat (c : Dev nD) : V m c main_v0 = m ((c : Thread nD τ).loc main_arg1) := by
  unfold V hostOps0; after_results; rfl
theorem V_mod (c : Dev nD) : V m c main_v1 = shapeCast S96x1x1024 (m ((c : Thread nD τ).loc main_arg4)) shapeCasts_S16x6144_S96x1x1024 := by
  unfold V hostOps0; after_results; rfl
theorem V_bias (c : Dev nD) : V m c main_v2 = shapeCast S1x1024 (m ((c : Thread nD τ).loc main_arg2)) shapeCasts_S1024_S1x1024 := by
  unfold V hostOps0; after_results; rfl

/-- The blocks a point reads. -/
theorem acts_at (c : Dev nD) (t : Fin cfg0.N) (p : Fin 512) (k : Fin 1024) (r : Fin 34816) (hr : r.val = t.val * 512 + p.val) : iblk m c 0 t (ix2 p k) = m ((c : Thread nD τ).loc main_arg0) (ix2 r k) := by
  show V m c main_arg0 _ = _
  rw [V_main_arg0]
  refine congrArg _ (funext fun a => Fin.ext ?_)
  match a with
  | ⟨0, _⟩ => show cc0_transform_0 (grid0.coords t) 0 * 512 + 1 * p.val = r.val; rw [(maps t).1, hr]; show t.val * 512 + 1 * p.val = _; omega
  | ⟨1, _⟩ => show cc0_transform_0 (grid0.coords t) 1 * 1024 + 1 * k.val = k.val; rw [(maps t).1]; show 0 * 1024 + 1 * k.val = _; omega

theorem mat_at (c : Dev nD) (t : Fin cfg0.N) (i : Fin 1024) (j : Fin 1024) : iblk m c 1 t (ix2 i j) = m ((c : Thread nD τ).loc main_arg1) (ix2 i j) := by
  show V m c main_v0 _ = _
  rw [V_mat]
  refine congrArg _ (funext fun a => Fin.ext ?_)
  match a with
  | ⟨0, _⟩ => show 0 * 1024 + 1 * i.val = i.val; omega
  | ⟨1, _⟩ => show 0 * 1024 + 1 * j.val = j.val; omega

theorem bias_at (c : Dev nD) (t : Fin cfg0.N) (j : Fin 1024) : iblk m c 2 t (ix2 (0 : Fin 1) j) = m ((c : Thread nD τ).loc main_arg2) (ix1 j) := by
  show V m c main_v2 _ = _
  rw [V_bias]
  refine Eq.trans (congrArg _ (funext fun a => Fin.ext ?_)) (row_at _ _ j)
  match a with
  | ⟨0, _⟩ => rfl
  | ⟨1, _⟩ => show 0 * 1024 + 1 * j.val = j.val; omega

theorem rows_at (c : Dev nD) (t : Fin cfg0.N) (p : Fin 512) (k : Fin 1024) (r : Fin 34816) (hr : r.val = t.val * 512 + p.val) : iblk m c 3 t (ix2 p k) = m ((c : Thread nD τ).loc main_arg3) (ix2 r k) := by
  show V m c main_arg3 _ = _
  rw [V_main_arg3]
  refine congrArg _ (funext fun a => Fin.ext ?_)
  match a with
  | ⟨0, _⟩ => show cc0_transform_3 (grid0.coords t) 0 * 512 + 1 * p.val = r.val; rw [(maps t).2.1, hr]; show t.val * 512 + 1 * p.val = _; omega
  | ⟨1, _⟩ => show cc0_transform_3 (grid0.coords t) 1 * 1024 + 1 * k.val = k.val; rw [(maps t).2.1]; show 0 * 1024 + 1 * k.val = _; omega

theorem gate_at (c : Dev nD) (t : Fin cfg0.N) (k : Fin 1024) (g : Fin 16) (hg : g.val = t.val / 8) : iblk m c 4 t (ix3 (0 : Fin 1) (0 : Fin 1) k) = m ((c : Thread nD τ).loc main_arg4) (ix2 g (colGate k)) := by
  show V m c main_v1 _ = _
  rw [V_mod]
  refine Eq.trans (congrArg _ (funext fun a => Fin.ext ?_)) (piece_at _ _ (⟨g.val * 6 + 2, by omega⟩ : Fin 96) k g (colGate k) (by show g.val * 6144 + (2048 + k.val) = (g.val * 6 + 2) * 1024 + k.val; omega))
  match a with
  | ⟨0, _⟩ => show cc0_transform_4 (grid0.coords t) 0 * 1 + 1 * 0 = g.val * 6 + 2; rw [(maps t).2.2.1, hg]; show (t.val / 8 * 6 + 2) * 1 + 1 * 0 = _; omega
  | ⟨1, _⟩ => show cc0_transform_4 (grid0.coords t) 1 * 1 + 1 * 0 = 0; rw [(maps t).2.2.1]; rfl
  | ⟨2, _⟩ => show cc0_transform_4 (grid0.coords t) 2 * 1024 + 1 * k.val = k.val; rw [(maps t).2.2.1]; show 0 * 1024 + 1 * k.val = _; omega

/-- The result array. -/
def total (c : Dev nD) : FVec Ideal S34816x1024 .f32 := fun i =>
  resid (m ((c : Thread nD τ).loc main_arg0)) (m ((c : Thread nD τ).loc main_arg1)) (m ((c : Thread nD τ).loc main_arg2)) (m ((c : Thread nD τ).loc main_arg3)) (m ((c : Thread nD τ).loc main_arg4))
    (i 0 : Fin 34816) (i 1 : Fin 1024)

/-- What a point writes back is its block of the result. -/
theorem flushed_eq (c : Dev nD) (t : Fin cfg0.N) : (dats m 0 c).flushed 5 t = ((cfg0.win 5).blk t).view.read (Elt Ideal) (total m c) := by
  rw [Value.flushed5, out_eq]
  have hl := lt_of_lt_of_eq t.isLt N_0
  funext y
  obtain ⟨p, j, rfl⟩ : ∃ (p : Fin 512) (j : Fin 1024), y = ix2 p j := ⟨_, _, eq_ix2 (n0 := 512) (n1 := 1024) y⟩
  generalize hr : (⟨t.val * 512 + p.val, by omega⟩ : Fin 34816) = r
  have hr' : r.val = t.val * 512 + p.val := by rw [← hr]
  have hg : (grp r).val = t.val / 8 := by show r.val / 4096 = _; omega
  have hi : ((cfg0.win 5).blk t).view.emb (ix2 p j) = ix2 r j := funext fun a => Fin.ext (by
    match a with
    | ⟨0, _⟩ => show cc0_transform_5 (grid0.coords t) 0 * 512 + 1 * p.val = r.val; rw [(maps t).2.2.2, hr']; show t.val * 512 + 1 * p.val = _; omega
    | ⟨1, _⟩ => show cc0_transform_5 (grid0.coords t) 1 * 1024 + 1 * j.val = j.val; rw [(maps t).2.2.2]; show 0 * 1024 + 1 * j.val = _; omega)
  show k0_pay1 _ _ _ _ _ (ix2 p j) = total m c (((cfg0.win 5).blk t).view.emb (ix2 p j))
  rw [hi]
  exact pay_at _ _ _ _ _ p j _ _ _ _ _ (fun k => acts_at m c t p k r hr') (fun k => mat_at m c t k j) (bias_at m c t j) (rows_at m c t p j r hr') (gate_at m c t j (grp r) hg)

/-- Every entry lies in a point's block. -/
theorem cover (i : S34816x1024.Idx) : ∃ t : Fin cfg0.N, (cfg0.win 5).flush t = true ∧ i ∈ ((cfg0.win 5).blk t).view.set := by
  have h0 : (i 0 : Nat) < 34816 := (i 0).isLt
  have h1 : (i 1 : Nat) < 1024 := (i 1).isLt
  refine ⟨⟨(i 0 : Nat) / 512, lt_of_lt_of_eq (by omega) N_0.symm⟩, flush0_5 _, ?_⟩
  generalize ht : (⟨(i 0 : Nat) / 512, _⟩ : Fin cfg0.N) = t
  have hv : t.val = (i 0 : Nat) / 512 := by rw [← ht]
  have hs : ((cfg0.win 5).blk t).view.set = ((cfg0.win 5).rect t).set := View.set_slice_whole _ _
  rw [hs]
  refine Rect.mem_set_unit.mpr ?_
  intro a
  match a with
  | ⟨0, _⟩ =>
    show cc0_transform_5 (grid0.coords t) 0 * 512 ≤ (i 0 : Nat) ∧ (i 0 : Nat) < cc0_transform_5 (grid0.coords t) 0 * 512 + 512
    rw [(maps t).2.2.2]; show t.val * 512 ≤ (i 0 : Nat) ∧ (i 0 : Nat) < t.val * 512 + 512; omega
  | ⟨1, _⟩ =>
    show cc0_transform_5 (grid0.coords t) 1 * 1024 ≤ (i 1 : Nat) ∧ (i 1 : Nat) < cc0_transform_5 (grid0.coords t) 1 * 1024 + 1024
    rw [(maps t).2.2.2]; show 0 * 1024 ≤ (i 1 : Nat) ∧ (i 1 : Nat) < 0 * 1024 + 1024; omega

/-- So the result array ends as that. -/
theorem final (c : Dev nD) : (dats m 0 c).arrAt 5 cfg0.N = total m c :=
  (dats m 0 c).arrAt_eq_of_cover 5 (total m c) (fun t _ => flushed_eq m c t) cover

/-- And the reference's is the same array. -/
theorem reference_eq (c : Dev nD) : Cert.Reference7Ideal.Dense.term (m ((c : Thread nD τ).loc main_arg0)) (m ((c : Thread nD τ).loc main_arg1)) (m ((c : Thread nD τ).loc main_arg2)) (m ((c : Thread nD τ).loc main_arg3))
    (m ((c : Thread nD τ).loc main_arg4)) = total m c := by
  funext i
  obtain ⟨r, j, rfl⟩ : ∃ (r : Fin 34816) (j : Fin 1024), i = ix2 r j := ⟨_, _, eq_ix2 (n0 := 34816) (n1 := 1024) i⟩
  exact Cert.Reference7Ideal.Dense.term_entry _ _ _ _ _ r j

end Cert.Kernel7Ideal.Dense
end
-- ==== Proof.Dense.Ada.lean ====
module

public import proofs.«01_k».proof.Proof.Gen.Kernel8Ideal.Value
public import proofs.«01_k».proof.Proof.Gen.Reference8Ideal.Run
public import proofs.«01_k».proof.Proof.Dense.Spec

@[expose] public section

set_option maxRecDepth 16384

noncomputable section

namespace Cert.Reference8Ideal.Dense

open Idealize.ShloMosaic Idealize.ShloMosaic.TcCoe Cert.Reference8Ideal.Gen Cert.Dense

/-- A modulation value: the condition through the sigmoid unit, times a column of the layer's matrix, plus the bias. -/
def value (s w : Fin 1024 → EReal) (b : EReal) : EReal := (∑ i : Fin 1024, s i * Ideal.logistic (s i) * w i) + b

/-- A condition of zero gives the bias. -/
theorem value_zero (w : Fin 1024 → EReal) (b : EReal) : value (fun _ => 0) w b = b := by
  simp [value]

/-- The three pieces of the reference's term: the batch's rows, the context's, and the rest. -/
def batch (c : FVec Ideal S8x1024 .f32) (w : FVec Ideal S4x1024x6144 .f32) (b : FVec Ideal S4x6144 .f32) : FVec Ideal S4x8x6144 .f32 :=
  addf (transpose S4x8x6144 [0, 2, 1] (Host.dotGeneral dot_S4x1024x6144_S8x1024_S4x6144x8_1_1_02_0_n_n none w (mulf c (Host.divf (broadcastInDim S8x1024 ![] bcast_S_S8x1024 (constant S_ .f32 0x3F800000#32))
    (addf (broadcastInDim S8x1024 ![] bcast_S_S8x1024 (constant S_ .f32 0x3F800000#32)) (Host.exp (Host.negf c)))))) transposes_S4x6144x8_S4x8x6144_0_2_1)
    (broadcastInDim S4x8x6144 ![0, 1, 2] bcast_S4x1x6144_S4x8x6144_0_1_2 (broadcastInDim S4x1x6144 ![0, 2] bcast_S4x6144_S4x1x6144_0_2 b))
def context (x : FVec Ideal S1024 .f32) (w : FVec Ideal S4x1024x6144 .f32) (b : FVec Ideal S4x6144 .f32) : FVec Ideal S4x1x6144 .f32 :=
  addf (transpose S4x1x6144 [0, 2, 1] (Host.dotGeneral dot_S4x1024x6144_S1x1024_S4x6144x1_1_1_02_0_n_n none w (broadcastInDim S1x1024 ![1] bcast_S1024_S1x1024_1 (mulf x (Host.divf (broadcastInDim S1024 ![] bcast_S_S1024 (constant S_ .f32 0x3F800000#32))
    (addf (broadcastInDim S1024 ![] bcast_S_S1024 (constant S_ .f32 0x3F800000#32)) (Host.exp (Host.negf x))))))) transposes_S4x6144x1_S4x1x6144_0_2_1)
    (broadcastInDim S4x1x6144 ![0, 2] bcast_S4x6144_S4x1x6144_0_2 b)
def rest (b : FVec Ideal S4x6144 .f32) : FVec Ideal S4x7x6144 .f32 :=
  broadcastInDim S4x7x6144 ![0, 1, 2] bcast_S4x1x6144_S4x7x6144_0_1_2 (broadcastInDim S4x1x6144 ![0, 2] bcast_S4x6144_S4x1x6144_0_2 b)

theorem batch_entry (c : FVec Ideal S8x1024 .f32) (w : FVec Ideal S4x1024x6144 .f32) (b : FVec Ideal S4x6144 .f32) (l : Fin 4) (q : Fin 8) (j : Fin 6144) :
    batch c w b (ix3 l q j) = value (fun i => c (ix2 q i)) (fun i => w (ix3 l i j)) (b (ix2 l j)) := by
  refine Eq.trans (b := (∑ i : Fin 1024, w (ix3 l i j) * (c (ix2 q i) * Ideal.logistic (c (ix2 q i)))) + b (ix2 l j)) ?_ ?_
  · pointwise [batch, Ideal.logistic]
  · exact congrArg (· + b (ix2 l j)) (Finset.sum_congr rfl fun i _ => mul_comm _ _)
theorem context_entry (x : FVec Ideal S1024 .f32) (w : FVec Ideal S4x1024x6144 .f32) (b : FVec Ideal S4x6144 .f32) (l : Fin 4) (j : Fin 6144) :
    context x w b (ix3 l 0 j) = value (fun i => x (ix1 i)) (fun i => w (ix3 l i j)) (b (ix2 l j)) := by
  refine Eq.trans (b := (∑ i : Fin 1024, w (ix3 l i j) * (x (ix1 i) * Ideal.logistic (x (ix1 i)))) + b (ix2 l j)) ?_ ?_
  · pointwise [context, Ideal.logistic]
  · exact congrArg (· + b (ix2 l j)) (Finset.sum_congr rfl fun i _ => mul_comm _ _)
theorem rest_entry (b : FVec Ideal S4x6144 .f32) (l : Fin 4) (q : Fin 7) (j : Fin 6144) : rest b (ix3 l q j) = b (ix2 l j) := by
  pointwise [rest]

/-- The reference's term: the three stacked. -/
def term (c : FVec Ideal S8x1024 .f32) (x : FVec Ideal S1024 .f32) (w : FVec Ideal S4x1024x6144 .f32) (b : FVec Ideal S4x6144 .f32) : FVec Ideal S4x16x6144 .f32 :=
  concatenate S4x16x6144 1 [⟨S4x8x6144, batch c w b⟩, ⟨S4x1x6144, context x w b⟩, ⟨S4x7x6144, rest b⟩] concatenates_S4x8x6144_S4x1x6144_S4x7x6144_S4x16x6144_d1

/-- The condition a row of the result is made of: the batch's, the context's, and zero for the rest. -/
def cond (c : FVec Ideal S8x1024 .f32) (x : FVec Ideal S1024 .f32) (p : Fin 16) (i : Fin 1024) : EReal :=
  if h : p.val < 8 then c (ix2 (⟨p.val, h⟩ : Fin 8) i) else if p.val = 8 then x (ix1 i) else 0

theorem term_entry (c : FVec Ideal S8x1024 .f32) (x : FVec Ideal S1024 .f32) (w : FVec Ideal S4x1024x6144 .f32) (b : FVec Ideal S4x6144 .f32) (l : Fin 4) (p : Fin 16) (j : Fin 6144) :
    term c x w b (ix3 l p j) = value (cond c x p) (fun i => w (ix3 l i j)) (b (ix2 l j)) := by
  have hp := p.isLt
  by_cases h : p.val < 8
  · rw [show cond c x p = fun i => c (ix2 (⟨p.val, h⟩ : Fin 8) i) from funext fun i => dif_pos h, ← batch_entry]
    exact concatenate_apply_piece 1 _ _ (ix3 l p j) 0 (by show 0 < 3; decide) S4x8x6144 _ rfl rfl 0 rfl (ix3 l (⟨p.val, h⟩ : Fin 8) j)
      (fun a ha => by match a with | ⟨0, _⟩ => rfl | ⟨1, _⟩ => exact absurd rfl ha | ⟨2, _⟩ => rfl) (by show 0 + p.val = p.val; omega)
  · by_cases h' : p.val = 8
    · rw [show cond c x p = fun i => x (ix1 i) from funext fun i => (dif_neg h).trans (if_pos h'), ← context_entry]
      exact concatenate_apply_piece 1 _ _ (ix3 l p j) 1 (by show 1 < 3; decide) S4x1x6144 _ rfl rfl 8 rfl (ix3 l (0 : Fin 1) j)
        (fun a ha => by match a with | ⟨0, _⟩ => rfl | ⟨1, _⟩ => exact absurd rfl ha | ⟨2, _⟩ => rfl) (by show 8 + 0 = p.val; omega)
    · rw [show cond c x p = fun _ => 0 from funext fun i => (dif_neg h).trans (if_neg h'), value_zero, ← rest_entry b l (⟨p.val - 9, by omega⟩ : Fin 7) j]
      exact concatenate_apply_piece 1 _ _ (ix3 l p j) 2 (by show 2 < 3; decide) S4x7x6144 _ rfl rfl 9 rfl (ix3 l (⟨p.val - 9, by omega⟩ : Fin 7) j)
        (fun a ha => by match a with | ⟨0, _⟩ => rfl | ⟨1, _⟩ => exact absurd rfl ha | ⟨2, _⟩ => rfl) (by show 9 + (p.val - 9) = p.val; omega)

end Cert.Reference8Ideal.Dense

namespace Cert.Kernel8Ideal.Dense

open Idealize.ShloMosaic Idealize.ShloMosaic.TcCoe Cert.Kernel8Ideal.Gen Cert.Dense
open Cert.Reference8Ideal.Dense (value cond)

variable (m : (ℓ : Loc nD τ sig) → Buf (Elt Ideal) ℓ)

/-- An entry of the block the body computes. -/
theorem pay_entry (s : Vec Ideal S16x1024 .f32) (w : Vec Ideal S1x1024x1024 .f32) (b : Vec Ideal S1x1x1024 .f32) (p : Fin 16) (k : Fin 1024) :
    k0_pay1 s w b (ix3 0 p k) = value (fun i => s (ix2 p i)) (fun i => w (ix3 0 i k)) (b (ix3 0 0 k)) := by
  pointwise [k0_pay1, value]

/-- The entry with the operands' entries named. -/
theorem pay_at (s : Vec Ideal S16x1024 .f32) (w : Vec Ideal S1x1024x1024 .f32) (b : Vec Ideal S1x1x1024 .f32) (p : Fin 16) (k : Fin 1024) (S W : Fin 1024 → EReal) (B : EReal)
    (hs : ∀ i, s (ix2 p i) = S i) (hw : ∀ i, w (ix3 0 i k) = W i) (hb : b (ix3 0 0 k) = B) : k0_pay1 s w b (ix3 0 p k) = value S W B := by
  obtain rfl := funext hs; obtain rfl := funext hw; subst hb
  exact pay_entry s w b p k

/-- The block the body leaves is what it computes from the input blocks. -/
theorem out_eq (s : Vec Ideal S16x1024 .f32) (w : Vec Ideal S1x1024x1024 .f32) (b : Vec Ideal S1x1x1024 .f32) : out0_3 s w b = k0_pay1 s w b := by
  unfold out0_3
  rw [View.canon_cons_unit_lit _ _ _ (by decide), View.ld_unit_lit _ s (by decide), View.ld_unit_lit _ w (by decide), View.ld_unit_lit _ b (by decide)]

/-- The index maps at a point: the layer and the piece of the columns. -/
theorem maps : ∀ t : Fin grid0.N,
    cc0_transform_1 (grid0.coords t) = ![t.val / 6, 0, t.val % 6] ∧ cc0_transform_2 (grid0.coords t) = ![t.val / 6, 0, t.val % 6] ∧ cc0_transform_3 (grid0.coords t) = ![t.val / 6, 0, t.val % 6] := by
  decide +kernel

/-- The conditions stacked, as the call finds them. -/
def conds (c : FVec Ideal S8x1024 .f32) (x : FVec Ideal S1024 .f32) : FVec Ideal S16x1024 .f32 :=
  concatenate S16x1024 0 [⟨S8x1024, c⟩, ⟨S1x1024, broadcastInDim S1x1024 ![1] bcast_S1024_S1x1024_1 x⟩, ⟨S7x1024, broadcastInDim S7x1024 ![] bcast_S_S7x1024 (constant (F := Ideal) S_ .f32 0x00000000#32)⟩] concatenates_S8x1024_S1x1024_S7x1024_S16x1024_d0

theorem V_conds (c : Dev nD) : V m c main_v2 = conds (m ((c : Thread nD τ).loc main_arg0)) (m ((c : Thread nD τ).loc main_arg1)) := by
  unfold V hostOps0; after_results; rfl
theorem V_bias (c : Dev nD) : V m c main_v3 = shapeCast S4x1x6144 (m ((c : Thread nD τ).loc main_arg3)) shapeCasts_S4x6144_S4x1x6144 := by
  unfold V hostOps0; after_results; rfl

theorem conds_entry (c : FVec Ideal S8x1024 .f32) (x : FVec Ideal S1024 .f32) (p : Fin 16) (i : Fin 1024) : conds c x (ix2 p i) = cond c x p i := by
  have hp := p.isLt
  by_cases h : p.val < 8
  · rw [show cond c x p i = c (ix2 (⟨p.val, h⟩ : Fin 8) i) from dif_pos h]
    exact concatenate_apply_piece 0 _ _ (ix2 p i) 0 (by show 0 < 3; decide) S8x1024 _ rfl rfl 0 rfl (ix2 (⟨p.val, h⟩ : Fin 8) i) (fun a ha => by match a with | ⟨0, _⟩ => exact absurd rfl ha | ⟨1, _⟩ => rfl) (by show 0 + p.val = p.val; omega)
  · by_cases h' : p.val = 8
    · rw [show cond c x p i = x (ix1 i) from (dif_neg h).trans (if_pos h')]
      refine (concatenate_apply_piece 0 _ _ (ix2 p i) 1 (by show 1 < 3; decide) S1x1024 _ rfl rfl 8 rfl (ix2 (0 : Fin 1) i) (fun a ha => by match a with | ⟨0, _⟩ => exact absurd rfl ha | ⟨1, _⟩ => rfl) (by show 8 + 0 = p.val; omega)).trans ?_
      pointwise
    · rw [show cond c x p i = 0 from (dif_neg h).trans (if_neg h')]
      refine (concatenate_apply_piece 0 _ _ (ix2 p i) 2 (by show 2 < 3; decide) S7x1024 _ rfl rfl 9 rfl (ix2 (⟨p.val - 9, by omega⟩ : Fin 7) i) (fun a ha => by match a with | ⟨0, _⟩ => exact absurd rfl ha | ⟨1, _⟩ => rfl) (by show 9 + (p.val - 9) = p.val; omega)).trans ?_
      pointwise

/-- The blocks a point reads. -/
theorem conds_at (c : Dev nD) (t : Fin cfg0.N) (p : Fin 16) (i : Fin 1024) : iblk m c 0 t (ix2 p i) = cond (m ((c : Thread nD τ).loc main_arg0)) (m ((c : Thread nD τ).loc main_arg1)) p i := by
  show V m c main_v2 _ = _
  rw [V_conds, ← conds_entry]
  refine congrArg _ (funext fun a => Fin.ext ?_)
  match a with
  | ⟨0, _⟩ => show 0 * 16 + 1 * p.val = p.val; omega
  | ⟨1, _⟩ => show 0 * 1024 + 1 * i.val = i.val; omega

theorem mat_at (c : Dev nD) (t : Fin cfg0.N) (i k : Fin 1024) (l : Fin 4) (j : Fin 6144) (hl : l.val = t.val / 6) (hj : j.val = t.val % 6 * 1024 + k.val) :
    iblk m c 1 t (ix3 (0 : Fin 1) i k) = m ((c : Thread nD τ).loc main_arg2) (ix3 l i j) := by
  show V m c main_arg2 _ = _
  rw [V_main_arg2]
  refine congrArg _ (funext fun a => Fin.ext ?_)
  match a with
  | ⟨0, _⟩ => show cc0_transform_1 (grid0.coords t) 0 * 1 + 1 * 0 = l.val; rw [(maps t).1, hl]; show t.val / 6 * 1 + 1 * 0 = _; omega
  | ⟨1, _⟩ => show cc0_transform_1 (grid0.coords t) 1 * 1024 + 1 * i.val = i.val; rw [(maps t).1]; show 0 * 1024 + 1 * i.val = _; omega
  | ⟨2, _⟩ => show cc0_transform_1 (grid0.coords t) 2 * 1024 + 1 * k.val = j.val; rw [(maps t).1, hj]; show t.val % 6 * 1024 + 1 * k.val = _; omega

theorem bias_at (c : Dev nD) (t : Fin cfg0.N) (k : Fin 1024) (l : Fin 4) (j : Fin 6144) (hl : l.val = t.val / 6) (hj : j.val = t.val % 6 * 1024 + k.val) :
    iblk m c 2 t (ix3 (0 : Fin 1) (0 : Fin 1) k) = m ((c : Thread nD τ).loc main_arg3) (ix2 l j) := by
  show V m c main_v3 _ = _
  rw [V_bias]
  refine Eq.trans (congrArg _ (funext fun a => Fin.ext ?_)) (shapeCast_apply _ _ (ix3 l (0 : Fin 1) j) (ix2 l j) (by rw [Shape.rowMajor_val_two, Shape.rowMajor_val_three]; show l.val * 6144 + j.val = (l.val * 1 + 0) * 6144 + j.val; omega))
  match a with
  | ⟨0, _⟩ => show cc0_transform_2 (grid0.coords t) 0 * 1 + 1 * 0 = l.val; rw [(maps t).2.1, hl]; show t.val / 6 * 1 + 1 * 0 = _; omega
  | ⟨1, _⟩ => show cc0_transform_2 (grid0.coords t) 1 * 1 + 1 * 0 = 0; rw [(maps t).2.1]; rfl
  | ⟨2, _⟩ => show cc0_transform_2 (grid0.coords t) 2 * 1024 + 1 * k.val = j.val; rw [(maps t).2.1, hj]; show t.val % 6 * 1024 + 1 * k.val = _; omega

/-- The result array. -/
def total (c : Dev nD) : FVec Ideal S4x16x6144 .f32 := fun i =>
  value (cond (m ((c : Thread nD τ).loc main_arg0)) (m ((c : Thread nD τ).loc main_arg1)) (i 1 : Fin 16)) (fun k => m ((c : Thread nD τ).loc main_arg2) (ix3 (i 0 : Fin 4) k (i 2 : Fin 6144))) (m ((c : Thread nD τ).loc main_arg3) (ix2 (i 0 : Fin 4) (i 2 : Fin 6144)))

/-- What a point writes back is its block of the result. -/
theorem flushed_eq (c : Dev nD) (t : Fin cfg0.N) : (dats m 0 c).flushed 3 t = ((cfg0.win 3).blk t).view.read (Elt Ideal) (total m c) := by
  rw [Value.flushed3, out_eq]
  have hl := lt_of_lt_of_eq t.isLt N_0
  funext y
  obtain ⟨z, p, k, rfl⟩ : ∃ (z : Fin 1) (p : Fin 16) (k : Fin 1024), y = ix3 z p k := ⟨_, _, _, eq_ix3 (n0 := 1) (n1 := 16) (n2 := 1024) y⟩
  obtain rfl : z = 0 := Subsingleton.elim _ _
  generalize hq : (⟨t.val / 6, by omega⟩ : Fin 4) = l
  generalize hr : (⟨t.val % 6 * 1024 + k.val, by omega⟩ : Fin 6144) = j
  have hq' : l.val = t.val / 6 := by rw [← hq]
  have hr' : j.val = t.val % 6 * 1024 + k.val := by rw [← hr]
  have hi : ((cfg0.win 3).blk t).view.emb (ix3 (0 : Fin 1) p k) = ix3 l p j := funext fun a => Fin.ext (by
    match a with
    | ⟨0, _⟩ => show cc0_transform_3 (grid0.coords t) 0 * 1 + 1 * 0 = l.val; rw [(maps t).2.2, hq']; show t.val / 6 * 1 + 1 * 0 = _; omega
    | ⟨1, _⟩ => show cc0_transform_3 (grid0.coords t) 1 * 16 + 1 * p.val = p.val; rw [(maps t).2.2]; show 0 * 16 + 1 * p.val = _; omega
    | ⟨2, _⟩ => show cc0_transform_3 (grid0.coords t) 2 * 1024 + 1 * k.val = j.val; rw [(maps t).2.2, hr']; show t.val % 6 * 1024 + 1 * k.val = _; omega)
  show k0_pay1 _ _ _ (ix3 (0 : Fin 1) p k) = total m c (((cfg0.win 3).blk t).view.emb (ix3 (0 : Fin 1) p k))
  rw [hi]
  exact pay_at _ _ _ p k _ _ _ (fun i => conds_at m c t p i) (fun i => mat_at m c t i k l j hq' hr') (bias_at m c t k l j hq' hr')

/-- Every entry lies in a point's block. -/
theorem cover (i : S4x16x6144.Idx) : ∃ t : Fin cfg0.N, (cfg0.win 3).flush t = true ∧ i ∈ ((cfg0.win 3).blk t).view.set := by
  have h0 : (i 0 : Nat) < 4 := (i 0).isLt
  have h1 : (i 1 : Nat) < 16 := (i 1).isLt
  have h2 : (i 2 : Nat) < 6144 := (i 2).isLt
  refine ⟨⟨(i 0 : Nat) * 6 + (i 2 : Nat) / 1024, lt_of_lt_of_eq (by omega) N_0.symm⟩, flush0_3 _, ?_⟩
  generalize ht : (⟨(i 0 : Nat) * 6 + (i 2 : Nat) / 1024, _⟩ : Fin cfg0.N) = t
  have hv : t.val = (i 0 : Nat) * 6 + (i 2 : Nat) / 1024 := by rw [← ht]
  have hs : ((cfg0.win 3).blk t).view.set = ((cfg0.win 3).rect t).set := View.set_slice_whole _ _
  rw [hs]
  refine Rect.mem_set_unit.mpr ?_
  intro a
  match a with
  | ⟨0, _⟩ =>
    show cc0_transform_3 (grid0.coords t) 0 * 1 ≤ (i 0 : Nat) ∧ (i 0 : Nat) < cc0_transform_3 (grid0.coords t) 0 * 1 + 1
    rw [(maps t).2.2]; show t.val / 6 * 1 ≤ (i 0 : Nat) ∧ (i 0 : Nat) < t.val / 6 * 1 + 1; omega
  | ⟨1, _⟩ =>
    show cc0_transform_3 (grid0.coords t) 1 * 16 ≤ (i 1 : Nat) ∧ (i 1 : Nat) < cc0_transform_3 (grid0.coords t) 1 * 16 + 16
    rw [(maps t).2.2]; show 0 * 16 ≤ (i 1 : Nat) ∧ (i 1 : Nat) < 0 * 16 + 16; omega
  | ⟨2, _⟩ =>
    show cc0_transform_3 (grid0.coords t) 2 * 1024 ≤ (i 2 : Nat) ∧ (i 2 : Nat) < cc0_transform_3 (grid0.coords t) 2 * 1024 + 1024
    rw [(maps t).2.2]; show t.val % 6 * 1024 ≤ (i 2 : Nat) ∧ (i 2 : Nat) < t.val % 6 * 1024 + 1024; omega

/-- So the result array ends as that. -/
theorem final (c : Dev nD) : (dats m 0 c).arrAt 3 cfg0.N = total m c :=
  (dats m 0 c).arrAt_eq_of_cover 3 (total m c) (fun t _ => flushed_eq m c t) cover

/-- And the reference's is the same array. -/
theorem reference_eq (c : Dev nD) : Cert.Reference8Ideal.Dense.term (m ((c : Thread nD τ).loc main_arg0)) (m ((c : Thread nD τ).loc main_arg1)) (m ((c : Thread nD τ).loc main_arg2)) (m ((c : Thread nD τ).loc main_arg3)) = total m c := by
  funext i
  obtain ⟨l, p, j, rfl⟩ : ∃ (l : Fin 4) (p : Fin 16) (j : Fin 6144), i = ix3 l p j := ⟨_, _, _, eq_ix3 (n0 := 4) (n1 := 16) (n2 := 6144) i⟩
  exact Cert.Reference8Ideal.Dense.term_entry _ _ _ _ l p j

end Cert.Kernel8Ideal.Dense
end
-- ==== Proof.Dense.Combine.lean ====
module

public import proofs.«01_k».proof.Proof.Gen.Kernel9Ideal.Value
public import proofs.«01_k».proof.Proof.Gen.Reference9Ideal.Run
public import proofs.«01_k».proof.Proof.Dense.Modulated

@[expose] public section

set_option maxRecDepth 16384

noncomputable section

namespace Cert.Reference9Ideal.Dense

open Idealize.ShloMosaic Idealize.ShloMosaic.TcCoe Cert.Reference9Ideal.Gen Cert.Dense
open Cert.Reference2Ideal.Dense (stack_at latCut_at ctxCut_at latRows ctxRows latRows_at ctxRows_at grp)

/-- The expert gate's columns of a modulation row. -/
abbrev colGate (i : Fin 1024) : Fin 6144 := ⟨5120 + i.val, by omega⟩
/-- The column of a slot's weight. -/
abbrev colSlot (k : Fin 4) : Fin 128 := ⟨k.val, by omega⟩

/-- An entry of the result: the row's own entry plus its gate times the weighted sum over the four slots. -/
def combined (y : FVec Ideal S4x34816x1024 .bf16) (w : FVec Ideal S34816x128 .f32) (x : FVec Ideal S34816x1024 .f32) (v : FVec Ideal S16x6144 .f32) (r : Fin 34816) (j : Fin 1024) : EReal :=
  x (ix2 r j) + v (ix2 (grp r) (colGate j)) * ∑ k : Fin 4, y (ix3 k r j) * w (ix2 r (colSlot k))

/-- The weighted sum over the slots. -/
def mix (y : FVec Ideal S4x34816x1024 .bf16) (w : FVec Ideal S34816x128 .f32) : FVec Ideal S34816x1024 .f32 :=
  Host.reduceAdd (mulf (extf .f32 y bitsLt_bf16_f32) (broadcastInDim S4x34816x1024 ![0, 1, 2] bcast_S4x34816x1_S4x34816x1024_0_1_2 (broadcastInDim S4x34816x1 ![0, 1] bcast_S4x34816_S4x34816x1_0_1
    (transpose S4x34816 [1, 0] (extractStridedSlice S34816x4 ![0, 0] w slices_S34816x128_S34816x4_0_0) transposes_S34816x4_S4x34816_1_0)))) (constant S_ .f32 0x00000000#32) reducesTo_S4x34816x1024_S34816x1024_d0 h_S_

theorem mix_entry (y : FVec Ideal S4x34816x1024 .bf16) (w : FVec Ideal S34816x128 .f32) (r : Fin 34816) (j : Fin 1024) :
    mix y w (ix2 r j) = ∑ k : Fin 4, y (ix3 k r j) * w (ix2 r (colSlot k)) := by
  pointwise [mix, colSlot]

/-- The latent tokens' values, and the context tokens'. -/
def latSum (s x : FVec Ideal S8x4096x1024 .f32) (v : FVec Ideal S16x6144 .f32) : FVec Ideal S8x4096x1024 .f32 :=
  addf x (mulf (broadcastInDim S8x4096x1024 ![0, 1, 2] bcast_S8x1x1024_S8x4096x1024_0_1_2 (broadcastInDim S8x1x1024 ![0, 2] bcast_S8x1024_S8x1x1024_0_2 (extractStridedSlice S8x1024 ![0, 5120] v slices_S16x6144_S8x1024_0_5120))) s)
def ctxSum (s x : FVec Ideal S8x256x1024 .f32) (v : FVec Ideal S16x6144 .f32) : FVec Ideal S8x256x1024 .f32 :=
  addf x (mulf (broadcastInDim S8x256x1024 ![0, 1, 2] bcast_S1x1x1024_S8x256x1024_0_1_2 (broadcastInDim S1x1x1024 ![0, 2] bcast_S1x1024_S1x1x1024_0_2 (extractStridedSlice S1x1024 ![8, 5120] v slices_S16x6144_S1x1024_8_5120))) s)

theorem latSum_entry (s x : FVec Ideal S8x4096x1024 .f32) (v : FVec Ideal S16x6144 .f32) (q : Fin 8) (l : Fin 4096) (j : Fin 1024) :
    latSum s x v (ix3 q l j) = x (ix3 q l j) + v (ix2 (⟨q.val, by omega⟩ : Fin 16) (colGate j)) * s (ix3 q l j) := by
  pointwise [latSum, colGate]
theorem ctxSum_entry (s x : FVec Ideal S8x256x1024 .f32) (v : FVec Ideal S16x6144 .f32) (q : Fin 8) (l : Fin 256) (j : Fin 1024) :
    ctxSum s x v (ix3 q l j) = x (ix3 q l j) + v (ix2 (8 : Fin 16) (colGate j)) * s (ix3 q l j) := by
  pointwise [ctxSum, colGate]

/-- The reference's term: the two stacked. -/
def term (y : FVec Ideal S4x34816x1024 .bf16) (w : FVec Ideal S34816x128 .f32) (x : FVec Ideal S34816x1024 .f32) (v : FVec Ideal S16x6144 .f32) : FVec Ideal S34816x1024 .f32 :=
  concatenate S34816x1024 0
    [⟨S32768x1024, shapeCast S32768x1024 (latSum (latRows (mix y w)) (latRows x) v) shapeCasts_S8x4096x1024_S32768x1024⟩,
     ⟨S2048x1024, shapeCast S2048x1024 (ctxSum (ctxRows (mix y w)) (ctxRows x) v) shapeCasts_S8x256x1024_S2048x1024⟩]
    concatenates_S32768x1024_S2048x1024_S34816x1024_d0

theorem term_entry (y : FVec Ideal S4x34816x1024 .bf16) (w : FVec Ideal S34816x128 .f32) (x : FVec Ideal S34816x1024 .f32) (v : FVec Ideal S16x6144 .f32) (r : Fin 34816) (j : Fin 1024) :
    term y w x v (ix2 r j) = combined y w x v r j := by
  refine stack_at (n := 1024) _ _ _ _ _ r j _ (fun q l hr => ?_) (fun q l hr => ?_)
  · have hg : (⟨q.val, by omega⟩ : Fin 16) = grp r := Fin.ext (by show q.val = r.val / 4096; omega)
    rw [latSum_entry, combined, hg, latRows_at x q l j r hr, latRows_at _ q l j r hr, mix_entry]
  · have hg : (8 : Fin 16) = grp r := Fin.ext (by show 8 = r.val / 4096; omega)
    rw [ctxSum_entry, combined, hg, ctxRows_at x q l j r hr, ctxRows_at _ q l j r hr, mix_entry]

end Cert.Reference9Ideal.Dense

namespace Cert.Kernel9Ideal.Dense

open Idealize.ShloMosaic Idealize.ShloMosaic.TcCoe Cert.Kernel9Ideal.Gen Cert.Dense
open Cert.Reference2Ideal.Dense (grp)
open Cert.Reference9Ideal.Dense (combined colGate colSlot)

variable (m : (ℓ : Loc nD τ sig) → Buf (Elt Ideal) ℓ)

/-- An entry of the block the body computes from the weights, the four slots' blocks, the rows and the gate. -/
theorem pay_entry (w : Vec Ideal S256x128 .f32) (y0 y1 y2 y3 : Vec Ideal S1x256x1024 .bf16) (x : Vec Ideal S256x1024 .f32) (v : Vec Ideal S1x1x1024 .f32) (p : Fin 256) (j : Fin 1024) :
    k0_pay1 w y0 y1 y2 y3 x v (ix2 p j) = x (ix2 p j) + v (ix3 0 0 j) * (y0 (ix3 0 p j) * w (ix2 p (colSlot 0)) + y1 (ix3 0 p j) * w (ix2 p (colSlot 1)) + y2 (ix3 0 p j) * w (ix2 p (colSlot 2)) + y3 (ix3 0 p j) * w (ix2 p (colSlot 3))) := by
  pointwise [k0_pay1, colSlot]

/-- The entry with the operands' entries named. -/
theorem pay_at (w : Vec Ideal S256x128 .f32) (y0 y1 y2 y3 : Vec Ideal S1x256x1024 .bf16) (x : Vec Ideal S256x1024 .f32) (v : Vec Ideal S1x1x1024 .f32) (p : Fin 256) (j : Fin 1024)
    (Y W : Fin 4 → EReal) (X G : EReal) (h0 : y0 (ix3 0 p j) = Y 0) (h1 : y1 (ix3 0 p j) = Y 1) (h2 : y2 (ix3 0 p j) = Y 2) (h3 : y3 (ix3 0 p j) = Y 3) (hw : ∀ k, w (ix2 p (colSlot k)) = W k) (hx : x (ix2 p j) = X) (hv : v (ix3 0 0 j) = G) :
    k0_pay1 w y0 y1 y2 y3 x v (ix2 p j) = X + G * ∑ k : Fin 4, Y k * W k := by
  refine (pay_entry w y0 y1 y2 y3 x v p j).trans ?_
  rw [Fin.sum_univ_four, ← hw 0, ← hw 1, ← hw 2, ← hw 3, ← h0, ← h1, ← h2, ← h3, ← hx, ← hv]

/-- The block the body leaves is what it computes from the input blocks. -/
theorem out_eq (y : Vec Ideal S4x256x1024 .bf16) (w : Vec Ideal S256x128 .f32) (x : Vec Ideal S256x1024 .f32) (v : Vec Ideal S1x1x1024 .f32) :
    out0_4 y w x v = k0_pay1 w (View.ld y r0_1) (View.ld y r0_2) (View.ld y r0_3) (View.ld y r0_4) x v := by
  unfold out0_4
  rw [View.canon_cons_unit_lit _ _ _ (by decide), View.ld_unit_lit _ w (by decide), View.ld_unit_lit _ x (by decide), View.ld_unit_lit _ v (by decide)]

/-- The index maps at a point: its block of rows, and its group's gate. -/
theorem maps : ∀ t : Fin grid0.N,
    cc0_transform_0 (grid0.coords t) = ![0, t.val, 0] ∧ cc0_transform_1 (grid0.coords t) = ![t.val, 0] ∧ cc0_transform_2 (grid0.coords t) = ![t.val, 0] ∧ cc0_transform_3 (grid0.coords t) = ![t.val / 16 * 6 + 5, 0, 0] ∧ cc0_transform_4 (grid0.coords t) = ![t.val, 0] := by
  decide +kernel

/-- The modulation as the call finds it. -/
theorem V_mod (c : Dev nD) : V m c main_v0 = shapeCast S96x1x1024 (m ((c : Thread nD τ).loc main_arg3)) shapeCasts_S16x6144_S96x1x1024 := by
  unfold V hostOps0; after_results; rfl

/-- The blocks a point reads. -/
theorem slots_at (c : Dev nD) (t : Fin cfg0.N) (k : Fin 4) (p : Fin 256) (j : Fin 1024) (r : Fin 34816) (hr : r.val = t.val * 256 + p.val) : iblk m c 0 t (ix3 k p j) = m ((c : Thread nD τ).loc main_arg0) (ix3 k r j) := by
  show V m c main_arg0 _ = _
  rw [V_main_arg0]
  refine congrArg _ (funext fun a => Fin.ext ?_)
  match a with
  | ⟨0, _⟩ => show cc0_transform_0 (grid0.coords t) 0 * 4 + 1 * k.val = k.val; rw [(maps t).1]; show 0 * 4 + 1 * k.val = _; omega
  | ⟨1, _⟩ => show cc0_transform_0 (grid0.coords t) 1 * 256 + 1 * p.val = r.val; rw [(maps t).1, hr]; show t.val * 256 + 1 * p.val = _; omega
  | ⟨2, _⟩ => show cc0_transform_0 (grid0.coords t) 2 * 1024 + 1 * j.val = j.val; rw [(maps t).1]; show 0 * 1024 + 1 * j.val = _; omega

theorem weights_at (c : Dev nD) (t : Fin cfg0.N) (p : Fin 256) (l : Fin 128) (r : Fin 34816) (hr : r.val = t.val * 256 + p.val) : iblk m c 1 t (ix2 p l) = m ((c : Thread nD τ).loc main_arg1) (ix2 r l) := by
  show V m c main_arg1 _ = _
  rw [V_main_arg1]
  refine congrArg _ (funext fun a => Fin.ext ?_)
  match a with
  | ⟨0, _⟩ => show cc0_transform_1 (grid0.coords t) 0 * 256 + 1 * p.val = r.val; rw [(maps t).2.1, hr]; show t.val * 256 + 1 * p.val = _; omega
  | ⟨1, _⟩ => show cc0_transform_1 (grid0.coords t) 1 * 128 + 1 * l.val = l.val; rw [(maps t).2.1]; show 0 * 128 + 1 * l.val = _; omega

theorem rows_at (c : Dev nD) (t : Fin cfg0.N) (p : Fin 256) (k : Fin 1024) (r : Fin 34816) (hr : r.val = t.val * 256 + p.val) : iblk m c 2 t (ix2 p k) = m ((c : Thread nD τ).loc main_arg2) (ix2 r k) := by
  show V m c main_arg2 _ = _
  rw [V_main_arg2]
  refine congrArg _ (funext fun a => Fin.ext ?_)
  match a with
  | ⟨0, _⟩ => show cc0_transform_2 (grid0.coords t) 0 * 256 + 1 * p.val = r.val; rw [(maps t).2.2.1, hr]; show t.val * 256 + 1 * p.val = _; omega
  | ⟨1, _⟩ => show cc0_transform_2 (grid0.coords t) 1 * 1024 + 1 * k.val = k.val; rw [(maps t).2.2.1]; show 0 * 1024 + 1 * k.val = _; omega

theorem gate_at (c : Dev nD) (t : Fin cfg0.N) (k : Fin 1024) (g : Fin 16) (hg : g.val = t.val / 16) : iblk m c 3 t (ix3 (0 : Fin 1) (0 : Fin 1) k) = m ((c : Thread nD τ).loc main_arg3) (ix2 g (colGate k)) := by
  show V m c main_v0 _ = _
  rw [V_mod]
  refine Eq.trans (congrArg _ (funext fun a => Fin.ext ?_)) (piece_at _ _ (⟨g.val * 6 + 5, by omega⟩ : Fin 96) k g (colGate k) (by show g.val * 6144 + (5120 + k.val) = (g.val * 6 + 5) * 1024 + k.val; omega))
  match a with
  | ⟨0, _⟩ => show cc0_transform_3 (grid0.coords t) 0 * 1 + 1 * 0 = g.val * 6 + 5; rw [(maps t).2.2.2.1, hg]; show (t.val / 16 * 6 + 5) * 1 + 1 * 0 = _; omega
  | ⟨1, _⟩ => show cc0_transform_3 (grid0.coords t) 1 * 1 + 1 * 0 = 0; rw [(maps t).2.2.2.1]; rfl
  | ⟨2, _⟩ => show cc0_transform_3 (grid0.coords t) 2 * 1024 + 1 * k.val = k.val; rw [(maps t).2.2.2.1]; show 0 * 1024 + 1 * k.val = _; omega

/-- A slot's part of the block of all four. -/
theorem slot_at (y : Vec Ideal S4x256x1024 .bf16) (k : Fin 4) (h : ∀ a, ![k.val, 0, 0] a + S1x256x1024.size a ≤ S4x256x1024.size a) (p : Fin 256) (j : Fin 1024) :
    View.ld y (Rect.unit (s := S4x256x1024) ![k.val, 0, 0] S1x256x1024.size h) (ix3 (0 : Fin 1) p j) = y (ix3 k p j) := by
  refine congrArg y (funext fun a => Fin.ext ?_)
  match a with
  | ⟨0, _⟩ => show k.val + 1 * 0 = k.val; omega
  | ⟨1, _⟩ => show 0 + 1 * p.val = p.val; omega
  | ⟨2, _⟩ => show 0 + 1 * j.val = j.val; omega

/-- The result array. -/
def total (c : Dev nD) : FVec Ideal S34816x1024 .f32 := fun i =>
  combined (m ((c : Thread nD τ).loc main_arg0)) (m ((c : Thread nD τ).loc main_arg1)) (m ((c : Thread nD τ).loc main_arg2)) (m ((c : Thread nD τ).loc main_arg3)) (i 0 : Fin 34816) (i 1 : Fin 1024)

/-- What a point writes back is its block of the result. -/
theorem flushed_eq (c : Dev nD) (t : Fin cfg0.N) : (dats m 0 c).flushed 4 t = ((cfg0.win 4).blk t).view.read (Elt Ideal) (total m c) := by
  rw [Value.flushed4, out_eq]
  have hl := lt_of_lt_of_eq t.isLt N_0
  funext y
  obtain ⟨p, j, rfl⟩ : ∃ (p : Fin 256) (j : Fin 1024), y = ix2 p j := ⟨_, _, eq_ix2 (n0 := 256) (n1 := 1024) y⟩
  generalize hr : (⟨t.val * 256 + p.val, by omega⟩ : Fin 34816) = r
  have hr' : r.val = t.val * 256 + p.val := by rw [← hr]
  have hg : (grp r).val = t.val / 16 := by show r.val / 4096 = _; omega
  have hi : ((cfg0.win 4).blk t).view.emb (ix2 p j) = ix2 r j := funext fun a => Fin.ext (by
    match a with
    | ⟨0, _⟩ => show cc0_transform_4 (grid0.coords t) 0 * 256 + 1 * p.val = r.val; rw [(maps t).2.2.2.2, hr']; show t.val * 256 + 1 * p.val = _; omega
    | ⟨1, _⟩ => show cc0_transform_4 (grid0.coords t) 1 * 1024 + 1 * j.val = j.val; rw [(maps t).2.2.2.2]; show 0 * 1024 + 1 * j.val = _; omega)
  show k0_pay1 _ _ _ _ _ _ _ (ix2 p j) = total m c (((cfg0.win 4).blk t).view.emb (ix2 p j))
  rw [hi]
  exact pay_at _ _ _ _ _ _ _ p j _ _ _ _ ((slot_at _ 0 _ p j).trans (slots_at m c t 0 p j r hr')) ((slot_at _ 1 _ p j).trans (slots_at m c t 1 p j r hr')) ((slot_at _ 2 _ p j).trans (slots_at m c t 2 p j r hr'))
    ((slot_at _ 3 _ p j).trans (slots_at m c t 3 p j r hr')) (fun k => weights_at m c t p (colSlot k) r hr') (rows_at m c t p j r hr') (gate_at m c t j (grp r) hg)

/-- Every entry lies in a point's block. -/
theorem cover (i : S34816x1024.Idx) : ∃ t : Fin cfg0.N, (cfg0.win 4).flush t = true ∧ i ∈ ((cfg0.win 4).blk t).view.set := by
  have h0 : (i 0 : Nat) < 34816 := (i 0).isLt
  have h1 : (i 1 : Nat) < 1024 := (i 1).isLt
  refine ⟨⟨(i 0 : Nat) / 256, lt_of_lt_of_eq (by omega) N_0.symm⟩, flush0_4 _, ?_⟩
  generalize ht : (⟨(i 0 : Nat) / 256, _⟩ : Fin cfg0.N) = t
  have hv : t.val = (i 0 : Nat) / 256 := by rw [← ht]
  have hs : ((cfg0.win 4).blk t).view.set = ((cfg0.win 4).rect t).set := View.set_slice_whole _ _
  rw [hs]
  refine Rect.mem_set_unit.mpr ?_
  intro a
  match a with
  | ⟨0, _⟩ =>
    show cc0_transform_4 (grid0.coords t) 0 * 256 ≤ (i 0 : Nat) ∧ (i 0 : Nat) < cc0_transform_4 (grid0.coords t) 0 * 256 + 256
    rw [(maps t).2.2.2.2]; show t.val * 256 ≤ (i 0 : Nat) ∧ (i 0 : Nat) < t.val * 256 + 256; omega
  | ⟨1, _⟩ =>
    show cc0_transform_4 (grid0.coords t) 1 * 1024 ≤ (i 1 : Nat) ∧ (i 1 : Nat) < cc0_transform_4 (grid0.coords t) 1 * 1024 + 1024
    rw [(maps t).2.2.2.2]; show 0 * 1024 ≤ (i 1 : Nat) ∧ (i 1 : Nat) < 0 * 1024 + 1024; omega

/-- So the result array ends as that. -/
theorem final (c : Dev nD) : (dats m 0 c).arrAt 4 cfg0.N = total m c :=
  (dats m 0 c).arrAt_eq_of_cover 4 (total m c) (fun t _ => flushed_eq m c t) cover

/-- And the reference's is the same array. -/
theorem reference_eq (c : Dev nD) : Cert.Reference9Ideal.Dense.term (m ((c : Thread nD τ).loc main_arg0)) (m ((c : Thread nD τ).loc main_arg1)) (m ((c : Thread nD τ).loc main_arg2)) (m ((c : Thread nD τ).loc main_arg3)) = total m c := by
  funext i
  obtain ⟨r, j, rfl⟩ : ∃ (r : Fin 34816) (j : Fin 1024), i = ix2 r j := ⟨_, _, eq_ix2 (n0 := 34816) (n1 := 1024) i⟩
  exact Cert.Reference9Ideal.Dense.term_entry _ _ _ _ r j

end Cert.Kernel9Ideal.Dense
end
-- ==== Proof.Dense.Short.lean ====
module

public import proofs.«01_k».proof.Proof.Gen.Kernel10Ideal.Value
public import proofs.«01_k».proof.Proof.Gen.Reference10Ideal.Run
public import proofs.«01_k».proof.Proof.Dense.Modulated
public import Idealize.ShloMosaic.Lib.KernelVsHost

@[expose] public section

set_option maxRecDepth 16384

noncomputable section

namespace Cert.Dense

open Idealize.ShloMosaic

/-- A sequence's entry one place back, zero before its first; and one place on, zero after its last. -/
def back (f : Fin 4096 → EReal) (l : Fin 4096) : EReal := if l.val = 0 then 0 else f ⟨l.val - 1, by omega⟩
def ahead (f : Fin 4096 → EReal) (l : Fin 4096) : EReal := if h : l.val = 4095 then 0 else f ⟨l.val + 1, by omega⟩

/-- The convolution of three taps over a sequence, with its bias. -/
def taps (f : Fin 4096 → EReal) (w : Fin 3 → EReal) (b : EReal) (l : Fin 4096) : EReal := back f l * w 0 + f l * w 1 + ahead f l * w 2 + b

end Cert.Dense

namespace Cert.Reference10Ideal.Dense

open Idealize.ShloMosaic Idealize.ShloMosaic.TcCoe Cert.Reference10Ideal.Gen Cert.Dense
open Cert.Reference2Ideal.Dense (latCut_at)

/-- The latent tokens' sequences, and the same with a zero row at either end. -/
def seqs (z : FVec Ideal S34816x3072 .f32) : FVec Ideal S8x4096x3072 .f32 :=
  shapeCast _ (extractStridedSlice S32768x3072 ![0, 0] z slices_S34816x3072_S32768x3072_0_0) shapeCasts_S32768x3072_S8x4096x3072
def padded (z : FVec Ideal S34816x3072 .f32) : FVec Ideal S8x4098x3072 .f32 :=
  pad S8x4098x3072 ![0, 1, 0] ![0, 1, 0] ![0, 0, 0] (seqs z) (sitofp (F := Ideal) .f32 (constantI S_ 32 0#32)) pads_S8x4096x3072_S8x4098x3072_000_110_000 h_S_

/-- The padded rows from the first, the second and the third on. -/
def shift0 (z : FVec Ideal S34816x3072 .f32) : FVec Ideal S8x4096x3072 .f32 := extractStridedSlice S8x4096x3072 ![0, 0, 0] (padded z) slices_S8x4098x3072_S8x4096x3072_0_0_0
def shift1 (z : FVec Ideal S34816x3072 .f32) : FVec Ideal S8x4096x3072 .f32 := extractStridedSlice S8x4096x3072 ![0, 1, 0] (padded z) slices_S8x4098x3072_S8x4096x3072_0_1_0
def shift2 (z : FVec Ideal S34816x3072 .f32) : FVec Ideal S8x4096x3072 .f32 := extractStridedSlice S8x4096x3072 ![0, 2, 0] (padded z) slices_S8x4098x3072_S8x4096x3072_0_2_0

/-- A padded row that is not an end is the row before it of the sequence. -/
theorem padded_in (z : FVec Ideal S34816x3072 .f32) (i : S8x4098x3072.Idx) (q : Fin 8) (l : Fin 4096) (j : Fin 3072) (h0 : (i 0).val = q.val) (h1 : (i 1).val = l.val + 1) (h2 : (i 2).val = j.val) :
    padded z i = seqs z (ix3 q l j) :=
  pad_apply_of_inside _ _ _ _ _ _ _ _ (ix3 q l j) fun a => by
    match a with
    | ⟨0, _⟩ => show (i 0).val = 0 + q.val * (0 + 1); omega
    | ⟨1, _⟩ => show (i 1).val = 1 + l.val * (0 + 1); omega
    | ⟨2, _⟩ => show (i 2).val = 0 + j.val * (0 + 1); omega

/-- The end rows are zero. -/
theorem padded_out (z : FVec Ideal S34816x3072 .f32) (i : S8x4098x3072.Idx) (h : (i 1).val = 0 ∨ (i 1).val = 4097) : padded z i = 0 := by
  refine (pad_apply_of_not_inside _ _ _ _ _ _ _ _ (1 : Fin 3) ?_).trans ?_
  · show ¬(1 ≤ (i 1).val ∧ ((i 1).val - 1) % (0 + 1) = 0 ∧ ((i 1).val - 1) / (0 + 1) < 4096)
    omega
  · show (((0#32 : BitVec 32).toInt : ℝ) : EReal) = 0
    simp

/-- The first shift reads one row back, the second the row itself, the third one row ahead. -/
theorem shift0_at (z : FVec Ideal S34816x3072 .f32) (q : Fin 8) (l : Fin 4096) (j : Fin 3072) : shift0 z (ix3 q l j) = back (fun k => seqs z (ix3 q k j)) l := by
  refine (extractStridedSlice_apply ![0, 0, 0] (padded z) _ (ix3 q l j) (ix3 q (⟨0 + l.val, by omega⟩ : Fin 4098) j) fun a => ?_).trans ?_
  · match a with
    | ⟨0, _⟩ => exact (Nat.zero_add _).symm
    | ⟨1, _⟩ => rfl
    | ⟨2, _⟩ => exact (Nat.zero_add _).symm
  unfold back
  split
  · exact padded_out z _ (Or.inl (by show 0 + l.val = 0; omega))
  · exact padded_in z _ q _ j rfl (by show 0 + l.val = l.val - 1 + 1; omega) rfl
theorem shift1_at (z : FVec Ideal S34816x3072 .f32) (q : Fin 8) (l : Fin 4096) (j : Fin 3072) : shift1 z (ix3 q l j) = seqs z (ix3 q l j) := by
  refine (extractStridedSlice_apply ![0, 1, 0] (padded z) _ (ix3 q l j) (ix3 q (⟨1 + l.val, by omega⟩ : Fin 4098) j) fun a => ?_).trans ?_
  · match a with
    | ⟨0, _⟩ => exact (Nat.zero_add _).symm
    | ⟨1, _⟩ => rfl
    | ⟨2, _⟩ => exact (Nat.zero_add _).symm
  exact padded_in z _ q l j rfl (Nat.add_comm _ _) rfl
theorem shift2_at (z : FVec Ideal S34816x3072 .f32) (q : Fin 8) (l : Fin 4096) (j : Fin 3072) : shift2 z (ix3 q l j) = ahead (fun k => seqs z (ix3 q k j)) l := by
  refine (extractStridedSlice_apply ![0, 2, 0] (padded z) _ (ix3 q l j) (ix3 q (⟨2 + l.val, by omega⟩ : Fin 4098) j) fun a => ?_).trans ?_
  · match a with
    | ⟨0, _⟩ => exact (Nat.zero_add _).symm
    | ⟨1, _⟩ => rfl
    | ⟨2, _⟩ => exact (Nat.zero_add _).symm
  unfold ahead
  split
  · exact padded_out z _ (Or.inr (by show 2 + l.val = 4097; omega))
  · exact padded_in z _ q _ j rfl (by show 2 + l.val = l.val + 1 + 1; omega) rfl

/-- The convolved sequences. -/
def conv (z : FVec Ideal S34816x3072 .f32) (w : FVec Ideal S3x3072 .f32) (b : FVec Ideal S3072 .f32) : FVec Ideal S8x4096x3072 .f32 :=
  addf (addf (addf (addf (broadcastInDim S8x4096x3072 ![] bcast_S_S8x4096x3072 (constant S_ .f32 0x00000000#32))
    (mulf (shift0 z) (broadcastInDim S8x4096x3072 ![0, 1, 2] bcast_S1x1x3072_S8x4096x3072_0_1_2 (broadcastInDim S1x1x3072 ![2] bcast_S3072_S1x1x3072_2 (shapeCast _ (extractStridedSlice S1x3072 ![0, 0] w slices_S3x3072_S1x3072_0_0) shapeCasts_S1x3072_S3072)))))
    (mulf (shift1 z) (broadcastInDim S8x4096x3072 ![0, 1, 2] bcast_S1x1x3072_S8x4096x3072_0_1_2 (broadcastInDim S1x1x3072 ![2] bcast_S3072_S1x1x3072_2 (shapeCast _ (extractStridedSlice S1x3072 ![1, 0] w slices_S3x3072_S1x3072_1_0) shapeCasts_S1x3072_S3072)))))
    (mulf (shift2 z) (broadcastInDim S8x4096x3072 ![0, 1, 2] bcast_S1x1x3072_S8x4096x3072_0_1_2 (broadcastInDim S1x1x3072 ![2] bcast_S3072_S1x1x3072_2 (shapeCast _ (extractStridedSlice S1x3072 ![2, 0] w slices_S3x3072_S1x3072_2_0) shapeCasts_S1x3072_S3072)))))
    (broadcastInDim S8x4096x3072 ![0, 1, 2] bcast_S1x1x3072_S8x4096x3072_0_1_2 (broadcastInDim S1x1x3072 ![2] bcast_S3072_S1x1x3072_2 b))

/-- An entry of the convolved sequences, from the tokens' rows. -/
def short (z : FVec Ideal S34816x3072 .f32) (w : FVec Ideal S3x3072 .f32) (b : FVec Ideal S3072 .f32) (q : Fin 8) (l : Fin 4096) (j : Fin 3072) : EReal :=
  taps (fun k => z (ix2 (⟨q.val * 4096 + k.val, by omega⟩ : Fin 34816) j)) (fun k => w (ix2 k j)) (b (ix1 j)) l

/-- An entry of the convolved sequences is the three taps over its sequence. -/
theorem conv_entry (z : FVec Ideal S34816x3072 .f32) (w : FVec Ideal S3x3072 .f32) (b : FVec Ideal S3072 .f32) (q : Fin 8) (l : Fin 4096) (j : Fin 3072) : conv z w b (ix3 q l j) = short z w b q l j := by
  refine Eq.trans (b := 0 + shift0 z (ix3 q l j) * w (ix2 0 j) + shift1 z (ix3 q l j) * w (ix2 1 j) + shift2 z (ix3 q l j) * w (ix2 2 j) + b (ix1 j)) ?_ ?_
  · pointwise [conv]
  · rw [shift0_at, shift1_at, shift2_at, zero_add, short, ← funext fun k => latCut_at (n := 3072) z slices_S34816x3072_S32768x3072_0_0 shapeCasts_S32768x3072_S8x4096x3072 q k j (⟨q.val * 4096 + k.val, by omega⟩ : Fin 34816) rfl]
    rfl

/-- The three thirds of the columns. -/
abbrev third (o : Fin 3) (j : Fin 1024) : Fin 3072 := ⟨o.val * 1024 + j.val, by omega⟩

/-- The reference's two terms: the third third times the second, and the first. -/
def prod (z : FVec Ideal S34816x3072 .f32) (w : FVec Ideal S3x3072 .f32) (b : FVec Ideal S3072 .f32) : FVec Ideal S32768x1024 .f32 :=
  shapeCast _ (mulf (extractStridedSlice S8x4096x1024 ![0, 0, 2048] (conv z w b) slices_S8x4096x3072_S8x4096x1024_0_0_2048) (extractStridedSlice S8x4096x1024 ![0, 0, 1024] (conv z w b) slices_S8x4096x3072_S8x4096x1024_0_0_1024)) shapeCasts_S8x4096x1024_S32768x1024
def first (z : FVec Ideal S34816x3072 .f32) (w : FVec Ideal S3x3072 .f32) (b : FVec Ideal S3072 .f32) : FVec Ideal S32768x1024 .f32 :=
  shapeCast _ (extractStridedSlice S8x4096x1024 ![0, 0, 0] (conv z w b) slices_S8x4096x3072_S8x4096x1024_0_0_0) shapeCasts_S8x4096x1024_S32768x1024

/-- A row's entry is its sequence's, at its place. -/
theorem flat_at (x : FVec Ideal S8x4096x1024 .f32) (q : Fin 8) (l : Fin 4096) (j : Fin 1024) (r : Fin 32768) (hr : r.val = q.val * 4096 + l.val) : shapeCast S32768x1024 x shapeCasts_S8x4096x1024_S32768x1024 (ix2 r j) = x (ix3 q l j) :=
  shapeCast_apply _ _ _ _ (by rw [Shape.rowMajor_val_three, Shape.rowMajor_val_two]; show (q.val * 4096 + l.val) * 1024 + j.val = r.val * 1024 + j.val; rw [hr])

/-- A third of the columns cut out. -/
theorem cut_at (x : FVec Ideal S8x4096x3072 .f32) (o : Fin 3) (h : S8x4096x3072.Slices ![0, 0, o.val * 1024] S8x4096x1024) (q : Fin 8) (l : Fin 4096) (j : Fin 1024) : extractStridedSlice S8x4096x1024 ![0, 0, o.val * 1024] x h (ix3 q l j) = x (ix3 q l (third o j)) := by
  refine congrArg x (funext fun a => Fin.ext ?_)
  match a with
  | ⟨0, _⟩ => show 0 + q.val = q.val; omega
  | ⟨1, _⟩ => show 0 + l.val = l.val; omega
  | ⟨2, _⟩ => rfl

/-- An entry of the product, and of the first third. -/
theorem prod_entry (z : FVec Ideal S34816x3072 .f32) (w : FVec Ideal S3x3072 .f32) (b : FVec Ideal S3072 .f32) (q : Fin 8) (l : Fin 4096) (j : Fin 1024) (r : Fin 32768) (hr : r.val = q.val * 4096 + l.val) :
    prod z w b (ix2 r j) = short z w b q l (third 2 j) * short z w b q l (third 1 j) :=
  (flat_at _ q l j r hr).trans (congrArg₂ (· * ·) ((cut_at _ 2 _ q l j).trans (conv_entry z w b q l _)) ((cut_at _ 1 _ q l j).trans (conv_entry z w b q l _)))
theorem first_entry (z : FVec Ideal S34816x3072 .f32) (w : FVec Ideal S3x3072 .f32) (b : FVec Ideal S3072 .f32) (q : Fin 8) (l : Fin 4096) (j : Fin 1024) (r : Fin 32768) (hr : r.val = q.val * 4096 + l.val) :
    first z w b (ix2 r j) = short z w b q l (third 0 j) :=
  (flat_at _ q l j r hr).trans ((cut_at _ 0 _ q l j).trans (conv_entry z w b q l _))

end Cert.Reference10Ideal.Dense

namespace Cert.Kernel10Ideal.Dense

open Idealize.ShloMosaic Idealize.ShloMosaic.TcCoe Cert.Kernel10Ideal.Gen Cert.Dense
open Cert.Reference10Ideal.Dense (short third)

variable (m : (ℓ : Loc nD τ sig) → Buf (Elt Ideal) ℓ)

/-- The rows' numbers, and where a number is the one given. -/
def rowNo : IVec S4096x1 32 := iota .tc S4096x1 32 [0] iota_S4096x1_d0_w32
def isRow (n : BitVec 32) : IVec S4096x128 1 := broadcastTo S4096x128 (shapeCast S4096x1 (cmpi .eq rowNo (broadcast S4096x1 n)) shapeCasts_S4096x1_S4096x1) broadcasts_S4096x1_S4096x128

/-- The block rotated, with the row that came round put to zero. -/
def turned (s n : BitVec 32) (z : Vec Ideal S4096x128 .f32) : FVec Ideal S4096x128 .f32 :=
  select (isRow n) (broadcast S4096x128 (Scalar.ofBits (F := Ideal) .f32 0x00000000#32)) (dynamicRotate 0 s none z rotates_S4096x128_d0)

/-- The mask is set exactly at the row given. -/
theorem isRow_at (n : BitVec 32) (p : Fin 4096) (k : Fin 128) : isRow n (ix2 p k) = if p.val = n.toNat then 1#1 else 0#1 := by
  have h : isRow n (ix2 p k) = if BitVec.ofNat 32 p.val = n then 1#1 else 0#1 := by
    refine Eq.trans (b := IntOp.cmpi .eq (BitVec.ofNat 32 p.val) n) ?_ ?_
    · pointwise [isRow, rowNo]
    · by_cases e : BitVec.ofNat 32 p.val = n
      · rw [if_pos e, e]; simp [IntOp.cmpi]
      · rw [if_neg e]
        show BitVec.ofBool (BitVec.ofNat 32 p.val == n) = 0#1
        rw [beq_eq_false_iff_ne.mpr e]; rfl
  rw [h]
  have hp := p.isLt
  refine if_congr ⟨fun e => ?_, fun e => ?_⟩ rfl rfl
  · rw [← e, BitVec.toNat_ofNat]; omega
  · rw [e, BitVec.ofNat_toNat, BitVec.setWidth_eq]

/-- An entry of the rotated block: zero in the row that came round, else the row that the rotation brings. -/
theorem turned_at (s n : BitVec 32) (z : Vec Ideal S4096x128 .f32) (p : Fin 4096) (k : Fin 128) (p' : Fin 4096) (h : p'.val = (p.val + 4096 - s.toNat % 4096) % 4096) :
    turned s n z (ix2 p k) = if p.val = n.toNat then 0 else z (ix2 p' k) := by
  have hr : dynamicRotate 0 s none z rotates_S4096x128_d0 (ix2 p k) = z (ix2 p' k) := dynamicRotate_apply (0 : Fin 2) s z _ _ _ fun b => by
    match b with
    | ⟨0, _⟩ => exact h
    | ⟨1, _⟩ => rfl
  refine Eq.trans (b := Scalar.select (isRow n (ix2 p k)) 0 (dynamicRotate 0 s none z rotates_S4096x128_d0 (ix2 p k))) ?_ ?_
  · pointwise [turned]
  · rw [isRow_at, hr]
    by_cases e : p.val = n.toNat <;> simp [e, Scalar.select]

/-- A rotation by one is the row before. -/
theorem turned_back (z : Vec Ideal S4096x128 .f32) (p : Fin 4096) (k : Fin 128) : turned 1#32 0#32 z (ix2 p k) = back (fun l => z (ix2 l k)) p := by
  have hp := p.isLt
  by_cases e : p.val = 0
  · rw [turned_at 1#32 0#32 z p k ⟨4095, by omega⟩ (by show 4095 = (p.val + 4096 - 1) % 4096; omega)]
    exact (if_pos e).trans (if_pos e).symm
  · rw [turned_at 1#32 0#32 z p k ⟨p.val - 1, by omega⟩ (by show p.val - 1 = (p.val + 4096 - 1) % 4096; omega)]
    exact (if_neg e).trans (if_neg e).symm

/-- A rotation by one less than the length is the row after. -/
theorem turned_ahead (z : Vec Ideal S4096x128 .f32) (p : Fin 4096) (k : Fin 128) : turned 4095#32 4095#32 z (ix2 p k) = ahead (fun l => z (ix2 l k)) p := by
  have hp := p.isLt
  by_cases e : p.val = 4095
  · rw [turned_at 4095#32 4095#32 z p k ⟨0, by omega⟩ (by show 0 = (p.val + 4096 - 4095) % 4096; omega)]
    refine (if_pos e).trans ?_
    unfold ahead; rw [dif_pos e]
  · rw [turned_at 4095#32 4095#32 z p k ⟨p.val + 1, by omega⟩ (by show p.val + 1 = (p.val + 4096 - 4095) % 4096; omega)]
    refine (if_neg e).trans ?_
    unfold ahead; rw [dif_neg e]

/-- The body's convolution of a block. -/
def blkConv (z : Vec Ideal S4096x128 .f32) (w : Vec Ideal S3x128 .f32) (b : Vec Ideal S1x128 .f32) : FVec Ideal S4096x128 .f32 :=
  addf (addf (addf (mulf (turned 1#32 0#32 z) (broadcastTo S4096x128 (extractStridedSlice S1x128 ![0, 0] w slices_S3x128_o0_0_S1x128) broadcasts_S1x128_S4096x128))
    (mulf z (broadcastTo S4096x128 (extractStridedSlice S1x128 ![1, 0] w slices_S3x128_o1_0_S1x128) broadcasts_S1x128_S4096x128)))
    (mulf (turned 4095#32 4095#32 z) (broadcastTo S4096x128 (extractStridedSlice S1x128 ![2, 0] w slices_S3x128_o2_0_S1x128) broadcasts_S1x128_S4096x128)))
    (broadcastTo S4096x128 (shapeCast S1x128 b shapeCasts_S1x128_S1x128) broadcasts_S1x128_S4096x128)

/-- An entry of the body's convolution is the three taps over the block's column. -/
theorem blkConv_entry (z : Vec Ideal S4096x128 .f32) (w : Vec Ideal S3x128 .f32) (b : Vec Ideal S1x128 .f32) (p : Fin 4096) (k : Fin 128) :
    blkConv z w b (ix2 p k) = taps (fun l => z (ix2 l k)) (fun i => w (ix2 i k)) (b (ix2 0 k)) p := by
  refine Eq.trans (b := turned 1#32 0#32 z (ix2 p k) * w (ix2 0 k) + z (ix2 p k) * w (ix2 1 k) + turned 4095#32 4095#32 z (ix2 p k) * w (ix2 2 k) + b (ix2 0 k)) ?_ ?_
  · pointwise [blkConv]
  · rw [turned_back, turned_ahead]; rfl

/-- The entry with the operands' entries named. -/
theorem blkConv_at (z : Vec Ideal S4096x128 .f32) (w : Vec Ideal S3x128 .f32) (b : Vec Ideal S1x128 .f32) (p : Fin 4096) (k : Fin 128) (Z : Fin 4096 → EReal) (W : Fin 3 → EReal) (B : EReal)
    (hz : ∀ l, z (ix2 l k) = Z l) (hw : ∀ i, w (ix2 i k) = W i) (hb : b (ix2 0 k) = B) : blkConv z w b (ix2 p k) = taps Z W B p := by
  obtain rfl := funext hz; obtain rfl := funext hw; subst hb
  exact blkConv_entry z w b p k

/-- What the body stores, in these terms. -/
theorem pay_first (z : Vec Ideal S4096x128 .f32) (w : Vec Ideal S3x128 .f32) (b : Vec Ideal S1x128 .f32) : k0_pay2 z w b = blkConv z w b := rfl
theorem pay_prod (z y : Vec Ideal S4096x128 .f32) (w v : Vec Ideal S3x128 .f32) (b d : Vec Ideal S1x128 .f32) :
    k0_pay1 (k0_pay5 rowNo z (k0_pay3 z) (Scalar.ofBits (F := Ideal) .f32 0x00000000#32) k0_pay4 w b) y (k0_pay6 rowNo y) (k0_pay7 rowNo y) v (k0_pay8 v) d = mulf (blkConv z w b) (blkConv y v d) := rfl

section Outs

variable (c : Dev nD) (i : grid0.Coords) (a0 : Memref sig .tc .vmem S4096x128 .f32) (h0 : a0.IsWhole) (a1 : Memref sig .tc .vmem S4096x128 .f32) (h1 : a1.IsWhole) (a2 : Memref sig .tc .vmem S4096x128 .f32) (h2 : a2.IsWhole)
  (a3 : Memref sig .tc .vmem S3x128 .f32) (h3 : a3.IsWhole) (a4 : Memref sig .tc .vmem S3x128 .f32) (h4 : a4.IsWhole) (a5 : Memref sig .tc .vmem S3x128 .f32) (h5 : a5.IsWhole)
  (a6 : Memref sig .tc .vmem S1x128 .f32) (h6 : a6.IsWhole) (a7 : Memref sig .tc .vmem S1x128 .f32) (h7 : a7.IsWhole) (a8 : Memref sig .tc .vmem S1x128 .f32) (h8 : a8.IsWhole)
  (a9 : Memref sig .tc .vmem S4096x128 .f32) (h9 : a9.IsWhole) (a10 : Memref sig .tc .vmem S4096x128 .f32) (h10 : a10.IsWhole)
  (x0 x1 x2 : Vec Ideal S4096x128 .f32) (x3 x4 x5 : Vec Ideal S3x128 .f32) (x6 x7 x8 : Vec Ideal S1x128 .f32)

/-- The first result's block as the body leaves it. -/
theorem out_prod : out0_A_9 c i a0 h0 a1 h1 a2 h2 a3 h3 a4 h4 a5 h5 a6 h6 a7 h7 a8 h8 a9 h9 a10 h10 x0 x1 x2 x3 x4 x5 x6 x7 x8 = mulf (blkConv x2 x5 x8) (blkConv x1 x4 x7) := by
  unfold out0_A_9
  rw [View.read_writes_eq_canon _ _ _ (cover0_A_9 c i a0 h0 a1 h1 a2 h2 a3 h3 a4 h4 a5 h5 a6 h6 a7 h7 a8 h8 a9 h9 a10 h10 x0 x1 x2 x3 x4 x5 x6 x7 x8)]
  unfold kernelRun0_A
  dsimp only
  sl_unfold_words
  rw [View.canon_cons_unit_lit _ _ _ (by decide)]
  simp only [View.readAt_eq_ld, h0.read_unread, h1.read_unread, h2.read_unread, h3.read_unread, h4.read_unread, h5.read_unread, h6.read_unread, h7.read_unread, h8.read_unread]
  rw [View.ld_unit_lit _ x2 (by decide), View.ld_unit_lit _ x1 (by decide), View.ld_unit_lit _ x5 (by decide), View.ld_unit_lit _ x4 (by decide), View.ld_unit_lit _ x8 (by decide), View.ld_unit_lit _ x7 (by decide)]
  exact pay_prod x2 x1 x5 x4 x8 x7

/-- And the second result's. -/
theorem out_first : out0_A_10 c i a0 h0 a1 h1 a2 h2 a3 h3 a4 h4 a5 h5 a6 h6 a7 h7 a8 h8 a9 h9 a10 h10 x0 x1 x2 x3 x4 x5 x6 x7 x8 = blkConv x0 x3 x6 := by
  unfold out0_A_10
  rw [View.read_writes_eq_canon _ _ _ (cover0_A_10 c i a0 h0 a1 h1 a2 h2 a3 h3 a4 h4 a5 h5 a6 h6 a7 h7 a8 h8 a9 h9 a10 h10 x0 x1 x2 x3 x4 x5 x6 x7 x8)]
  unfold kernelRun0_A
  dsimp only
  sl_unfold_words
  rw [View.canon_cons_unit_lit _ _ _ (by decide)]
  simp only [View.readAt_eq_ld, h0.read_unread, h1.read_unread, h2.read_unread, h3.read_unread, h4.read_unread, h5.read_unread, h6.read_unread, h7.read_unread, h8.read_unread]
  rw [View.ld_unit_lit _ x0 (by decide), View.ld_unit_lit _ x3 (by decide), View.ld_unit_lit _ x6 (by decide)]
  exact pay_first x0 x3 x6

end Outs

/-- The index maps at a point: the sequence, and a piece of each third of the columns. -/
theorem maps : ∀ t : Fin grid0.N,
    (cc0_transform_0 (grid0.coords t) = ![t.val / 8, t.val % 8] ∧ cc0_transform_1 (grid0.coords t) = ![t.val / 8, 8 + t.val % 8] ∧ cc0_transform_2 (grid0.coords t) = ![t.val / 8, 16 + t.val % 8])
    ∧ (cc0_transform_3 (grid0.coords t) = ![0, t.val % 8] ∧ cc0_transform_4 (grid0.coords t) = ![0, 8 + t.val % 8] ∧ cc0_transform_5 (grid0.coords t) = ![0, 16 + t.val % 8])
    ∧ (cc0_transform_6 (grid0.coords t) = ![0, t.val % 8] ∧ cc0_transform_7 (grid0.coords t) = ![0, 8 + t.val % 8] ∧ cc0_transform_8 (grid0.coords t) = ![0, 16 + t.val % 8])
    ∧ cc0_transform_9 (grid0.coords t) = ![t.val / 8, t.val % 8] ∧ cc0_transform_10 (grid0.coords t) = ![t.val / 8, t.val % 8] := by
  decide +kernel

/-- The bias's row as the call finds it. -/
theorem V_bias (c : Dev nD) : V m c main_v0 = shapeCast S1x3072 (m ((c : Thread nD τ).loc main_arg2)) shapeCasts_S3072_S1x3072 := by
  unfold V hostOps0; after_results; rfl

/-- An entry of the tokens, of the weights and of the bias's row, by the coordinates of its index. -/
theorem token_of (c : Dev nD) (i : S34816x3072.Idx) (r : Fin 34816) (j : Fin 3072) (f : Fin 2 → Nat) (p k : Nat) (e0 : (i 0).val = f 0 * 4096 + 1 * p) (e1 : (i 1).val = f 1 * 128 + 1 * k) (a b : Nat) (hf : f = ![a, b])
    (hr : r.val = a * 4096 + p) (hj : j.val = b * 128 + k) : V m c main_arg0 i = m ((c : Thread nD τ).loc main_arg0) (ix2 r j) := by
  subst hf
  rw [V_main_arg0]
  refine congrArg _ (funext fun x => Fin.ext ?_)
  match x with
  | ⟨0, _⟩ => exact e0.trans (by rw [Nat.one_mul]; exact hr.symm)
  | ⟨1, _⟩ => exact e1.trans (by rw [Nat.one_mul]; exact hj.symm)
theorem weight_of (c : Dev nD) (i : S3x3072.Idx) (r : Fin 3) (j : Fin 3072) (f : Fin 2 → Nat) (k : Nat) (e0 : (i 0).val = f 0 * 3 + 1 * r.val) (e1 : (i 1).val = f 1 * 128 + 1 * k) (b : Nat) (hf : f = ![0, b])
    (hj : j.val = b * 128 + k) : V m c main_arg1 i = m ((c : Thread nD τ).loc main_arg1) (ix2 r j) := by
  subst hf
  rw [V_main_arg1]
  refine congrArg _ (funext fun x => Fin.ext ?_)
  match x with
  | ⟨0, _⟩ => exact e0.trans (by show 0 * 3 + 1 * r.val = r.val; omega)
  | ⟨1, _⟩ => exact e1.trans (by rw [Nat.one_mul]; exact hj.symm)
theorem bias_of (c : Dev nD) (i : S1x3072.Idx) (j : Fin 3072) (f : Fin 2 → Nat) (k : Nat) (e1 : (i 1).val = f 1 * 128 + 1 * k) (b : Nat) (hf : f = ![0, b])
    (hj : j.val = b * 128 + k) : V m c main_v0 i = m ((c : Thread nD τ).loc main_arg2) (ix1 j) := by
  subst hf
  rw [V_bias]
  refine Eq.trans (congrArg _ (funext fun x => Fin.ext ?_)) (row_at _ _ j)
  match x with
  | ⟨0, _⟩ => exact Nat.lt_one_iff.mp (i 0).isLt
  | ⟨1, _⟩ => exact e1.trans (by rw [Nat.one_mul]; exact hj.symm)

/-- The three blocks of tokens as the body finds them, whole. -/
theorem fill0_at (c : Dev nD) (t : Fin cfg0.N) (p : Fin 4096) (k : Fin 128) (r : Fin 34816) (j : Fin 3072) (hr : r.val = t.val / 8 * 4096 + p.val) (hj : j.val = t.val % 8 * 128 + k.val) : X0_0 m c t (ix2 p k) = m ((c : Thread nD τ).loc main_arg0) (ix2 r j) := by
  unfold X0_0 Pipeline.Window.fill
  rw [dif_pos (moved0_0 t _)]
  exact token_of m c _ r j _ p.val k.val rfl rfl _ _ (maps t).1.1 hr hj
theorem fill1_at (c : Dev nD) (t : Fin cfg0.N) (p : Fin 4096) (k : Fin 128) (r : Fin 34816) (j : Fin 3072) (hr : r.val = t.val / 8 * 4096 + p.val) (hj : j.val = (8 + t.val % 8) * 128 + k.val) : X0_1 m c t (ix2 p k) = m ((c : Thread nD τ).loc main_arg0) (ix2 r j) := by
  unfold X0_1 Pipeline.Window.fill
  rw [dif_pos (moved0_1 t _)]
  exact token_of m c _ r j _ p.val k.val rfl rfl _ _ (maps t).1.2.1 hr hj
theorem fill2_at (c : Dev nD) (t : Fin cfg0.N) (p : Fin 4096) (k : Fin 128) (r : Fin 34816) (j : Fin 3072) (hr : r.val = t.val / 8 * 4096 + p.val) (hj : j.val = (16 + t.val % 8) * 128 + k.val) : X0_2 m c t (ix2 p k) = m ((c : Thread nD τ).loc main_arg0) (ix2 r j) := by
  unfold X0_2 Pipeline.Window.fill
  rw [dif_pos (moved0_2 t _)]
  exact token_of m c _ r j _ p.val k.val rfl rfl _ _ (maps t).1.2.2 hr hj

/-- The convolution at an entry of the result: its sequence, its place in it and its column in the third `o`. -/
abbrev at_ (c : Dev nD) (o : Fin 3) (r : Fin 32768) (j : Fin 1024) : EReal :=
  short (m ((c : Thread nD τ).loc main_arg0)) (m ((c : Thread nD τ).loc main_arg1)) (m ((c : Thread nD τ).loc main_arg2)) (⟨r.val / 4096, by omega⟩ : Fin 8) (⟨r.val % 4096, by omega⟩ : Fin 4096) (third o j)

/-- The result arrays. -/
def totalProd (c : Dev nD) : FVec Ideal S32768x1024 .f32 := fun i => at_ m c 2 (i 0 : Fin 32768) (i 1 : Fin 1024) * at_ m c 1 (i 0 : Fin 32768) (i 1 : Fin 1024)
def totalFirst (c : Dev nD) : FVec Ideal S32768x1024 .f32 := fun i => at_ m c 0 (i 0 : Fin 32768) (i 1 : Fin 1024)

/-- The convolution of a point's blocks of a third is the convolution at the entries of its block of the result. -/
theorem conv0_at (c : Dev nD) (t : Fin cfg0.N) (p : Fin 4096) (k : Fin 128) (r : Fin 32768) (j : Fin 1024) (hr : r.val = t.val / 8 * 4096 + p.val) (hj : j.val = t.val % 8 * 128 + k.val) :
    blkConv (X0_0 m c t) (iblk m c 3 t) (iblk m c 6 t) (ix2 p k) = at_ m c 0 r j := by
  have hp : (⟨r.val % 4096, by omega⟩ : Fin 4096) = p := Fin.ext (by show r.val % 4096 = p.val; omega)
  unfold at_
  rw [hp]
  exact blkConv_at _ _ _ _ k _ _ _ (fun l => fill0_at m c t l k _ (third 0 j) (by show r.val / 4096 * 4096 + l.val = _; omega) (by show 0 * 1024 + j.val = _; omega))
    (fun i => weight_of m c _ i (third 0 j) _ k.val rfl rfl _ (maps t).2.1.1 (by show 0 * 1024 + j.val = _; omega)) (bias_of m c _ (third 0 j) _ k.val rfl _ (maps t).2.2.1.1 (by show 0 * 1024 + j.val = _; omega))
theorem conv1_at (c : Dev nD) (t : Fin cfg0.N) (p : Fin 4096) (k : Fin 128) (r : Fin 32768) (j : Fin 1024) (hr : r.val = t.val / 8 * 4096 + p.val) (hj : j.val = t.val % 8 * 128 + k.val) :
    blkConv (X0_1 m c t) (iblk m c 4 t) (iblk m c 7 t) (ix2 p k) = at_ m c 1 r j := by
  have hp : (⟨r.val % 4096, by omega⟩ : Fin 4096) = p := Fin.ext (by show r.val % 4096 = p.val; omega)
  unfold at_
  rw [hp]
  exact blkConv_at _ _ _ _ k _ _ _ (fun l => fill1_at m c t l k _ (third 1 j) (by show r.val / 4096 * 4096 + l.val = _; omega) (by show 1 * 1024 + j.val = _; omega))
    (fun i => weight_of m c _ i (third 1 j) _ k.val rfl rfl _ (maps t).2.1.2.1 (by show 1 * 1024 + j.val = _; omega)) (bias_of m c _ (third 1 j) _ k.val rfl _ (maps t).2.2.1.2.1 (by show 1 * 1024 + j.val = _; omega))
theorem conv2_at (c : Dev nD) (t : Fin cfg0.N) (p : Fin 4096) (k : Fin 128) (r : Fin 32768) (j : Fin 1024) (hr : r.val = t.val / 8 * 4096 + p.val) (hj : j.val = t.val % 8 * 128 + k.val) :
    blkConv (X0_2 m c t) (iblk m c 5 t) (iblk m c 8 t) (ix2 p k) = at_ m c 2 r j := by
  have hp : (⟨r.val % 4096, by omega⟩ : Fin 4096) = p := Fin.ext (by show r.val % 4096 = p.val; omega)
  unfold at_
  rw [hp]
  exact blkConv_at _ _ _ _ k _ _ _ (fun l => fill2_at m c t l k _ (third 2 j) (by show r.val / 4096 * 4096 + l.val = _; omega) (by show 2 * 1024 + j.val = _; omega))
    (fun i => weight_of m c _ i (third 2 j) _ k.val rfl rfl _ (maps t).2.1.2.2 (by show 2 * 1024 + j.val = _; omega)) (bias_of m c _ (third 2 j) _ k.val rfl _ (maps t).2.2.1.2.2 (by show 2 * 1024 + j.val = _; omega))

/-- An index by its coordinates, each a block's start plus a place in the block. -/
theorem place (i : S32768x1024.Idx) (r : Fin 32768) (j : Fin 1024) (f : Fin 2 → Nat) (p k : Nat) (e0 : (i 0).val = f 0 * 4096 + 1 * p) (e1 : (i 1).val = f 1 * 128 + 1 * k) (a b : Nat) (hf : f = ![a, b])
    (hr : r.val = a * 4096 + p) (hj : j.val = b * 128 + k) : i = ix2 r j := by
  subst hf
  refine funext fun x => Fin.ext ?_
  match x with
  | ⟨0, _⟩ => exact e0.trans (by rw [Nat.one_mul]; exact hr.symm)
  | ⟨1, _⟩ => exact e1.trans (by rw [Nat.one_mul]; exact hj.symm)

/-- What a point writes back is its block of each result. -/
theorem flushed_prod (c : Dev nD) (t : Fin cfg0.N) : (dats m 0 c).flushed 9 t = ((cfg0.win 9).blk t).view.read (Elt Ideal) (totalProd m c) := by
  rw [Value.flushed9_A, out_prod]
  have hl := lt_of_lt_of_eq t.isLt N_0
  funext y
  obtain ⟨p, k, rfl⟩ : ∃ (p : Fin 4096) (k : Fin 128), y = ix2 p k := ⟨_, _, eq_ix2 (n0 := 4096) (n1 := 128) y⟩
  generalize hr : (⟨t.val / 8 * 4096 + p.val, by omega⟩ : Fin 32768) = r
  generalize hj : (⟨t.val % 8 * 128 + k.val, by omega⟩ : Fin 1024) = j
  have hr' : r.val = t.val / 8 * 4096 + p.val := by rw [← hr]
  have hj' : j.val = t.val % 8 * 128 + k.val := by rw [← hj]
  have hi : ((cfg0.win 9).blk t).view.emb (ix2 p k) = ix2 r j := place _ r j _ p.val k.val rfl rfl _ _ (maps t).2.2.2.1 hr' hj'
  show blkConv _ _ _ (ix2 p k) * blkConv _ _ _ (ix2 p k) = totalProd m c (((cfg0.win 9).blk t).view.emb (ix2 p k))
  rw [hi]
  exact congrArg₂ (fun a b : EReal => a * b) (conv2_at m c t p k r j hr' hj') (conv1_at m c t p k r j hr' hj')

theorem flushed_first (c : Dev nD) (t : Fin cfg0.N) : (dats m 0 c).flushed 10 t = ((cfg0.win 10).blk t).view.read (Elt Ideal) (totalFirst m c) := by
  rw [Value.flushed10_A, out_first]
  have hl := lt_of_lt_of_eq t.isLt N_0
  funext y
  obtain ⟨p, k, rfl⟩ : ∃ (p : Fin 4096) (k : Fin 128), y = ix2 p k := ⟨_, _, eq_ix2 (n0 := 4096) (n1 := 128) y⟩
  generalize hr : (⟨t.val / 8 * 4096 + p.val, by omega⟩ : Fin 32768) = r
  generalize hj : (⟨t.val % 8 * 128 + k.val, by omega⟩ : Fin 1024) = j
  have hr' : r.val = t.val / 8 * 4096 + p.val := by rw [← hr]
  have hj' : j.val = t.val % 8 * 128 + k.val := by rw [← hj]
  have hi : ((cfg0.win 10).blk t).view.emb (ix2 p k) = ix2 r j := place _ r j _ p.val k.val rfl rfl _ _ (maps t).2.2.2.2 hr' hj'
  show blkConv _ _ _ (ix2 p k) = totalFirst m c (((cfg0.win 10).blk t).view.emb (ix2 p k))
  rw [hi]
  exact conv0_at m c t p k r j hr' hj'

/-- The rectangle of a point's block holds the entries whose row and column lie in it. -/
theorem inside (f : Fin 2 → Nat) (a b : Nat) (hf : f = ![a, b]) (i : S32768x1024.Idx) (h0 : a * 4096 ≤ (i 0 : Nat) ∧ (i 0 : Nat) < a * 4096 + 4096) (h1 : b * 128 ≤ (i 1 : Nat) ∧ (i 1 : Nat) < b * 128 + 128) (x : Fin 2) :
    f x * S4096x128.size x ≤ (i x : Nat) ∧ (i x : Nat) < f x * S4096x128.size x + S4096x128.size x := by
  subst hf
  match x with
  | ⟨0, _⟩ => exact h0
  | ⟨1, _⟩ => exact h1

/-- Every entry lies in a point's block, of each result. -/
theorem cover_prod (i : S32768x1024.Idx) : ∃ t : Fin cfg0.N, (cfg0.win 9).flush t = true ∧ i ∈ ((cfg0.win 9).blk t).view.set := by
  have h0 : (i 0 : Nat) < 32768 := (i 0).isLt
  have h1 : (i 1 : Nat) < 1024 := (i 1).isLt
  refine ⟨⟨(i 0 : Nat) / 4096 * 8 + (i 1 : Nat) / 128, lt_of_lt_of_eq (by omega) N_0.symm⟩, flush0_9 _, ?_⟩
  generalize ht : (⟨(i 0 : Nat) / 4096 * 8 + (i 1 : Nat) / 128, _⟩ : Fin cfg0.N) = t
  have hv : t.val = (i 0 : Nat) / 4096 * 8 + (i 1 : Nat) / 128 := by rw [← ht]
  have hs : ((cfg0.win 9).blk t).view.set = ((cfg0.win 9).rect t).set := View.set_slice_whole _ _
  rw [hs]
  refine Rect.mem_set_unit.mpr ?_
  exact inside _ _ _ (maps t).2.2.2.1 i (by omega) (by omega)

theorem cover_first (i : S32768x1024.Idx) : ∃ t : Fin cfg0.N, (cfg0.win 10).flush t = true ∧ i ∈ ((cfg0.win 10).blk t).view.set := by
  have h0 : (i 0 : Nat) < 32768 := (i 0).isLt
  have h1 : (i 1 : Nat) < 1024 := (i 1).isLt
  refine ⟨⟨(i 0 : Nat) / 4096 * 8 + (i 1 : Nat) / 128, lt_of_lt_of_eq (by omega) N_0.symm⟩, flush0_10 _, ?_⟩
  generalize ht : (⟨(i 0 : Nat) / 4096 * 8 + (i 1 : Nat) / 128, _⟩ : Fin cfg0.N) = t
  have hv : t.val = (i 0 : Nat) / 4096 * 8 + (i 1 : Nat) / 128 := by rw [← ht]
  have hs : ((cfg0.win 10).blk t).view.set = ((cfg0.win 10).rect t).set := View.set_slice_whole _ _
  rw [hs]
  refine Rect.mem_set_unit.mpr ?_
  exact inside _ _ _ (maps t).2.2.2.2 i (by omega) (by omega)

/-- So the result arrays end as those. -/
theorem final_prod (c : Dev nD) : (dats m 0 c).arrAt 9 cfg0.N = totalProd m c :=
  (dats m 0 c).arrAt_eq_of_cover 9 (totalProd m c) (fun t _ => flushed_prod m c t) cover_prod
theorem final_first (c : Dev nD) : (dats m 0 c).arrAt 10 cfg0.N = totalFirst m c :=
  (dats m 0 c).arrAt_eq_of_cover 10 (totalFirst m c) (fun t _ => flushed_first m c t) cover_first

/-- And the reference's are the same arrays. -/
theorem reference_prod (c : Dev nD) : Cert.Reference10Ideal.Dense.prod (m ((c : Thread nD τ).loc main_arg0)) (m ((c : Thread nD τ).loc main_arg1)) (m ((c : Thread nD τ).loc main_arg2)) = totalProd m c := by
  funext i
  obtain ⟨r, j, rfl⟩ : ∃ (r : Fin 32768) (j : Fin 1024), i = ix2 r j := ⟨_, _, eq_ix2 (n0 := 32768) (n1 := 1024) i⟩
  exact Cert.Reference10Ideal.Dense.prod_entry _ _ _ _ _ j r (by show r.val = r.val / 4096 * 4096 + r.val % 4096; omega)
theorem reference_first (c : Dev nD) : Cert.Reference10Ideal.Dense.first (m ((c : Thread nD τ).loc main_arg0)) (m ((c : Thread nD τ).loc main_arg1)) (m ((c : Thread nD τ).loc main_arg2)) = totalFirst m c := by
  funext i
  obtain ⟨r, j, rfl⟩ : ∃ (r : Fin 32768) (j : Fin 1024), i = ix2 r j := ⟨_, _, eq_ix2 (n0 := 32768) (n1 := 1024) i⟩
  exact Cert.Reference10Ideal.Dense.first_entry _ _ _ _ _ j r (by show r.val = r.val / 4096 * 4096 + r.val % 4096; omega)

end Cert.Kernel10Ideal.Dense
end
-- ==== Proof.Dense.Claims.lean ====
module

public import proofs.«01_k».proof.Defs
public import proofs.«01_k».proof.Proof.Dense.Qkv
public import proofs.«01_k».proof.Proof.Dense.Gmlp
public import proofs.«01_k».proof.Proof.Dense.Gate
public import proofs.«01_k».proof.Proof.Dense.Residual
public import proofs.«01_k».proof.Proof.Dense.Last
public import proofs.«01_k».proof.Proof.Dense.Square
public import proofs.«01_k».proof.Proof.Dense.Ada
public import proofs.«01_k».proof.Proof.Dense.Combine
public import proofs.«01_k».proof.Proof.Dense.Short
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run

@[expose] public section

noncomputable section

namespace Cert.Proof

open Idealize.ShloMosaic Idealize.SL.Sem

/-- The reference of the pre-norm, its modulation and the matrix product runs, leaves its arguments as they were, and ends with every counter at zero. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩) (Cert.Reference2Ideal.Value.run (F := Ideal) m ρ)

/-- From the same arguments, the call and the reference of the pre-norm, its modulation and the matrix product end with the same result. -/
theorem algebraic2 : Cert.algebraic_Kernel2Ideal_Reference2Ideal (hKernel2Ideal := Cert.Kernel2Ideal.Gen.facts) (hReference2Ideal := Cert.Reference2Ideal.Gen.facts) := fun m g m' g' _ hm => by
  refine ⟨fun c => Cert.Kernel2Ideal.Dense.total m c, ?_, ?_⟩
  · exact (θ_run Cert.Kernel2Ideal.defs _ _).mono (fun _ h c => ⟨(h c).1.trans (Cert.Kernel2Ideal.Dense.final m c), (h c).2⟩) (Cert.Kernel2Ideal.Value.run_blocks (F := Ideal) m g)
  · refine (θ_run Cert.Reference2Ideal.defs _ _).mono (fun _ h c => ⟨(h c).1.trans ?_, (h c).2⟩) (Cert.Reference2Ideal.Value.run (F := Ideal) m' g')
    obtain ⟨h0, h1, h2, h3, h4⟩ := hm c
    exact Cert.Kernel2Ideal.Dense.reference_eq m m' c h0 h1 h2 h3 h4

/-- The reference of the pre-norm, its modulation, the matrix product, the unit and the layer norm runs, leaves its arguments as they were, and ends with every counter at zero. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run (F := Ideal) m ρ)

/-- From the same arguments, the call and the reference of the pre-norm, its modulation, the matrix product, the unit and the layer norm end with the same result. -/
theorem algebraic3 : Cert.algebraic_Kernel3Ideal_Reference3Ideal (hKernel3Ideal := Cert.Kernel3Ideal.Gen.facts) (hReference3Ideal := Cert.Reference3Ideal.Gen.facts) := fun m g m' g' _ hm => by
  refine ⟨fun c => Cert.Kernel3Ideal.Dense.total m c, ?_, ?_⟩
  · exact (θ_run Cert.Kernel3Ideal.defs _ _).mono (fun _ h c => ⟨(h c).1.trans (Cert.Kernel3Ideal.Dense.final m c), (h c).2⟩) (Cert.Kernel3Ideal.Value.run_blocks (F := Ideal) m g)
  · refine (θ_run Cert.Reference3Ideal.defs _ _).mono (fun _ h c => ⟨(h c).1.trans ?_, (h c).2⟩) (Cert.Reference3Ideal.Value.run (F := Ideal) m' g')
    obtain ⟨h0, h1, h2, h3, h4, h5, h6⟩ := hm c
    exact Cert.Kernel3Ideal.Dense.reference_eq m m' c h0 h1 h2 h3 h4 h5 h6

/-- The reference of the mixing along the sequence and the gate runs, leaves its arguments as they were, and ends with every counter at zero. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run (F := Ideal) m ρ)

/-- From the same arguments, the call and the reference of the mixing along the sequence and the gate end with the same result. -/
theorem algebraic4 : Cert.algebraic_Kernel4Ideal_Reference4Ideal (hKernel4Ideal := Cert.Kernel4Ideal.Gen.facts) (hReference4Ideal := Cert.Reference4Ideal.Gen.facts) := fun m g m' g' _ hm => by
  refine ⟨fun c => Cert.Kernel4Ideal.Dense.total m c, ?_, ?_⟩
  · exact (θ_run Cert.Kernel4Ideal.defs _ _).mono (fun _ h c => ⟨(h c).1.trans (Cert.Kernel4Ideal.Dense.final m c), (h c).2⟩) (Cert.Kernel4Ideal.Value.run_blocks (F := Ideal) m g)
  · refine (θ_run Cert.Reference4Ideal.defs _ _).mono (fun _ h c => ⟨(h c).1.trans ?_, (h c).2⟩) (Cert.Reference4Ideal.Value.run (F := Ideal) m' g')
    obtain ⟨h0, h1, h2⟩ := hm c
    rw [h0, h1, h2]
    exact Cert.Kernel4Ideal.Dense.reference_eq m c

/-- The reference of the gated residual after the wide projection runs, leaves its arguments as they were, and ends with every counter at zero. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run (F := Ideal) m ρ)

/-- From the same arguments, the call and the reference of the gated residual after the wide projection end with the same result. -/
theorem algebraic5 : Cert.algebraic_Kernel5Ideal_Reference5Ideal (hKernel5Ideal := Cert.Kernel5Ideal.Gen.facts) (hReference5Ideal := Cert.Reference5Ideal.Gen.facts) := fun m g m' g' _ hm => by
  refine ⟨fun c => Cert.Kernel5Ideal.Dense.total m c, ?_, ?_⟩
  · exact (θ_run Cert.Kernel5Ideal.defs _ _).mono (fun _ h c => ⟨(h c).1.trans (Cert.Kernel5Ideal.Dense.final m c), (h c).2⟩) (Cert.Kernel5Ideal.Value.run_blocks (F := Ideal) m g)
  · refine (θ_run Cert.Reference5Ideal.defs _ _).mono (fun _ h c => ⟨(h c).1.trans ?_, (h c).2⟩) (Cert.Reference5Ideal.Value.run (F := Ideal) m' g')
    obtain ⟨h0, h1, h2, h3, h4⟩ := hm c
    rw [h0, h1, h2, h3, h4]
    exact Cert.Kernel5Ideal.Dense.reference_eq m c

/-- The reference of the last norm runs, leaves its arguments as they were, and ends with every counter at zero. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩) (Cert.Reference6Ideal.Value.run (F := Ideal) m ρ)

/-- From the same arguments, the call and the reference of the last norm end with the same result. -/
theorem algebraic6 : Cert.algebraic_Kernel6Ideal_Reference6Ideal (hKernel6Ideal := Cert.Kernel6Ideal.Gen.facts) (hReference6Ideal := Cert.Reference6Ideal.Gen.facts) := fun m g m' g' _ hm => by
  refine ⟨fun c => Cert.Kernel6Ideal.Dense.total m c, ?_, ?_⟩
  · exact (θ_run Cert.Kernel6Ideal.defs _ _).mono (fun _ h c => ⟨(h c).1.trans (Cert.Kernel6Ideal.Dense.final m c), (h c).2⟩) (Cert.Kernel6Ideal.Value.run_blocks (F := Ideal) m g)
  · refine (θ_run Cert.Reference6Ideal.defs _ _).mono (fun _ h c => ⟨(h c).1.trans ?_, (h c).2⟩) (Cert.Reference6Ideal.Value.run (F := Ideal) m' g')
    obtain ⟨h0, h1⟩ := hm c
    exact Cert.Reference6Ideal.Dense.term_eq m c _ _ h0 h1

/-- The reference of the gated residual after the square projection runs, leaves its arguments as they were, and ends with every counter at zero. -/
theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩) (Cert.Reference7Ideal.Value.run (F := Ideal) m ρ)

/-- From the same arguments, the call and the reference of the gated residual after the square projection end with the same result. -/
theorem algebraic7 : Cert.algebraic_Kernel7Ideal_Reference7Ideal (hKernel7Ideal := Cert.Kernel7Ideal.Gen.facts) (hReference7Ideal := Cert.Reference7Ideal.Gen.facts) := fun m g m' g' _ hm => by
  refine ⟨fun c => Cert.Kernel7Ideal.Dense.total m c, ?_, ?_⟩
  · exact (θ_run Cert.Kernel7Ideal.defs _ _).mono (fun _ h c => ⟨(h c).1.trans (Cert.Kernel7Ideal.Dense.final m c), (h c).2⟩) (Cert.Kernel7Ideal.Value.run_blocks (F := Ideal) m g)
  · refine (θ_run Cert.Reference7Ideal.defs _ _).mono (fun _ h c => ⟨(h c).1.trans ?_, (h c).2⟩) (Cert.Reference7Ideal.Value.run (F := Ideal) m' g')
    obtain ⟨h0, h1, h2, h3, h4⟩ := hm c
    rw [h0, h1, h2, h3, h4]
    exact Cert.Kernel7Ideal.Dense.reference_eq m c

/-- The reference of the layers' modulation values runs, leaves its arguments as they were, and ends with every counter at zero. -/
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩) (Cert.Reference8Ideal.Value.run (F := Ideal) m ρ)

/-- From the same arguments, the call and the reference of the layers' modulation values end with the same result. -/
theorem algebraic8 : Cert.algebraic_Kernel8Ideal_Reference8Ideal (hKernel8Ideal := Cert.Kernel8Ideal.Gen.facts) (hReference8Ideal := Cert.Reference8Ideal.Gen.facts) := fun m g m' g' _ hm => by
  refine ⟨fun c => Cert.Kernel8Ideal.Dense.total m c, ?_, ?_⟩
  · exact (θ_run Cert.Kernel8Ideal.defs _ _).mono (fun _ h c => ⟨(h c).1.trans (Cert.Kernel8Ideal.Dense.final m c), (h c).2⟩) (Cert.Kernel8Ideal.Value.run_blocks (F := Ideal) m g)
  · refine (θ_run Cert.Reference8Ideal.defs _ _).mono (fun _ h c => ⟨(h c).1.trans ?_, (h c).2⟩) (Cert.Reference8Ideal.Value.run (F := Ideal) m' g')
    obtain ⟨h0, h1, h2, h3⟩ := hm c
    rw [h0, h1, h2, h3]
    exact Cert.Kernel8Ideal.Dense.reference_eq m c

/-- The reference of the weighted sum over the slots and its gated residual runs, leaves its arguments as they were, and ends with every counter at zero. -/
theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩) (Cert.Reference9Ideal.Value.run (F := Ideal) m ρ)

/-- From the same arguments, the call and the reference of the weighted sum over the slots and its gated residual end with the same result. -/
theorem algebraic9 : Cert.algebraic_Kernel9Ideal_Reference9Ideal (hKernel9Ideal := Cert.Kernel9Ideal.Gen.facts) (hReference9Ideal := Cert.Reference9Ideal.Gen.facts) := fun m g m' g' _ hm => by
  refine ⟨fun c => Cert.Kernel9Ideal.Dense.total m c, ?_, ?_⟩
  · exact (θ_run Cert.Kernel9Ideal.defs _ _).mono (fun _ h c => ⟨(h c).1.trans (Cert.Kernel9Ideal.Dense.final m c), (h c).2⟩) (Cert.Kernel9Ideal.Value.run_blocks (F := Ideal) m g)
  · refine (θ_run Cert.Reference9Ideal.defs _ _).mono (fun _ h c => ⟨(h c).1.trans ?_, (h c).2⟩) (Cert.Reference9Ideal.Value.run (F := Ideal) m' g')
    obtain ⟨h0, h1, h2, h3⟩ := hm c
    rw [h0, h1, h2, h3]
    exact Cert.Kernel9Ideal.Dense.reference_eq m c

/-- The reference of the short convolution and its gate runs, leaves its arguments as they were, and ends with every counter at zero. -/
theorem frame_reference10 : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩) (Cert.Reference10Ideal.Value.run (F := Ideal) m ρ)

/-- From the same arguments, the call and the reference of the short convolution and its gate end with the same two results. -/
theorem algebraic10 : Cert.algebraic_Kernel10Ideal_Reference10Ideal (hKernel10Ideal := Cert.Kernel10Ideal.Gen.facts) (hReference10Ideal := Cert.Reference10Ideal.Gen.facts) := fun m g m' g' _ hm => by
  refine ⟨fun c => Cert.Kernel10Ideal.Dense.totalProd m c, fun c => Cert.Kernel10Ideal.Dense.totalFirst m c, ?_, ?_⟩
  · exact (θ_run Cert.Kernel10Ideal.defs _ _).mono (fun _ h c => ⟨(h c).1.trans (Cert.Kernel10Ideal.Dense.final_prod m c), (h c).2.1.trans (Cert.Kernel10Ideal.Dense.final_first m c), (h c).2.2⟩) (Cert.Kernel10Ideal.Value.run_blocks (F := Ideal) m g)
  · refine (θ_run Cert.Reference10Ideal.defs _ _).mono (fun _ h c => ⟨(h c).1.trans ?_, (h c).2.1.trans ?_, (h c).2.2⟩) (Cert.Reference10Ideal.Value.run (F := Ideal) m' g')
    · obtain ⟨h0, h1, h2⟩ := hm c
      show Cert.Reference10Ideal.Dense.prod _ _ _ = _
      rw [h0, h1, h2]
      exact Cert.Kernel10Ideal.Dense.reference_prod m c
    · obtain ⟨h0, h1, h2⟩ := hm c
      show Cert.Reference10Ideal.Dense.first _ _ _ = _
      rw [h0, h1, h2]
      exact Cert.Kernel10Ideal.Dense.reference_first m c

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Exp.Frames
public import proofs.«01_k».proof.Proof.Exp.Same
public import proofs.«01_k».proof.Proof.Dense.Claims
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import Idealize.ShloMosaic.Adequacy
public import Idealize.ShloMosaic.Init

@[expose] public section

noncomputable section

namespace Cert.Proof

open Idealize.ShloMosaic Idealize.SL.Sem Cert.Kernel

/-- The idealized kernel runs, leaves its arguments as they were, and ends with every counter at zero. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Exp.run_read (F := Ideal) m ρ)

/-- The reference runs, leaves its arguments as they were, and ends with every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments both end with the same result. -/
theorem algebraic : Cert.algebraic_KernelIdeal_ReferenceIdeal (hKernelIdeal := Cert.KernelIdeal.Gen.facts) (hReferenceIdeal := Cert.ReferenceIdeal.Gen.facts) := fun m g m' g' _ hm => by
  refine ⟨fun c => Cert.KernelIdeal.Exp.total m c, ?_, ?_⟩
  · exact (θ_run Cert.KernelIdeal.defs _ _).mono (fun _ h c => ⟨(h.1 c).1.trans (Cert.KernelIdeal.Exp.final m c), (h.1 c).2⟩)
      (Cert.KernelIdeal.Exp.run_read (F := Ideal) m g)
  · refine (θ_run Cert.ReferenceIdeal.defs _ _).mono (fun _ h c => ⟨(h c).1.trans ?_, (h c).2⟩) (Cert.ReferenceIdeal.Value.run (F := Ideal) m' g')
    obtain ⟨h0, h1, h2, h3, h4, h5⟩ := hm c
    rw [Cert.ReferenceIdeal.Exp.res_eq]
    rw [h0, h1, h2, h3, h4, h5]
    exact Cert.Exp.result_eq_total m c

/-- The certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  frame_kernel, frame_ideal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  trivial, algebraic, trivial, algebraic2, trivial, algebraic3, trivial, algebraic4, trivial, algebraic5, trivial, algebraic6, trivial, algebraic7, trivial, algebraic8, trivial, algebraic9, trivial, algebraic10⟩

end Cert.Proof

end
